-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite_qk [hPre_finite_qk : Cert.Pre_finite_qk.Facts] (m : (ℓ : Loc Cert.LastIdeal.nD Cert.LastIdeal.τ Cert.LastIdeal.sig) → Buf (Elt Ideal) ℓ) : Prop :=
  ∀ c : Dev Cert.LastIdeal.nD,
    (Cert.Pre_finite_qk.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2))) = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_finite_qk [hPre_finite_qk : Cert.Pre_finite_qk.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_finite_qk.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2))) = (fun _ => 1#1)

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInReferenceIdeal (m : (ℓ : Loc Cert.LruInReferenceIdeal.nD Cert.LruInReferenceIdeal.τ Cert.LruInReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_OutLast (m : (ℓ : Loc Cert.OutLast.nD Cert.OutLast.τ Cert.OutLast.sig) → Buf (Elt Bits) ℓ) : Prop :=
  True

def Pre_OutLastIdeal (m : (ℓ : Loc Cert.OutLastIdeal.nD Cert.OutLastIdeal.τ Cert.OutLastIdeal.sig) → Buf (Elt Ideal) ℓ) : Prop :=
  True

def Pre_OutLastReferenceIdeal (m : (ℓ : Loc Cert.OutLastReferenceIdeal.nD Cert.OutLastReferenceIdeal.τ Cert.OutLastReferenceIdeal.sig) → Buf (Elt Ideal) ℓ) : Prop :=
  True

def Pre_LruBwd (m : (ℓ : Loc Cert.LruBwd.nD Cert.LruBwd.τ Cert.LruBwd.sig) → Buf (Elt Bits) ℓ) : Prop :=
  True

def Pre_LruBwdIdeal (m : (ℓ : Loc Cert.LruBwdIdeal.nD Cert.LruBwdIdeal.τ Cert.LruBwdIdeal.sig) → Buf (Elt Ideal) ℓ) : Prop :=
  True

def Pre_LruBwdReferenceIdeal (m : (ℓ : Loc Cert.LruBwdReferenceIdeal.nD Cert.LruBwdReferenceIdeal.τ Cert.LruBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastIdeal_pre_finite_qk [hLastIdeal : Cert.LastIdeal.Facts] [hPre_finite_qk : Cert.Pre_finite_qk.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite_qk m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def quiescent_LastReferenceIdeal_pre_finite_qk [hLastReferenceIdeal : Cert.LastReferenceIdeal.Facts] [hPre_finite_qk : Cert.Pre_finite_qk.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_finite_qk m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1)
      ∧ r.2.mem ((c.tc : Thread Cert.LruIn.nD Cert.LruIn.τ).loc Cert.LruIn.main_arg2) = m ((c.tc : Thread Cert.LruIn.nD Cert.LruIn.τ).loc Cert.LruIn.main_arg2)
      ∧ r.2.mem ((c.tc : Thread Cert.LruIn.nD Cert.LruIn.τ).loc Cert.LruIn.main_arg3) = m ((c.tc : Thread Cert.LruIn.nD Cert.LruIn.τ).loc Cert.LruIn.main_arg3))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
      ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2)
      ∧ r.2.mem ((c.tc : Thread Cert.LruInIdeal.nD Cert.LruInIdeal.τ).loc Cert.LruInIdeal.main_arg3) = m ((c.tc : Thread Cert.LruInIdeal.nD Cert.LruInIdeal.τ).loc Cert.LruInIdeal.main_arg3))
      ∧ r.2.sem = fun _ => 0)

def quiescent_LruInReferenceIdeal [hLruInReferenceIdeal : Cert.LruInReferenceIdeal.Facts] : Prop :=
  ∀ (m : (ℓ : Loc Cert.LruInReferenceIdeal.nD Cert.LruInReferenceIdeal.τ Cert.LruInReferenceIdeal.sig) → Buf (Elt Ideal) ℓ) (g : Dev Cert.LruInReferenceIdeal.nD → PrngReg), Pre_LruInReferenceIdeal m →
    θ_run (Cert.LruInReferenceIdeal.defs (F := Ideal)) (onTc (τ := Cert.LruInReferenceIdeal.τ) (Cert.LruInReferenceIdeal.main (F := Ideal))) ⟨m, fun _ => 0, g⟩ (fun r => (∀ c : Dev Cert.LruInReferenceIdeal.nD,
      r.2.mem ((c.tc : Thread Cert.LruInReferenceIdeal.nD Cert.LruInReferenceIdeal.τ).loc Cert.LruInReferenceIdeal.main_arg0) = m ((c.tc : Thread Cert.LruInReferenceIdeal.nD Cert.LruInReferenceIdeal.τ).loc Cert.LruInReferenceIdeal.main_arg0)
      ∧ r.2.mem ((c.tc : Thread Cert.LruInReferenceIdeal.nD Cert.LruInReferenceIdeal.τ).loc Cert.LruInReferenceIdeal.main_arg1) = m ((c.tc : Thread Cert.LruInReferenceIdeal.nD Cert.LruInReferenceIdeal.τ).loc Cert.LruInReferenceIdeal.main_arg1)
      ∧ r.2.mem ((c.tc : Thread Cert.LruInReferenceIdeal.nD Cert.LruInReferenceIdeal.τ).loc Cert.LruInReferenceIdeal.main_arg2) = m ((c.tc : Thread Cert.LruInReferenceIdeal.nD Cert.LruInReferenceIdeal.τ).loc Cert.LruInReferenceIdeal.main_arg2)
      ∧ r.2.mem ((c.tc : Thread Cert.LruInReferenceIdeal.nD Cert.LruInReferenceIdeal.τ).loc Cert.LruInReferenceIdeal.main_arg3) = m ((c.tc : Thread Cert.LruInReferenceIdeal.nD Cert.LruInReferenceIdeal.τ).loc Cert.LruInReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3)
      ∧ r.2.mem ((c.tc : Thread Cert.AttnOutReferenceIdeal.nD Cert.AttnOutReferenceIdeal.τ).loc Cert.AttnOutReferenceIdeal.main_arg4) = m ((c.tc : Thread Cert.AttnOutReferenceIdeal.nD Cert.AttnOutReferenceIdeal.τ).loc Cert.AttnOutReferenceIdeal.main_arg4)
      ∧ r.2.mem ((c.tc : Thread Cert.AttnOutReferenceIdeal.nD Cert.AttnOutReferenceIdeal.τ).loc Cert.AttnOutReferenceIdeal.main_arg5) = m ((c.tc : Thread Cert.AttnOutReferenceIdeal.nD Cert.AttnOutReferenceIdeal.τ).loc Cert.AttnOutReferenceIdeal.main_arg5))
      ∧ r.2.sem = fun _ => 0)

def quiescent_OutLast [hOutLast : Cert.OutLast.Facts] : Prop :=
  ∀ (m : (ℓ : Loc Cert.OutLast.nD Cert.OutLast.τ Cert.OutLast.sig) → Buf (Elt Bits) ℓ) (g : Dev Cert.OutLast.nD → PrngReg), Pre_OutLast m →
    θ_run (Cert.OutLast.defs (F := Bits)) (onTc (τ := Cert.OutLast.τ) (Cert.OutLast.main (F := Bits))) ⟨m, fun _ => 0, g⟩ (fun r => (∀ c : Dev Cert.OutLast.nD,
      r.2.mem ((c.tc : Thread Cert.OutLast.nD Cert.OutLast.τ).loc Cert.OutLast.main_arg0) = m ((c.tc : Thread Cert.OutLast.nD Cert.OutLast.τ).loc Cert.OutLast.main_arg0)
      ∧ r.2.mem ((c.tc : Thread Cert.OutLast.nD Cert.OutLast.τ).loc Cert.OutLast.main_arg1) = m ((c.tc : Thread Cert.OutLast.nD Cert.OutLast.τ).loc Cert.OutLast.main_arg1)
      ∧ r.2.mem ((c.tc : Thread Cert.OutLast.nD Cert.OutLast.τ).loc Cert.OutLast.main_arg2) = m ((c.tc : Thread Cert.OutLast.nD Cert.OutLast.τ).loc Cert.OutLast.main_arg2)
      ∧ r.2.mem ((c.tc : Thread Cert.OutLast.nD Cert.OutLast.τ).loc Cert.OutLast.main_arg3) = m ((c.tc : Thread Cert.OutLast.nD Cert.OutLast.τ).loc Cert.OutLast.main_arg3)
      ∧ r.2.mem ((c.tc : Thread Cert.OutLast.nD Cert.OutLast.τ).loc Cert.OutLast.main_arg4) = m ((c.tc : Thread Cert.OutLast.nD Cert.OutLast.τ).loc Cert.OutLast.main_arg4)
      ∧ r.2.mem ((c.tc : Thread Cert.OutLast.nD Cert.OutLast.τ).loc Cert.OutLast.main_arg5) = m ((c.tc : Thread Cert.OutLast.nD Cert.OutLast.τ).loc Cert.OutLast.main_arg5))
      ∧ r.2.sem = fun _ => 0)

def quiescent_OutLastIdeal [hOutLastIdeal : Cert.OutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg), Pre_OutLastIdeal m →
    θ_run (Cert.OutLastIdeal.defs (F := Ideal)) (onTc (τ := Cert.OutLastIdeal.τ) (Cert.OutLastIdeal.main (F := Ideal))) ⟨m, fun _ => 0, g⟩ (fun r => (∀ c : Dev Cert.OutLastIdeal.nD,
      r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
      ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
      ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
      ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
      ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4)
      ∧ r.2.mem ((c.tc : Thread Cert.OutLastIdeal.nD Cert.OutLastIdeal.τ).loc Cert.OutLastIdeal.main_arg5) = m ((c.tc : Thread Cert.OutLastIdeal.nD Cert.OutLastIdeal.τ).loc Cert.OutLastIdeal.main_arg5))
      ∧ r.2.sem = fun _ => 0)

def quiescent_OutLastReferenceIdeal [hOutLastReferenceIdeal : Cert.OutLastReferenceIdeal.Facts] : Prop :=
  ∀ (m : (ℓ : Loc Cert.OutLastReferenceIdeal.nD Cert.OutLastReferenceIdeal.τ Cert.OutLastReferenceIdeal.sig) → Buf (Elt Ideal) ℓ) (g : Dev Cert.OutLastReferenceIdeal.nD → PrngReg), Pre_OutLastReferenceIdeal m →
    θ_run (Cert.OutLastReferenceIdeal.defs (F := Ideal)) (onTc (τ := Cert.OutLastReferenceIdeal.τ) (Cert.OutLastReferenceIdeal.main (F := Ideal))) ⟨m, fun _ => 0, g⟩ (fun r => (∀ c : Dev Cert.OutLastReferenceIdeal.nD,
      r.2.mem ((c.tc : Thread Cert.OutLastReferenceIdeal.nD Cert.OutLastReferenceIdeal.τ).loc Cert.OutLastReferenceIdeal.main_arg0) = m ((c.tc : Thread Cert.OutLastReferenceIdeal.nD Cert.OutLastReferenceIdeal.τ).loc Cert.OutLastReferenceIdeal.main_arg0)
      ∧ r.2.mem ((c.tc : Thread Cert.OutLastReferenceIdeal.nD Cert.OutLastReferenceIdeal.τ).loc Cert.OutLastReferenceIdeal.main_arg1) = m ((c.tc : Thread Cert.OutLastReferenceIdeal.nD Cert.OutLastReferenceIdeal.τ).loc Cert.OutLastReferenceIdeal.main_arg1)
      ∧ r.2.mem ((c.tc : Thread Cert.OutLastReferenceIdeal.nD Cert.OutLastReferenceIdeal.τ).loc Cert.OutLastReferenceIdeal.main_arg2) = m ((c.tc : Thread Cert.OutLastReferenceIdeal.nD Cert.OutLastReferenceIdeal.τ).loc Cert.OutLastReferenceIdeal.main_arg2)
      ∧ r.2.mem ((c.tc : Thread Cert.OutLastReferenceIdeal.nD Cert.OutLastReferenceIdeal.τ).loc Cert.OutLastReferenceIdeal.main_arg3) = m ((c.tc : Thread Cert.OutLastReferenceIdeal.nD Cert.OutLastReferenceIdeal.τ).loc Cert.OutLastReferenceIdeal.main_arg3)
      ∧ r.2.mem ((c.tc : Thread Cert.OutLastReferenceIdeal.nD Cert.OutLastReferenceIdeal.τ).loc Cert.OutLastReferenceIdeal.main_arg4) = m ((c.tc : Thread Cert.OutLastReferenceIdeal.nD Cert.OutLastReferenceIdeal.τ).loc Cert.OutLastReferenceIdeal.main_arg4)
      ∧ r.2.mem ((c.tc : Thread Cert.OutLastReferenceIdeal.nD Cert.OutLastReferenceIdeal.τ).loc Cert.OutLastReferenceIdeal.main_arg5) = m ((c.tc : Thread Cert.OutLastReferenceIdeal.nD Cert.OutLastReferenceIdeal.τ).loc Cert.OutLastReferenceIdeal.main_arg5))
      ∧ r.2.sem = fun _ => 0)

def quiescent_LruBwd [hLruBwd : Cert.LruBwd.Facts] : Prop :=
  ∀ (m : (ℓ : Loc Cert.LruBwd.nD Cert.LruBwd.τ Cert.LruBwd.sig) → Buf (Elt Bits) ℓ) (g : Dev Cert.LruBwd.nD → PrngReg), Pre_LruBwd m →
    θ_run (Cert.LruBwd.defs (F := Bits)) (onTc (τ := Cert.LruBwd.τ) (Cert.LruBwd.main (F := Bits))) ⟨m, fun _ => 0, g⟩ (fun r => (∀ c : Dev Cert.LruBwd.nD,
      r.2.mem ((c.tc : Thread Cert.LruBwd.nD Cert.LruBwd.τ).loc Cert.LruBwd.main_arg0) = m ((c.tc : Thread Cert.LruBwd.nD Cert.LruBwd.τ).loc Cert.LruBwd.main_arg0)
      ∧ r.2.mem ((c.tc : Thread Cert.LruBwd.nD Cert.LruBwd.τ).loc Cert.LruBwd.main_arg1) = m ((c.tc : Thread Cert.LruBwd.nD Cert.LruBwd.τ).loc Cert.LruBwd.main_arg1)
      ∧ r.2.mem ((c.tc : Thread Cert.LruBwd.nD Cert.LruBwd.τ).loc Cert.LruBwd.main_arg2) = m ((c.tc : Thread Cert.LruBwd.nD Cert.LruBwd.τ).loc Cert.LruBwd.main_arg2)
      ∧ r.2.mem ((c.tc : Thread Cert.LruBwd.nD Cert.LruBwd.τ).loc Cert.LruBwd.main_arg3) = m ((c.tc : Thread Cert.LruBwd.nD Cert.LruBwd.τ).loc Cert.LruBwd.main_arg3)
      ∧ r.2.mem ((c.tc : Thread Cert.LruBwd.nD Cert.LruBwd.τ).loc Cert.LruBwd.main_arg4) = m ((c.tc : Thread Cert.LruBwd.nD Cert.LruBwd.τ).loc Cert.LruBwd.main_arg4)
      ∧ r.2.mem ((c.tc : Thread Cert.LruBwd.nD Cert.LruBwd.τ).loc Cert.LruBwd.main_arg5) = m ((c.tc : Thread Cert.LruBwd.nD Cert.LruBwd.τ).loc Cert.LruBwd.main_arg5)
      ∧ r.2.mem ((c.tc : Thread Cert.LruBwd.nD Cert.LruBwd.τ).loc Cert.LruBwd.main_arg6) = m ((c.tc : Thread Cert.LruBwd.nD Cert.LruBwd.τ).loc Cert.LruBwd.main_arg6)
      ∧ r.2.mem ((c.tc : Thread Cert.LruBwd.nD Cert.LruBwd.τ).loc Cert.LruBwd.main_arg7) = m ((c.tc : Thread Cert.LruBwd.nD Cert.LruBwd.τ).loc Cert.LruBwd.main_arg7)
      ∧ r.2.mem ((c.tc : Thread Cert.LruBwd.nD Cert.LruBwd.τ).loc Cert.LruBwd.main_arg8) = m ((c.tc : Thread Cert.LruBwd.nD Cert.LruBwd.τ).loc Cert.LruBwd.main_arg8)
      ∧ r.2.mem ((c.tc : Thread Cert.LruBwd.nD Cert.LruBwd.τ).loc Cert.LruBwd.main_arg9) = m ((c.tc : Thread Cert.LruBwd.nD Cert.LruBwd.τ).loc Cert.LruBwd.main_arg9)
      ∧ r.2.mem ((c.tc : Thread Cert.LruBwd.nD Cert.LruBwd.τ).loc Cert.LruBwd.main_arg10) = m ((c.tc : Thread Cert.LruBwd.nD Cert.LruBwd.τ).loc Cert.LruBwd.main_arg10))
      ∧ r.2.sem = fun _ => 0)

def quiescent_LruBwdIdeal [hLruBwdIdeal : Cert.LruBwdIdeal.Facts] : Prop :=
  ∀ (m : (ℓ : Loc Cert.LruBwdIdeal.nD Cert.LruBwdIdeal.τ Cert.LruBwdIdeal.sig) → Buf (Elt Ideal) ℓ) (g : Dev Cert.LruBwdIdeal.nD → PrngReg), Pre_LruBwdIdeal m →
    θ_run (Cert.LruBwdIdeal.defs (F := Ideal)) (onTc (τ := Cert.LruBwdIdeal.τ) (Cert.LruBwdIdeal.main (F := Ideal))) ⟨m, fun _ => 0, g⟩ (fun r => (∀ c : Dev Cert.LruBwdIdeal.nD,
      r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
      ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
      ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
      ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
      ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
      ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
      ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
      ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
      ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8)
      ∧ r.2.mem ((c.tc : Thread Cert.LruBwdIdeal.nD Cert.LruBwdIdeal.τ).loc Cert.LruBwdIdeal.main_arg9) = m ((c.tc : Thread Cert.LruBwdIdeal.nD Cert.LruBwdIdeal.τ).loc Cert.LruBwdIdeal.main_arg9)
      ∧ r.2.mem ((c.tc : Thread Cert.LruBwdIdeal.nD Cert.LruBwdIdeal.τ).loc Cert.LruBwdIdeal.main_arg10) = m ((c.tc : Thread Cert.LruBwdIdeal.nD Cert.LruBwdIdeal.τ).loc Cert.LruBwdIdeal.main_arg10))
      ∧ r.2.sem = fun _ => 0)

def quiescent_LruBwdReferenceIdeal [hLruBwdReferenceIdeal : Cert.LruBwdReferenceIdeal.Facts] : Prop :=
  ∀ (m : (ℓ : Loc Cert.LruBwdReferenceIdeal.nD Cert.LruBwdReferenceIdeal.τ Cert.LruBwdReferenceIdeal.sig) → Buf (Elt Ideal) ℓ) (g : Dev Cert.LruBwdReferenceIdeal.nD → PrngReg), Pre_LruBwdReferenceIdeal m →
    θ_run (Cert.LruBwdReferenceIdeal.defs (F := Ideal)) (onTc (τ := Cert.LruBwdReferenceIdeal.τ) (Cert.LruBwdReferenceIdeal.main (F := Ideal))) ⟨m, fun _ => 0, g⟩ (fun r => (∀ c : Dev Cert.LruBwdReferenceIdeal.nD,
      r.2.mem ((c.tc : Thread Cert.LruBwdReferenceIdeal.nD Cert.LruBwdReferenceIdeal.τ).loc Cert.LruBwdReferenceIdeal.main_arg0) = m ((c.tc : Thread Cert.LruBwdReferenceIdeal.nD Cert.LruBwdReferenceIdeal.τ).loc Cert.LruBwdReferenceIdeal.main_arg0)
      ∧ r.2.mem ((c.tc : Thread Cert.LruBwdReferenceIdeal.nD Cert.LruBwdReferenceIdeal.τ).loc Cert.LruBwdReferenceIdeal.main_arg1) = m ((c.tc : Thread Cert.LruBwdReferenceIdeal.nD Cert.LruBwdReferenceIdeal.τ).loc Cert.LruBwdReferenceIdeal.main_arg1)
      ∧ r.2.mem ((c.tc : Thread Cert.LruBwdReferenceIdeal.nD Cert.LruBwdReferenceIdeal.τ).loc Cert.LruBwdReferenceIdeal.main_arg2) = m ((c.tc : Thread Cert.LruBwdReferenceIdeal.nD Cert.LruBwdReferenceIdeal.τ).loc Cert.LruBwdReferenceIdeal.main_arg2)
      ∧ r.2.mem ((c.tc : Thread Cert.LruBwdReferenceIdeal.nD Cert.LruBwdReferenceIdeal.τ).loc Cert.LruBwdReferenceIdeal.main_arg3) = m ((c.tc : Thread Cert.LruBwdReferenceIdeal.nD Cert.LruBwdReferenceIdeal.τ).loc Cert.LruBwdReferenceIdeal.main_arg3)
      ∧ r.2.mem ((c.tc : Thread Cert.LruBwdReferenceIdeal.nD Cert.LruBwdReferenceIdeal.τ).loc Cert.LruBwdReferenceIdeal.main_arg4) = m ((c.tc : Thread Cert.LruBwdReferenceIdeal.nD Cert.LruBwdReferenceIdeal.τ).loc Cert.LruBwdReferenceIdeal.main_arg4)
      ∧ r.2.mem ((c.tc : Thread Cert.LruBwdReferenceIdeal.nD Cert.LruBwdReferenceIdeal.τ).loc Cert.LruBwdReferenceIdeal.main_arg5) = m ((c.tc : Thread Cert.LruBwdReferenceIdeal.nD Cert.LruBwdReferenceIdeal.τ).loc Cert.LruBwdReferenceIdeal.main_arg5)
      ∧ r.2.mem ((c.tc : Thread Cert.LruBwdReferenceIdeal.nD Cert.LruBwdReferenceIdeal.τ).loc Cert.LruBwdReferenceIdeal.main_arg6) = m ((c.tc : Thread Cert.LruBwdReferenceIdeal.nD Cert.LruBwdReferenceIdeal.τ).loc Cert.LruBwdReferenceIdeal.main_arg6)
      ∧ r.2.mem ((c.tc : Thread Cert.LruBwdReferenceIdeal.nD Cert.LruBwdReferenceIdeal.τ).loc Cert.LruBwdReferenceIdeal.main_arg7) = m ((c.tc : Thread Cert.LruBwdReferenceIdeal.nD Cert.LruBwdReferenceIdeal.τ).loc Cert.LruBwdReferenceIdeal.main_arg7)
      ∧ r.2.mem ((c.tc : Thread Cert.LruBwdReferenceIdeal.nD Cert.LruBwdReferenceIdeal.τ).loc Cert.LruBwdReferenceIdeal.main_arg8) = m ((c.tc : Thread Cert.LruBwdReferenceIdeal.nD Cert.LruBwdReferenceIdeal.τ).loc Cert.LruBwdReferenceIdeal.main_arg8)
      ∧ r.2.mem ((c.tc : Thread Cert.LruBwdReferenceIdeal.nD Cert.LruBwdReferenceIdeal.τ).loc Cert.LruBwdReferenceIdeal.main_arg9) = m ((c.tc : Thread Cert.LruBwdReferenceIdeal.nD Cert.LruBwdReferenceIdeal.τ).loc Cert.LruBwdReferenceIdeal.main_arg9)
      ∧ r.2.mem ((c.tc : Thread Cert.LruBwdReferenceIdeal.nD Cert.LruBwdReferenceIdeal.τ).loc Cert.LruBwdReferenceIdeal.main_arg10) = m ((c.tc : Thread Cert.LruBwdReferenceIdeal.nD Cert.LruBwdReferenceIdeal.τ).loc Cert.LruBwdReferenceIdeal.main_arg10))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Last_LastIdeal : Prop :=
  True

def algebraic_LastIdeal_LastReferenceIdeal_pre_finite_qk [hLastIdeal : Cert.LastIdeal.Facts] [hLastReferenceIdeal : Cert.LastReferenceIdeal.Facts] [hPre_finite_qk : Cert.Pre_finite_qk.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal_finite_qk m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v23) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2))

def preserves_LruIn_LruInIdeal : Prop :=
  True

def algebraic_LruInIdeal_LruInReferenceIdeal [hLruInIdeal : Cert.LruInIdeal.Facts] [hLruInReferenceIdeal : Cert.LruInReferenceIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInReferenceIdeal.nD Cert.LruInReferenceIdeal.τ Cert.LruInReferenceIdeal.sig) → Buf (Elt Ideal) ℓ) (g' : Dev Cert.LruInReferenceIdeal.nD → PrngReg), Pre_LruInIdeal m →
    (∀ c : Dev Cert.LruInIdeal.nD,
      m' ((c.tc : Thread Cert.LruInReferenceIdeal.nD Cert.LruInReferenceIdeal.τ).loc Cert.LruInReferenceIdeal.main_arg0) = m ((c.tc : Thread Cert.LruInIdeal.nD Cert.LruInIdeal.τ).loc Cert.LruInIdeal.main_arg0)
      ∧ m' ((c.tc : Thread Cert.LruInReferenceIdeal.nD Cert.LruInReferenceIdeal.τ).loc Cert.LruInReferenceIdeal.main_arg1) = m ((c.tc : Thread Cert.LruInIdeal.nD Cert.LruInIdeal.τ).loc Cert.LruInIdeal.main_arg1)
      ∧ m' ((c.tc : Thread Cert.LruInReferenceIdeal.nD Cert.LruInReferenceIdeal.τ).loc Cert.LruInReferenceIdeal.main_arg2) = m ((c.tc : Thread Cert.LruInIdeal.nD Cert.LruInIdeal.τ).loc Cert.LruInIdeal.main_arg2)
      ∧ m' ((c.tc : Thread Cert.LruInReferenceIdeal.nD Cert.LruInReferenceIdeal.τ).loc Cert.LruInReferenceIdeal.main_arg3) = m ((c.tc : Thread Cert.LruInIdeal.nD Cert.LruInIdeal.τ).loc Cert.LruInIdeal.main_arg3)) →
    ∃ (v0 : (c : Dev Cert.LruInIdeal.nD) → Buf (Elt Ideal) ((c.tc : Thread Cert.LruInIdeal.nD Cert.LruInIdeal.τ).loc Cert.LruInIdeal.main_v1_0)) (v1 : (c : Dev Cert.LruInIdeal.nD) → Buf (Elt Ideal) ((c.tc : Thread Cert.LruInIdeal.nD Cert.LruInIdeal.τ).loc Cert.LruInIdeal.main_v1_1)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v1_0) = v0 c
          ∧ r.2.mem ((c.tc : Thread Cert.LruInIdeal.nD Cert.LruInIdeal.τ).loc Cert.LruInIdeal.main_v1_1) = v1 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1)
          ∧ r.2.mem ((c.tc : Thread Cert.LruInIdeal.nD Cert.LruInIdeal.τ).loc Cert.LruInIdeal.main_arg2) = m ((c.tc : Thread Cert.LruInIdeal.nD Cert.LruInIdeal.τ).loc Cert.LruInIdeal.main_arg2)
          ∧ r.2.mem ((c.tc : Thread Cert.LruInIdeal.nD Cert.LruInIdeal.τ).loc Cert.LruInIdeal.main_arg3) = m ((c.tc : Thread Cert.LruInIdeal.nD Cert.LruInIdeal.τ).loc Cert.LruInIdeal.main_arg3))
      ∧ θ_run (Cert.LruInReferenceIdeal.defs (F := Ideal)) (onTc (τ := Cert.LruInReferenceIdeal.τ) (Cert.LruInReferenceIdeal.main (F := Ideal))) ⟨m', fun _ => 0, g'⟩ (fun r => ∀ c : Dev Cert.LruInReferenceIdeal.nD,
          r.2.mem ((c.tc : Thread Cert.LruInReferenceIdeal.nD Cert.LruInReferenceIdeal.τ).loc Cert.LruInReferenceIdeal.main_v38) = v0 c
          ∧ r.2.mem ((c.tc : Thread Cert.LruInReferenceIdeal.nD Cert.LruInReferenceIdeal.τ).loc Cert.LruInReferenceIdeal.main_v31) = v1 c
          ∧ r.2.mem ((c.tc : Thread Cert.LruInReferenceIdeal.nD Cert.LruInReferenceIdeal.τ).loc Cert.LruInReferenceIdeal.main_arg0) = m' ((c.tc : Thread Cert.LruInReferenceIdeal.nD Cert.LruInReferenceIdeal.τ).loc Cert.LruInReferenceIdeal.main_arg0)
          ∧ r.2.mem ((c.tc : Thread Cert.LruInReferenceIdeal.nD Cert.LruInReferenceIdeal.τ).loc Cert.LruInReferenceIdeal.main_arg1) = m' ((c.tc : Thread Cert.LruInReferenceIdeal.nD Cert.LruInReferenceIdeal.τ).loc Cert.LruInReferenceIdeal.main_arg1)
          ∧ r.2.mem ((c.tc : Thread Cert.LruInReferenceIdeal.nD Cert.LruInReferenceIdeal.τ).loc Cert.LruInReferenceIdeal.main_arg2) = m' ((c.tc : Thread Cert.LruInReferenceIdeal.nD Cert.LruInReferenceIdeal.τ).loc Cert.LruInReferenceIdeal.main_arg2)
          ∧ r.2.mem ((c.tc : Thread Cert.LruInReferenceIdeal.nD Cert.LruInReferenceIdeal.τ).loc Cert.LruInReferenceIdeal.main_arg3) = m' ((c.tc : Thread Cert.LruInReferenceIdeal.nD Cert.LruInReferenceIdeal.τ).loc Cert.LruInReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v30_0)) (v1 : (c : Dev Cert.QkvIdeal.nD) → Buf (Elt Ideal) ((c.tc : Thread Cert.QkvIdeal.nD Cert.QkvIdeal.τ).loc Cert.QkvIdeal.main_v30_1)) (v2 : (c : Dev Cert.QkvIdeal.nD) → Buf (Elt Ideal) ((c.tc : Thread Cert.QkvIdeal.nD Cert.QkvIdeal.τ).loc Cert.QkvIdeal.main_v30_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v30_0) = v0 c
          ∧ r.2.mem ((c.tc : Thread Cert.QkvIdeal.nD Cert.QkvIdeal.τ).loc Cert.QkvIdeal.main_v30_1) = v1 c
          ∧ r.2.mem ((c.tc : Thread Cert.QkvIdeal.nD Cert.QkvIdeal.τ).loc Cert.QkvIdeal.main_v30_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v110) = v0 c
          ∧ r.2.mem ((c.tc : Thread Cert.QkvReferenceIdeal.nD Cert.QkvReferenceIdeal.τ).loc Cert.QkvReferenceIdeal.main_v112) = v1 c
          ∧ r.2.mem ((c.tc : Thread Cert.QkvReferenceIdeal.nD Cert.QkvReferenceIdeal.τ).loc Cert.QkvReferenceIdeal.main_v113) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)
      ∧ m' ((c.tc : Thread Cert.AttnOutReferenceIdeal.nD Cert.AttnOutReferenceIdeal.τ).loc Cert.AttnOutReferenceIdeal.main_arg4) = m ((c.tc : Thread Cert.AttnOutIdeal.nD Cert.AttnOutIdeal.τ).loc Cert.AttnOutIdeal.main_arg4)
      ∧ m' ((c.tc : Thread Cert.AttnOutReferenceIdeal.nD Cert.AttnOutReferenceIdeal.τ).loc Cert.AttnOutReferenceIdeal.main_arg5) = m ((c.tc : Thread Cert.AttnOutIdeal.nD Cert.AttnOutIdeal.τ).loc Cert.AttnOutIdeal.main_arg5)) →
    ∃ (v0 : (c : Dev Cert.AttnOutIdeal.nD) → Buf (Elt Ideal) ((c.tc : Thread Cert.AttnOutIdeal.nD Cert.AttnOutIdeal.τ).loc Cert.AttnOutIdeal.main_v17)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v17) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v43) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3)
          ∧ r.2.mem ((c.tc : Thread Cert.AttnOutReferenceIdeal.nD Cert.AttnOutReferenceIdeal.τ).loc Cert.AttnOutReferenceIdeal.main_arg4) = m' ((c.tc : Thread Cert.AttnOutReferenceIdeal.nD Cert.AttnOutReferenceIdeal.τ).loc Cert.AttnOutReferenceIdeal.main_arg4)
          ∧ r.2.mem ((c.tc : Thread Cert.AttnOutReferenceIdeal.nD Cert.AttnOutReferenceIdeal.τ).loc Cert.AttnOutReferenceIdeal.main_arg5) = m' ((c.tc : Thread Cert.AttnOutReferenceIdeal.nD Cert.AttnOutReferenceIdeal.τ).loc Cert.AttnOutReferenceIdeal.main_arg5))

def preserves_OutLast_OutLastIdeal : Prop :=
  True

def algebraic_OutLastIdeal_OutLastReferenceIdeal [hOutLastIdeal : Cert.OutLastIdeal.Facts] [hOutLastReferenceIdeal : Cert.OutLastReferenceIdeal.Facts] : Prop :=
  ∀ (m : (ℓ : Loc Cert.OutLastIdeal.nD Cert.OutLastIdeal.τ Cert.OutLastIdeal.sig) → Buf (Elt Ideal) ℓ) (g : Dev Cert.OutLastIdeal.nD → PrngReg)
    (m' : (ℓ : Loc Cert.OutLastReferenceIdeal.nD Cert.OutLastReferenceIdeal.τ Cert.OutLastReferenceIdeal.sig) → Buf (Elt Ideal) ℓ) (g' : Dev Cert.OutLastReferenceIdeal.nD → PrngReg), Pre_OutLastIdeal m →
    (∀ c : Dev Cert.OutLastIdeal.nD,
      m' ((c.tc : Thread Cert.OutLastReferenceIdeal.nD Cert.OutLastReferenceIdeal.τ).loc Cert.OutLastReferenceIdeal.main_arg0) = m ((c.tc : Thread Cert.OutLastIdeal.nD Cert.OutLastIdeal.τ).loc Cert.OutLastIdeal.main_arg0)
      ∧ m' ((c.tc : Thread Cert.OutLastReferenceIdeal.nD Cert.OutLastReferenceIdeal.τ).loc Cert.OutLastReferenceIdeal.main_arg1) = m ((c.tc : Thread Cert.OutLastIdeal.nD Cert.OutLastIdeal.τ).loc Cert.OutLastIdeal.main_arg1)
      ∧ m' ((c.tc : Thread Cert.OutLastReferenceIdeal.nD Cert.OutLastReferenceIdeal.τ).loc Cert.OutLastReferenceIdeal.main_arg2) = m ((c.tc : Thread Cert.OutLastIdeal.nD Cert.OutLastIdeal.τ).loc Cert.OutLastIdeal.main_arg2)
      ∧ m' ((c.tc : Thread Cert.OutLastReferenceIdeal.nD Cert.OutLastReferenceIdeal.τ).loc Cert.OutLastReferenceIdeal.main_arg3) = m ((c.tc : Thread Cert.OutLastIdeal.nD Cert.OutLastIdeal.τ).loc Cert.OutLastIdeal.main_arg3)
      ∧ m' ((c.tc : Thread Cert.OutLastReferenceIdeal.nD Cert.OutLastReferenceIdeal.τ).loc Cert.OutLastReferenceIdeal.main_arg4) = m ((c.tc : Thread Cert.OutLastIdeal.nD Cert.OutLastIdeal.τ).loc Cert.OutLastIdeal.main_arg4)
      ∧ m' ((c.tc : Thread Cert.OutLastReferenceIdeal.nD Cert.OutLastReferenceIdeal.τ).loc Cert.OutLastReferenceIdeal.main_arg5) = m ((c.tc : Thread Cert.OutLastIdeal.nD Cert.OutLastIdeal.τ).loc Cert.OutLastIdeal.main_arg5)) →
    ∃ (v0 : (c : Dev Cert.OutLastIdeal.nD) → Buf (Elt Ideal) ((c.tc : Thread Cert.OutLastIdeal.nD Cert.OutLastIdeal.τ).loc Cert.OutLastIdeal.main_v17)),
      θ_run (Cert.OutLastIdeal.defs (F := Ideal)) (onTc (τ := Cert.OutLastIdeal.τ) (Cert.OutLastIdeal.main (F := Ideal))) ⟨m, fun _ => 0, g⟩ (fun r => ∀ c : Dev Cert.OutLastIdeal.nD,
          r.2.mem ((c.tc : Thread Cert.OutLastIdeal.nD Cert.OutLastIdeal.τ).loc Cert.OutLastIdeal.main_v17) = v0 c
          ∧ r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
          ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
          ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
          ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
          ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4)
          ∧ r.2.mem ((c.tc : Thread Cert.OutLastIdeal.nD Cert.OutLastIdeal.τ).loc Cert.OutLastIdeal.main_arg5) = m ((c.tc : Thread Cert.OutLastIdeal.nD Cert.OutLastIdeal.τ).loc Cert.OutLastIdeal.main_arg5))
      ∧ θ_run (Cert.OutLastReferenceIdeal.defs (F := Ideal)) (onTc (τ := Cert.OutLastReferenceIdeal.τ) (Cert.OutLastReferenceIdeal.main (F := Ideal))) ⟨m', fun _ => 0, g'⟩ (fun r => ∀ c : Dev Cert.OutLastReferenceIdeal.nD,
          r.2.mem ((c.tc : Thread Cert.OutLastReferenceIdeal.nD Cert.OutLastReferenceIdeal.τ).loc Cert.OutLastReferenceIdeal.main_v36) = v0 c
          ∧ r.2.mem ((c.tc : Thread Cert.OutLastReferenceIdeal.nD Cert.OutLastReferenceIdeal.τ).loc Cert.OutLastReferenceIdeal.main_arg0) = m' ((c.tc : Thread Cert.OutLastReferenceIdeal.nD Cert.OutLastReferenceIdeal.τ).loc Cert.OutLastReferenceIdeal.main_arg0)
          ∧ r.2.mem ((c.tc : Thread Cert.OutLastReferenceIdeal.nD Cert.OutLastReferenceIdeal.τ).loc Cert.OutLastReferenceIdeal.main_arg1) = m' ((c.tc : Thread Cert.OutLastReferenceIdeal.nD Cert.OutLastReferenceIdeal.τ).loc Cert.OutLastReferenceIdeal.main_arg1)
          ∧ r.2.mem ((c.tc : Thread Cert.OutLastReferenceIdeal.nD Cert.OutLastReferenceIdeal.τ).loc Cert.OutLastReferenceIdeal.main_arg2) = m' ((c.tc : Thread Cert.OutLastReferenceIdeal.nD Cert.OutLastReferenceIdeal.τ).loc Cert.OutLastReferenceIdeal.main_arg2)
          ∧ r.2.mem ((c.tc : Thread Cert.OutLastReferenceIdeal.nD Cert.OutLastReferenceIdeal.τ).loc Cert.OutLastReferenceIdeal.main_arg3) = m' ((c.tc : Thread Cert.OutLastReferenceIdeal.nD Cert.OutLastReferenceIdeal.τ).loc Cert.OutLastReferenceIdeal.main_arg3)
          ∧ r.2.mem ((c.tc : Thread Cert.OutLastReferenceIdeal.nD Cert.OutLastReferenceIdeal.τ).loc Cert.OutLastReferenceIdeal.main_arg4) = m' ((c.tc : Thread Cert.OutLastReferenceIdeal.nD Cert.OutLastReferenceIdeal.τ).loc Cert.OutLastReferenceIdeal.main_arg4)
          ∧ r.2.mem ((c.tc : Thread Cert.OutLastReferenceIdeal.nD Cert.OutLastReferenceIdeal.τ).loc Cert.OutLastReferenceIdeal.main_arg5) = m' ((c.tc : Thread Cert.OutLastReferenceIdeal.nD Cert.OutLastReferenceIdeal.τ).loc Cert.OutLastReferenceIdeal.main_arg5))

def preserves_LruBwd_LruBwdIdeal : Prop :=
  True

def algebraic_LruBwdIdeal_LruBwdReferenceIdeal [hLruBwdIdeal : Cert.LruBwdIdeal.Facts] [hLruBwdReferenceIdeal : Cert.LruBwdReferenceIdeal.Facts] : Prop :=
  ∀ (m : (ℓ : Loc Cert.LruBwdIdeal.nD Cert.LruBwdIdeal.τ Cert.LruBwdIdeal.sig) → Buf (Elt Ideal) ℓ) (g : Dev Cert.LruBwdIdeal.nD → PrngReg)
    (m' : (ℓ : Loc Cert.LruBwdReferenceIdeal.nD Cert.LruBwdReferenceIdeal.τ Cert.LruBwdReferenceIdeal.sig) → Buf (Elt Ideal) ℓ) (g' : Dev Cert.LruBwdReferenceIdeal.nD → PrngReg), Pre_LruBwdIdeal m →
    (∀ c : Dev Cert.LruBwdIdeal.nD,
      m' ((c.tc : Thread Cert.LruBwdReferenceIdeal.nD Cert.LruBwdReferenceIdeal.τ).loc Cert.LruBwdReferenceIdeal.main_arg0) = m ((c.tc : Thread Cert.LruBwdIdeal.nD Cert.LruBwdIdeal.τ).loc Cert.LruBwdIdeal.main_arg0)
      ∧ m' ((c.tc : Thread Cert.LruBwdReferenceIdeal.nD Cert.LruBwdReferenceIdeal.τ).loc Cert.LruBwdReferenceIdeal.main_arg1) = m ((c.tc : Thread Cert.LruBwdIdeal.nD Cert.LruBwdIdeal.τ).loc Cert.LruBwdIdeal.main_arg1)
      ∧ m' ((c.tc : Thread Cert.LruBwdReferenceIdeal.nD Cert.LruBwdReferenceIdeal.τ).loc Cert.LruBwdReferenceIdeal.main_arg2) = m ((c.tc : Thread Cert.LruBwdIdeal.nD Cert.LruBwdIdeal.τ).loc Cert.LruBwdIdeal.main_arg2)
      ∧ m' ((c.tc : Thread Cert.LruBwdReferenceIdeal.nD Cert.LruBwdReferenceIdeal.τ).loc Cert.LruBwdReferenceIdeal.main_arg3) = m ((c.tc : Thread Cert.LruBwdIdeal.nD Cert.LruBwdIdeal.τ).loc Cert.LruBwdIdeal.main_arg3)
      ∧ m' ((c.tc : Thread Cert.LruBwdReferenceIdeal.nD Cert.LruBwdReferenceIdeal.τ).loc Cert.LruBwdReferenceIdeal.main_arg4) = m ((c.tc : Thread Cert.LruBwdIdeal.nD Cert.LruBwdIdeal.τ).loc Cert.LruBwdIdeal.main_arg4)
      ∧ m' ((c.tc : Thread Cert.LruBwdReferenceIdeal.nD Cert.LruBwdReferenceIdeal.τ).loc Cert.LruBwdReferenceIdeal.main_arg5) = m ((c.tc : Thread Cert.LruBwdIdeal.nD Cert.LruBwdIdeal.τ).loc Cert.LruBwdIdeal.main_arg5)
      ∧ m' ((c.tc : Thread Cert.LruBwdReferenceIdeal.nD Cert.LruBwdReferenceIdeal.τ).loc Cert.LruBwdReferenceIdeal.main_arg6) = m ((c.tc : Thread Cert.LruBwdIdeal.nD Cert.LruBwdIdeal.τ).loc Cert.LruBwdIdeal.main_arg6)
      ∧ m' ((c.tc : Thread Cert.LruBwdReferenceIdeal.nD Cert.LruBwdReferenceIdeal.τ).loc Cert.LruBwdReferenceIdeal.main_arg7) = m ((c.tc : Thread Cert.LruBwdIdeal.nD Cert.LruBwdIdeal.τ).loc Cert.LruBwdIdeal.main_arg7)
      ∧ m' ((c.tc : Thread Cert.LruBwdReferenceIdeal.nD Cert.LruBwdReferenceIdeal.τ).loc Cert.LruBwdReferenceIdeal.main_arg8) = m ((c.tc : Thread Cert.LruBwdIdeal.nD Cert.LruBwdIdeal.τ).loc Cert.LruBwdIdeal.main_arg8)
      ∧ m' ((c.tc : Thread Cert.LruBwdReferenceIdeal.nD Cert.LruBwdReferenceIdeal.τ).loc Cert.LruBwdReferenceIdeal.main_arg9) = m ((c.tc : Thread Cert.LruBwdIdeal.nD Cert.LruBwdIdeal.τ).loc Cert.LruBwdIdeal.main_arg9)
      ∧ m' ((c.tc : Thread Cert.LruBwdReferenceIdeal.nD Cert.LruBwdReferenceIdeal.τ).loc Cert.LruBwdReferenceIdeal.main_arg10) = m ((c.tc : Thread Cert.LruBwdIdeal.nD Cert.LruBwdIdeal.τ).loc Cert.LruBwdIdeal.main_arg10)) →
    ∃ (v0 : (c : Dev Cert.LruBwdIdeal.nD) → Buf (Elt Ideal) ((c.tc : Thread Cert.LruBwdIdeal.nD Cert.LruBwdIdeal.τ).loc Cert.LruBwdIdeal.main_v34)),
      θ_run (Cert.LruBwdIdeal.defs (F := Ideal)) (onTc (τ := Cert.LruBwdIdeal.τ) (Cert.LruBwdIdeal.main (F := Ideal))) ⟨m, fun _ => 0, g⟩ (fun r => ∀ c : Dev Cert.LruBwdIdeal.nD,
          r.2.mem ((c.tc : Thread Cert.LruBwdIdeal.nD Cert.LruBwdIdeal.τ).loc Cert.LruBwdIdeal.main_v34) = v0 c
          ∧ r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
          ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
          ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
          ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
          ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
          ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
          ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
          ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
          ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8)
          ∧ r.2.mem ((c.tc : Thread Cert.LruBwdIdeal.nD Cert.LruBwdIdeal.τ).loc Cert.LruBwdIdeal.main_arg9) = m ((c.tc : Thread Cert.LruBwdIdeal.nD Cert.LruBwdIdeal.τ).loc Cert.LruBwdIdeal.main_arg9)
          ∧ r.2.mem ((c.tc : Thread Cert.LruBwdIdeal.nD Cert.LruBwdIdeal.τ).loc Cert.LruBwdIdeal.main_arg10) = m ((c.tc : Thread Cert.LruBwdIdeal.nD Cert.LruBwdIdeal.τ).loc Cert.LruBwdIdeal.main_arg10))
      ∧ θ_run (Cert.LruBwdReferenceIdeal.defs (F := Ideal)) (onTc (τ := Cert.LruBwdReferenceIdeal.τ) (Cert.LruBwdReferenceIdeal.main (F := Ideal))) ⟨m', fun _ => 0, g'⟩ (fun r => ∀ c : Dev Cert.LruBwdReferenceIdeal.nD,
          r.2.mem ((c.tc : Thread Cert.LruBwdReferenceIdeal.nD Cert.LruBwdReferenceIdeal.τ).loc Cert.LruBwdReferenceIdeal.main_v84) = v0 c
          ∧ r.2.mem ((c.tc : Thread Cert.LruBwdReferenceIdeal.nD Cert.LruBwdReferenceIdeal.τ).loc Cert.LruBwdReferenceIdeal.main_arg0) = m' ((c.tc : Thread Cert.LruBwdReferenceIdeal.nD Cert.LruBwdReferenceIdeal.τ).loc Cert.LruBwdReferenceIdeal.main_arg0)
          ∧ r.2.mem ((c.tc : Thread Cert.LruBwdReferenceIdeal.nD Cert.LruBwdReferenceIdeal.τ).loc Cert.LruBwdReferenceIdeal.main_arg1) = m' ((c.tc : Thread Cert.LruBwdReferenceIdeal.nD Cert.LruBwdReferenceIdeal.τ).loc Cert.LruBwdReferenceIdeal.main_arg1)
          ∧ r.2.mem ((c.tc : Thread Cert.LruBwdReferenceIdeal.nD Cert.LruBwdReferenceIdeal.τ).loc Cert.LruBwdReferenceIdeal.main_arg2) = m' ((c.tc : Thread Cert.LruBwdReferenceIdeal.nD Cert.LruBwdReferenceIdeal.τ).loc Cert.LruBwdReferenceIdeal.main_arg2)
          ∧ r.2.mem ((c.tc : Thread Cert.LruBwdReferenceIdeal.nD Cert.LruBwdReferenceIdeal.τ).loc Cert.LruBwdReferenceIdeal.main_arg3) = m' ((c.tc : Thread Cert.LruBwdReferenceIdeal.nD Cert.LruBwdReferenceIdeal.τ).loc Cert.LruBwdReferenceIdeal.main_arg3)
          ∧ r.2.mem ((c.tc : Thread Cert.LruBwdReferenceIdeal.nD Cert.LruBwdReferenceIdeal.τ).loc Cert.LruBwdReferenceIdeal.main_arg4) = m' ((c.tc : Thread Cert.LruBwdReferenceIdeal.nD Cert.LruBwdReferenceIdeal.τ).loc Cert.LruBwdReferenceIdeal.main_arg4)
          ∧ r.2.mem ((c.tc : Thread Cert.LruBwdReferenceIdeal.nD Cert.LruBwdReferenceIdeal.τ).loc Cert.LruBwdReferenceIdeal.main_arg5) = m' ((c.tc : Thread Cert.LruBwdReferenceIdeal.nD Cert.LruBwdReferenceIdeal.τ).loc Cert.LruBwdReferenceIdeal.main_arg5)
          ∧ r.2.mem ((c.tc : Thread Cert.LruBwdReferenceIdeal.nD Cert.LruBwdReferenceIdeal.τ).loc Cert.LruBwdReferenceIdeal.main_arg6) = m' ((c.tc : Thread Cert.LruBwdReferenceIdeal.nD Cert.LruBwdReferenceIdeal.τ).loc Cert.LruBwdReferenceIdeal.main_arg6)
          ∧ r.2.mem ((c.tc : Thread Cert.LruBwdReferenceIdeal.nD Cert.LruBwdReferenceIdeal.τ).loc Cert.LruBwdReferenceIdeal.main_arg7) = m' ((c.tc : Thread Cert.LruBwdReferenceIdeal.nD Cert.LruBwdReferenceIdeal.τ).loc Cert.LruBwdReferenceIdeal.main_arg7)
          ∧ r.2.mem ((c.tc : Thread Cert.LruBwdReferenceIdeal.nD Cert.LruBwdReferenceIdeal.τ).loc Cert.LruBwdReferenceIdeal.main_arg8) = m' ((c.tc : Thread Cert.LruBwdReferenceIdeal.nD Cert.LruBwdReferenceIdeal.τ).loc Cert.LruBwdReferenceIdeal.main_arg8)
          ∧ r.2.mem ((c.tc : Thread Cert.LruBwdReferenceIdeal.nD Cert.LruBwdReferenceIdeal.τ).loc Cert.LruBwdReferenceIdeal.main_arg9) = m' ((c.tc : Thread Cert.LruBwdReferenceIdeal.nD Cert.LruBwdReferenceIdeal.τ).loc Cert.LruBwdReferenceIdeal.main_arg9)
          ∧ r.2.mem ((c.tc : Thread Cert.LruBwdReferenceIdeal.nD Cert.LruBwdReferenceIdeal.τ).loc Cert.LruBwdReferenceIdeal.main_arg10) = m' ((c.tc : Thread Cert.LruBwdReferenceIdeal.nD Cert.LruBwdReferenceIdeal.τ).loc Cert.LruBwdReferenceIdeal.main_arg10))

def Claim : Prop :=
  ∃ (hKernel : Cert.Kernel.Facts) (hKernelIdeal : Cert.KernelIdeal.Facts) (hReferenceIdeal : Cert.ReferenceIdeal.Facts) (hLast : Cert.Last.Facts) (hLastIdeal : Cert.LastIdeal.Facts) (hLastReferenceIdeal : Cert.LastReferenceIdeal.Facts) (hLruIn : Cert.LruIn.Facts) (hLruInIdeal : Cert.LruInIdeal.Facts) (hLruInReferenceIdeal : Cert.LruInReferenceIdeal.Facts) (hQkv : Cert.Qkv.Facts) (hQkvIdeal : Cert.QkvIdeal.Facts) (hQkvReferenceIdeal : Cert.QkvReferenceIdeal.Facts) (hAttnOut : Cert.AttnOut.Facts) (hAttnOutIdeal : Cert.AttnOutIdeal.Facts) (hAttnOutReferenceIdeal : Cert.AttnOutReferenceIdeal.Facts) (hOutLast : Cert.OutLast.Facts) (hOutLastIdeal : Cert.OutLastIdeal.Facts) (hOutLastReferenceIdeal : Cert.OutLastReferenceIdeal.Facts) (hLruBwd : Cert.LruBwd.Facts) (hLruBwdIdeal : Cert.LruBwdIdeal.Facts) (hLruBwdReferenceIdeal : Cert.LruBwdReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Last (hLast := hLast)
    ∧ quiescent_LastIdeal (hLastIdeal := hLastIdeal)
    ∧ quiescent_LastIdeal_pre_finite_qk (hLastIdeal := hLastIdeal) (hPre_finite_qk := hPre_finite_qk)
    ∧ quiescent_LastReferenceIdeal (hLastReferenceIdeal := hLastReferenceIdeal)
    ∧ quiescent_LastReferenceIdeal_pre_finite_qk (hLastReferenceIdeal := hLastReferenceIdeal) (hPre_finite_qk := hPre_finite_qk)
    ∧ quiescent_LruIn (hLruIn := hLruIn)
    ∧ quiescent_LruInIdeal (hLruInIdeal := hLruInIdeal)
    ∧ quiescent_LruInReferenceIdeal (hLruInReferenceIdeal := hLruInReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_OutLast (hOutLast := hOutLast)
    ∧ quiescent_OutLastIdeal (hOutLastIdeal := hOutLastIdeal)
    ∧ quiescent_OutLastReferenceIdeal (hOutLastReferenceIdeal := hOutLastReferenceIdeal)
    ∧ quiescent_LruBwd (hLruBwd := hLruBwd)
    ∧ quiescent_LruBwdIdeal (hLruBwdIdeal := hLruBwdIdeal)
    ∧ quiescent_LruBwdReferenceIdeal (hLruBwdReferenceIdeal := hLruBwdReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Last_LastIdeal
    ∧ algebraic_LastIdeal_LastReferenceIdeal_pre_finite_qk (hLastIdeal := hLastIdeal) (hLastReferenceIdeal := hLastReferenceIdeal) (hPre_finite_qk := hPre_finite_qk)
    ∧ preserves_LruIn_LruInIdeal
    ∧ algebraic_LruInIdeal_LruInReferenceIdeal (hLruInIdeal := hLruInIdeal) (hLruInReferenceIdeal := hLruInReferenceIdeal)
    ∧ preserves_Qkv_QkvIdeal
    ∧ algebraic_QkvIdeal_QkvReferenceIdeal (hQkvIdeal := hQkvIdeal) (hQkvReferenceIdeal := hQkvReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_OutLast_OutLastIdeal
    ∧ algebraic_OutLastIdeal_OutLastReferenceIdeal (hOutLastIdeal := hOutLastIdeal) (hOutLastReferenceIdeal := hOutLastReferenceIdeal)
    ∧ preserves_LruBwd_LruBwdIdeal
    ∧ algebraic_LruBwdIdeal_LruBwdReferenceIdeal (hLruBwdIdeal := hLruBwdIdeal) (hLruBwdReferenceIdeal := hLruBwdReferenceIdeal)
-- ==== Pre_finite_qk.lean ====
abbrev S16x2304x1024 : Shape := ⟨3, ![16, 2304, 1024]⟩
abbrev S16x2304x256 : Shape := ⟨3, ![16, 2304, 256]⟩
abbrev S_ : Shape := ⟨0, ![]⟩

class Facts : Prop where
  bcast_S_S16x2304x1024 : S_.BroadcastsInDim S16x2304x1024 (![] : Fin 0 → Fin S16x2304x1024.rank)
  reducesTo_S16x2304x1024_S_d0_1_2 : S16x2304x1024.ReducesTo [0, 1, 2] S_
  h_S_ : 0 < S_.numel
  bcast_S_S16x2304x256 : S_.BroadcastsInDim S16x2304x256 (![] : Fin 0 → Fin S16x2304x256.rank)
  reducesTo_S16x2304x256_S_d0_1_2 : S16x2304x256.ReducesTo [0, 1, 2] S_

variable [Facts]

def fn {F : FTy → Type} [FloatOps F] (main_arg0 : FVec F S16x2304x1024 .bf16) (main_arg1 : FVec F S16x2304x256 .bf16) (main_arg2 : FVec F S16x2304x256 .bf16) : IVec S_ 1 :=
  let main_v0 : FVec F S16x2304x1024 .bf16 := Host.absf main_arg0
  let main_cst : FVec F S_ .bf16 := constant S_ .bf16 0x7F80#16
  let main_v1 : FVec F S16x2304x1024 .bf16 := broadcastInDim S16x2304x1024 ![] bcast_S_S16x2304x1024 main_cst
  let main_v2 : IVec S16x2304x1024 1 := cmpf .olt main_v0 main_v1
  let main_c : IVec S_ 1 := constantI S_ 1 1#1
  let main_v3 : IVec S_ 1 := (fun x v => Host.reduce IntOp.andi x v reducesTo_S16x2304x1024_S_d0_1_2 h_S_) main_v2 main_c
  let main_v4 : FVec F S16x2304x256 .bf16 := Host.absf main_arg1
  let main_cst_0 : FVec F S_ .bf16 := constant S_ .bf16 0x7F80#16
  let main_v5 : FVec F S16x2304x256 .bf16 := broadcastInDim S16x2304x256 ![] bcast_S_S16x2304x256 main_cst_0
  let main_v6 : IVec S16x2304x256 1 := cmpf .olt main_v4 main_v5
  let main_c_1 : IVec S_ 1 := constantI S_ 1 1#1
  let main_v7 : IVec S_ 1 := (fun x v => Host.reduce IntOp.andi x v reducesTo_S16x2304x256_S_d0_1_2 h_S_) main_v6 main_c_1
  let main_v8 : IVec S_ 1 := andi main_v3 main_v7
  main_v8
-- ==== Kernel.lean ====
abbrev S16x2304x1024 : Shape := ⟨3, ![16, 2304, 1024]⟩
abbrev S16x2304x256 : Shape := ⟨3, ![16, 2304, 256]⟩
abbrev S1x256x512 : Shape := ⟨3, ![1, 256, 512]⟩
abbrev S1x2304x128 : Shape := ⟨3, ![1, 2304, 128]⟩
abbrev S2304x128 : Shape := ⟨2, ![2304, 128]⟩
abbrev S1x256x128 : Shape := ⟨3, ![1, 256, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x2304x1024, .bf16⟩
  | .hbm, ⟨1, _⟩ => ⟨S16x2304x256, .bf16⟩
  | .hbm, ⟨2, _⟩ => ⟨S16x2304x256, .bf16⟩
  | .hbm, ⟨3, _⟩ => ⟨S16x2304x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x512, .bf16⟩
  | .local _ .vmem, ⟨7, _⟩ => ⟨S1x256x512, .bf16⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 9], ![false, false, false]⟩

def k0_cond1 (i : grid0.Coords) : BitVec 1 :=
  let arg2 : BitVec 32 := BitVec.ofNat 32 (i 2).val
  let c8_i32 : BitVec 32 := 8#32
  let v0 : BitVec 1 := Scalar.cmpi .slt arg2 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c8_i32_0 : BitVec 32 := 8#32
  let v3 : BitVec 1 := Scalar.cmpi .sge arg2 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x2304x1024 : Shape := ⟨3, ![16, 2304, 1024]⟩
abbrev S16x2304x256 : Shape := ⟨3, ![16, 2304, 256]⟩
abbrev S16x2304x2x128 : Shape := ⟨4, ![16, 2304, 2, 128]⟩
abbrev S16x2048x1024 : Shape := ⟨3, ![16, 2048, 1024]⟩
abbrev S16x2048x2x4x128 : Shape := ⟨5, ![16, 2048, 2, 4, 128]⟩
abbrev S16x2x2304x2048x4 : Shape := ⟨5, ![16, 2, 2304, 2048, 4]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x128x4x2048 : Shape := ⟨5, ![16, 2, 128, 4, 2048]⟩
abbrev S16x256x1024 : Shape := ⟨3, ![16, 256, 1024]⟩
abbrev S16x256x2x4x128 : Shape := ⟨5, ![16, 256, 2, 4, 128]⟩
abbrev S16x256x2x128 : Shape := ⟨4, ![16, 256, 2, 128]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x128x4x256 : Shape := ⟨5, ![16, 2, 128, 4, 256]⟩

abbrev nBuf : Space → Nat
  | .hbm => 60
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S16x2304x256, .bf16⟩
  | .hbm, ⟨2, _⟩ => ⟨S16x2304x256, .bf16⟩
  | .hbm, ⟨3, _⟩ => ⟨S16x2304x2x128, .bf16⟩
  | .hbm, ⟨4, _⟩ => ⟨S16x2304x2x128, .bf16⟩
  | .hbm, ⟨5, _⟩ => ⟨S16x2048x1024, .bf16⟩
  | .hbm, ⟨6, _⟩ => ⟨S16x2048x2x4x128, .bf16⟩
  | .hbm, ⟨7, _⟩ => ⟨S16x2x2304x2048x4, .f32⟩
  | .hbm, ⟨8, _⟩ => ⟨S16x2x4x2048x2304, .f32⟩
  | .hbm, ⟨9, _⟩ => ⟨S_, .f32⟩
  | .hbm, ⟨10, _⟩ => ⟨S16x2x4x2048x2304, .f32⟩
  | .hbm, ⟨11, _⟩ => ⟨S16x2x4x2048x2304, .f32⟩
  | .hbm, ⟨12, _⟩ => ⟨S_, .f32⟩
  | .hbm, ⟨13, _⟩ => ⟨S16x2x4x2048, .f32⟩
  | .hbm, ⟨14, _⟩ => ⟨S_, .f32⟩
  | .hbm, ⟨15, _⟩ => ⟨S16x2x4x2048, .f32⟩
  | .hbm, ⟨16, _⟩ => ⟨S16x2x4x2048, .f32⟩
  | .hbm, ⟨17, _⟩ => ⟨S16x2x4x2048x1, .f32⟩
  | .hbm, ⟨18, _⟩ => ⟨S16x2x4x2048x2304, .f32⟩
  | .hbm, ⟨19, _⟩ => ⟨S16x2x4x2048x2304, .f32⟩
  | .hbm, ⟨20, _⟩ => ⟨S16x2x4x2048x2304, .f32⟩
  | .hbm, ⟨21, _⟩ => ⟨S_, .f32⟩
  | .hbm, ⟨22, _⟩ => ⟨S16x2x4x2048, .f32⟩
  | .hbm, ⟨23, _⟩ => ⟨S16x2x4x2048x1, .f32⟩
  | .hbm, ⟨24, _⟩ => ⟨S16x2x4x2048x2304, .f32⟩
  | .hbm, ⟨25, _⟩ => ⟨S16x2x4x2048x2304, .f32⟩
  | .hbm, ⟨26, _⟩ => ⟨S16x2x4x2048x2304, .bf16⟩
  | .hbm, ⟨27, _⟩ => ⟨S16x2x128x4x2048, .f32⟩
  | .hbm, ⟨28, _⟩ => ⟨S16x2048x2x4x128, .f32⟩
  | .hbm, ⟨29, _⟩ => ⟨S16x2048x2x4x128, .bf16⟩
  | .hbm, ⟨30, _⟩ => ⟨S16x2048x1024, .bf16⟩
  | .hbm, ⟨31, _⟩ => ⟨S16x256x1024, .bf16⟩
  | .hbm, ⟨32, _⟩ => ⟨S16x256x2x4x128, .bf16⟩
  | .hbm, ⟨33, _⟩ => ⟨S16x256x2x128, .bf16⟩
  | .hbm, ⟨34, _⟩ => ⟨S16x256x2x128, .bf16⟩
  | .hbm, ⟨35, _⟩ => ⟨S16x2x256x256x4, .f32⟩
  | .hbm, ⟨36, _⟩ => ⟨S16x2x4x256x256, .f32⟩
  | .hbm, ⟨37, _⟩ => ⟨S_, .f32⟩
  | .hbm, ⟨38, _⟩ => ⟨S16x2x4x256x256, .f32⟩
  | .hbm, ⟨39, _⟩ => ⟨S16x2x4x256x256, .f32⟩
  | .hbm, ⟨40, _⟩ => ⟨S_, .f32⟩
  | .hbm, ⟨41, _⟩ => ⟨S16x2x4x256, .f32⟩
  | .hbm, ⟨42, _⟩ => ⟨S_, .f32⟩
  | .hbm, ⟨43, _⟩ => ⟨S16x2x4x256, .f32⟩
  | .hbm, ⟨44, _⟩ => ⟨S16x2x4x256, .f32⟩
  | .hbm, ⟨45, _⟩ => ⟨S16x2x4x256x1, .f32⟩
  | .hbm, ⟨46, _⟩ => ⟨S16x2x4x256x256, .f32⟩
  | .hbm, ⟨47, _⟩ => ⟨S16x2x4x256x256, .f32⟩
  | .hbm, ⟨48, _⟩ => ⟨S16x2x4x256x256, .f32⟩
  | .hbm, ⟨49, _⟩ => ⟨S_, .f32⟩
  | .hbm, ⟨50, _⟩ => ⟨S16x2x4x256, .f32⟩
  | .hbm, ⟨51, _⟩ => ⟨S16x2x4x256x1, .f32⟩
  | .hbm, ⟨52, _⟩ => ⟨S16x2x4x256x256, .f32⟩
  | .hbm, ⟨53, _⟩ => ⟨S16x2x4x256x256, .f32⟩
  | .hbm, ⟨54, _⟩ => ⟨S16x2x4x256x256, .bf16⟩
  | .hbm, ⟨55, _⟩ => ⟨S16x2x128x4x256, .f32⟩
  | .hbm, ⟨56, _⟩ => ⟨S16x256x2x4x128, .f32⟩
  | .hbm, ⟨57, _⟩ => ⟨S16x256x2x4x128, .bf16⟩
  | .hbm, ⟨58, _⟩ => ⟨S16x256x1024, .bf16⟩
  | .hbm, ⟨59, _⟩ => ⟨S16x2304x1024, .bf16⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Last.lean ====
abbrev S16x2304x1024 : Shape := ⟨3, ![16, 2304, 1024]⟩
abbrev S16x2304x256 : Shape := ⟨3, ![16, 2304, 256]⟩
abbrev S16x2048x1024 : Shape := ⟨3, ![16, 2048, 1024]⟩
abbrev S1x256x512 : Shape := ⟨3, ![1, 256, 512]⟩
abbrev S1x2304x128 : Shape := ⟨3, ![1, 2304, 128]⟩
abbrev S2304x128 : Shape := ⟨2, ![2304, 128]⟩
abbrev S1x256x128 : Shape := ⟨3, ![1, 256, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x2304x1024, .bf16⟩
  | .hbm, ⟨1, _⟩ => ⟨S16x2304x256, .bf16⟩
  | .hbm, ⟨2, _⟩ => ⟨S16x2304x256, .bf16⟩
  | .hbm, ⟨3, _⟩ => ⟨S16x2048x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x512, .bf16⟩
  | .local _ .vmem, ⟨7, _⟩ => ⟨S1x256x512, .bf16⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def k0_cond1 (i : grid0.Coords) : BitVec 1 :=
  let arg2 : BitVec 32 := BitVec.ofNat 32 (i 2).val
  let c8_i32 : BitVec 32 := 8#32
  let v0 : BitVec 1 := Scalar.cmpi .slt arg2 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c8_i32_0 : BitVec 32 := 8#32
  let v3 : BitVec 1 := Scalar.cmpi .sge arg2 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== LastReferenceIdeal.lean ====
abbrev S16x2304x1024 : Shape := ⟨3, ![16, 2304, 1024]⟩
abbrev S16x2304x256 : Shape := ⟨3, ![16, 2304, 256]⟩
abbrev S16x2304x2x128 : Shape := ⟨4, ![16, 2304, 2, 128]⟩
abbrev S16x2048x1024 : Shape := ⟨3, ![16, 2048, 1024]⟩
abbrev S16x2048x2x4x128 : Shape := ⟨5, ![16, 2048, 2, 4, 128]⟩
abbrev S16x2x2304x2048x4 : Shape := ⟨5, ![16, 2, 2304, 2048, 4]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x128x4x2048 : Shape := ⟨5, ![16, 2, 128, 4, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S16x2304x256, .bf16⟩
  | .hbm, ⟨2, _⟩ => ⟨S16x2304x256, .bf16⟩
  | .hbm, ⟨3, _⟩ => ⟨S16x2304x2x128, .bf16⟩
  | .hbm, ⟨4, _⟩ => ⟨S16x2304x2x128, .bf16⟩
  | .hbm, ⟨5, _⟩ => ⟨S16x2048x1024, .bf16⟩
  | .hbm, ⟨6, _⟩ => ⟨S16x2048x2x4x128, .bf16⟩
  | .hbm, ⟨7, _⟩ => ⟨S16x2x2304x2048x4, .f32⟩
  | .hbm, ⟨8, _⟩ => ⟨S16x2x4x2048x2304, .f32⟩
  | .hbm, ⟨9, _⟩ => ⟨S_, .f32⟩
  | .hbm, ⟨10, _⟩ => ⟨S16x2x4x2048x2304, .f32⟩
  | .hbm, ⟨11, _⟩ => ⟨S16x2x4x2048x2304, .f32⟩
  | .hbm, ⟨12, _⟩ => ⟨S_, .f32⟩
  | .hbm, ⟨13, _⟩ => ⟨S16x2x4x2048, .f32⟩
  | .hbm, ⟨14, _⟩ => ⟨S_, .f32⟩
  | .hbm, ⟨15, _⟩ => ⟨S16x2x4x2048, .f32⟩
  | .hbm, ⟨16, _⟩ => ⟨S16x2x4x2048, .f32⟩
  | .hbm, ⟨17, _⟩ => ⟨S16x2x4x2048x1, .f32⟩
  | .hbm, ⟨18, _⟩ => ⟨S16x2x4x2048x2304, .f32⟩
  | .hbm, ⟨19, _⟩ => ⟨S16x2x4x2048x2304, .f32⟩
  | .hbm, ⟨20, _⟩ => ⟨S16x2x4x2048x2304, .f32⟩
  | .hbm, ⟨21, _⟩ => ⟨S_, .f32⟩
  | .hbm, ⟨22, _⟩ => ⟨S16x2x4x2048, .f32⟩
  | .hbm, ⟨23, _⟩ => ⟨S16x2x4x2048x1, .f32⟩
  | .hbm, ⟨24, _⟩ => ⟨S16x2x4x2048x2304, .f32⟩
  | .hbm, ⟨25, _⟩ => ⟨S16x2x4x2048x2304, .f32⟩
  | .hbm, ⟨26, _⟩ => ⟨S16x2x4x2048x2304, .bf16⟩
  | .hbm, ⟨27, _⟩ => ⟨S16x2x128x4x2048, .f32⟩
  | .hbm, ⟨28, _⟩ => ⟨S16x2048x2x4x128, .f32⟩
  | .hbm, ⟨29, _⟩ => ⟨S16x2048x2x4x128, .bf16⟩
  | .hbm, ⟨30, _⟩ => ⟨S16x2048x1024, .bf16⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== LruIn.lean ====
abbrev S36864x1024 : Shape := ⟨2, ![36864, 1024]⟩
abbrev S2x16x1024 : Shape := ⟨3, ![2, 16, 1024]⟩
abbrev S1024x2560 : Shape := ⟨2, ![1024, 2560]⟩
abbrev S36864x1280 : Shape := ⟨2, ![36864, 1280]⟩
abbrev S256x1024 : Shape := ⟨2, ![256, 1024]⟩
abbrev S1x16x1024 : Shape := ⟨3, ![1, 16, 1024]⟩
abbrev S256x1280 : Shape := ⟨2, ![256, 1280]⟩
abbrev S16x1024 : Shape := ⟨2, ![16, 1024]⟩
abbrev S16x16x1024 : Shape := ⟨3, ![16, 16, 1024]⟩
abbrev S256x2560 : Shape := ⟨2, ![256, 2560]⟩

abbrev nBuf : Space → Nat
  | .hbm => 7
  | .vmem => 11
  | .smem => 0
  | _ => 0

abbrev bufTy : (tb : Table) → Fin (tcTables nBuf tb) → BufTy
  | .hbm, ⟨0, _⟩ => ⟨S36864x1024, .f32⟩
  | .hbm, ⟨1, _⟩ => ⟨S2x16x1024, .f32⟩
  | .hbm, ⟨2, _⟩ => ⟨S2x16x1024, .f32⟩
  | .hbm, ⟨3, _⟩ => ⟨S1024x2560, .f32⟩
  | .hbm, ⟨4, _⟩ => ⟨S1024x2560, .bf16⟩
  | .hbm, ⟨5, _⟩ => ⟨S36864x1280, .f32⟩
  | .hbm, ⟨6, _⟩ => ⟨S36864x1280, .f32⟩
  | .local _ .vmem, ⟨0, _⟩ => ⟨S256x1024, .f32⟩
  | .local _ .vmem, ⟨1, _⟩ => ⟨S256x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1024x2560, .bf16⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LruInReferenceIdeal.lean ====
abbrev S36864x1024 : Shape := ⟨2, ![36864, 1024]⟩
abbrev S2x16x1024 : Shape := ⟨3, ![2, 16, 1024]⟩
abbrev S1024x2560 : Shape := ⟨2, ![1024, 2560]⟩
abbrev S2304x16x1024 : Shape := ⟨3, ![2304, 16, 1024]⟩
abbrev S2048x16x1024 : Shape := ⟨3, ![2048, 16, 1024]⟩
abbrev S1x16x1024 : Shape := ⟨3, ![1, 16, 1024]⟩
abbrev S16x1024 : Shape := ⟨2, ![16, 1024]⟩
abbrev S_ : Shape := ⟨0, ![]⟩
abbrev S256x16x1024 : Shape := ⟨3, ![256, 16, 1024]⟩
abbrev S2304x16x2560 : Shape := ⟨3, ![2304, 16, 2560]⟩
abbrev S36864x2560 : Shape := ⟨2, ![36864, 2560]⟩
abbrev S36864x1280 : Shape := ⟨2, ![36864, 1280]⟩

abbrev nBuf : Space → Nat
  | .hbm => 47
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S2x16x1024, .f32⟩
  | .hbm, ⟨2, _⟩ => ⟨S2x16x1024, .f32⟩
  | .hbm, ⟨3, _⟩ => ⟨S1024x2560, .f32⟩
  | .hbm, ⟨4, _⟩ => ⟨S2304x16x1024, .f32⟩
  | .hbm, ⟨5, _⟩ => ⟨S2048x16x1024, .f32⟩
  | .hbm, ⟨6, _⟩ => ⟨S1x16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S1x16x1024, .f32⟩
  | .hbm, ⟨12, _⟩ => ⟨S2048x16x1024, .f32⟩
  | .hbm, ⟨13, _⟩ => ⟨S2048x16x1024, .f32⟩
  | .hbm, ⟨14, _⟩ => ⟨S1x16x1024, .f32⟩
  | .hbm, ⟨15, _⟩ => ⟨S16x1024, .f32⟩
  | .hbm, ⟨16, _⟩ => ⟨S1x16x1024, .f32⟩
  | .hbm, ⟨17, _⟩ => ⟨S2048x16x1024, .f32⟩
  | .hbm, ⟨18, _⟩ => ⟨S2048x16x1024, .f32⟩
  | .hbm, ⟨19, _⟩ => ⟨S256x16x1024, .f32⟩
  | .hbm, ⟨20, _⟩ => ⟨S1x16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S1x16x1024, .f32⟩
  | .hbm, ⟨26, _⟩ => ⟨S256x16x1024, .f32⟩
  | .hbm, ⟨27, _⟩ => ⟨S256x16x1024, .f32⟩
  | .hbm, ⟨28, _⟩ => ⟨S1x16x1024, .f32⟩
  | .hbm, ⟨29, _⟩ => ⟨S16x1024, .f32⟩
  | .hbm, ⟨30, _⟩ => ⟨S1x16x1024, .f32⟩
  | .hbm, ⟨31, _⟩ => ⟨S256x16x1024, .f32⟩
  | .hbm, ⟨32, _⟩ => ⟨S256x16x1024, .f32⟩
  | .hbm, ⟨33, _⟩ => ⟨S2304x16x1024, .f32⟩
  | .hbm, ⟨34, _⟩ => ⟨S2304x16x2560, .f32⟩
  | .hbm, ⟨35, _⟩ => ⟨S36864x2560, .f32⟩
  | .hbm, ⟨36, _⟩ => ⟨S36864x1280, .f32⟩
  | .hbm, ⟨37, _⟩ => ⟨S36864x1280, .f32⟩
  | .hbm, ⟨38, _⟩ => ⟨S_, .f32⟩
  | .hbm, ⟨39, _⟩ => ⟨S36864x1280, .f32⟩
  | .hbm, ⟨40, _⟩ => ⟨S36864x1280, .f32⟩
  | .hbm, ⟨41, _⟩ => ⟨S36864x1280, .f32⟩
  | .hbm, ⟨42, _⟩ => ⟨S_, .f32⟩
  | .hbm, ⟨43, _⟩ => ⟨S36864x1280, .f32⟩
  | .hbm, ⟨44, _⟩ => ⟨S36864x1280, .f32⟩
  | .hbm, ⟨45, _⟩ => ⟨S36864x1280, .f32⟩
  | .hbm, ⟨46, _⟩ => ⟨S36864x1280, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Qkv.lean ====
abbrev S36864x1024 : Shape := ⟨2, ![36864, 1024]⟩
abbrev S2x16x1024 : Shape := ⟨3, ![2, 16, 1024]⟩
abbrev S1024x1536 : Shape := ⟨2, ![1024, 1536]⟩
abbrev S2048x2x32 : Shape := ⟨3, ![2048, 2, 32]⟩
abbrev S128 : Shape := ⟨1, ![128]⟩
abbrev S_ : Shape := ⟨0, ![]⟩
abbrev S2048x2x64 : Shape := ⟨3, ![2048, 2, 64]⟩
abbrev S2048x128 : Shape := ⟨2, ![2048, 128]⟩
abbrev S256x128 : Shape := ⟨2, ![256, 128]⟩
abbrev S2304x128 : Shape := ⟨2, ![2304, 128]⟩
abbrev S1x128 : Shape := ⟨2, ![1, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x2304x1024 : Shape := ⟨3, ![16, 2304, 1024]⟩
abbrev S16x2304x256 : Shape := ⟨3, ![16, 2304, 256]⟩
abbrev S256x1024 : Shape := ⟨2, ![256, 1024]⟩
abbrev S1x16x1024 : Shape := ⟨3, ![1, 16, 1024]⟩
abbrev S16x128 : Shape := ⟨2, ![16, 128]⟩
abbrev S16x16x1024 : Shape := ⟨3, ![16, 16, 1024]⟩
abbrev S16x16x256 : Shape := ⟨3, ![16, 16, 256]⟩
abbrev S16x1024 : Shape := ⟨2, ![16, 1024]⟩
abbrev S256x1536 : Shape := ⟨2, ![256, 1536]⟩
abbrev S1x16x128 : Shape := ⟨3, ![1, 16, 128]⟩
abbrev S16x16x128 : Shape := ⟨3, ![16, 16, 128]⟩

abbrev nBuf : Space → Nat
  | .hbm => 84
  | .vmem => 22
  | .smem => 0
  | _ => 0

abbrev bufTy : (tb : Table) → Fin (tcTables nBuf tb) → BufTy
  | .hbm, ⟨0, _⟩ => ⟨S36864x1024, .f32⟩
  | .hbm, ⟨1, _⟩ => ⟨S2x16x1024, .f32⟩
  | .hbm, ⟨2, _⟩ => ⟨S2x16x1024, .f32⟩
  | .hbm, ⟨3, _⟩ => ⟨S1024x1536, .f32⟩
  | .hbm, ⟨4, _⟩ => ⟨S2048x2x32, .f32⟩
  | .hbm, ⟨5, _⟩ => ⟨S2048x2x32, .f32⟩
  | .hbm, ⟨6, _⟩ => ⟨S128, .f32⟩
  | .hbm, ⟨7, _⟩ => ⟨S128, .f32⟩
  | .hbm, ⟨8, _⟩ => ⟨S1024x1536, .bf16⟩
  | .hbm, ⟨9, _⟩ => ⟨S_, .f32⟩
  | .hbm, ⟨10, _⟩ => ⟨S2048x2x32, .f32⟩
  | .hbm, ⟨11, _⟩ => ⟨S2048x2x64, .f32⟩
  | .hbm, ⟨12, _⟩ => ⟨S2048x128, .f32⟩
  | .hbm, ⟨13, _⟩ => ⟨S2048x2x32, .f32⟩
  | .hbm, ⟨14, _⟩ => ⟨S2048x2x64, .f32⟩
  | .hbm, ⟨15, _⟩ => ⟨S2048x128, .f32⟩
  | .hbm, ⟨16, _⟩ => ⟨S2048x2x64, .f32⟩
  | .hbm, ⟨17, _⟩ => ⟨S2048x128, .f32⟩
  | .hbm, ⟨18, _⟩ => ⟨S_, .f32⟩
  | .hbm, ⟨19, _⟩ => ⟨S256x128, .f32⟩
  | .hbm, ⟨20, _⟩ => ⟨S2304x128, .f32⟩
  | .hbm, ⟨21, _⟩ => ⟨S_, .f32⟩
  | .hbm, ⟨22, _⟩ => ⟨S256x128, .f32⟩
  | .hbm, ⟨23, _⟩ => ⟨S2304x128, .f32⟩
  | .hbm, ⟨24, _⟩ => ⟨S_, .f32⟩
  | .hbm, ⟨25, _⟩ => ⟨S256x128, .f32⟩
  | .hbm, ⟨26, _⟩ => ⟨S2304x128, .f32⟩
  | .hbm, ⟨27, _⟩ => ⟨S1x128, .f32⟩
  | .hbm, ⟨28, _⟩ => ⟨S1x128, .f32⟩
  | .hbm, ⟨29, _⟩ => ⟨S256, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S_, .i32⟩
  | .hbm, ⟨45, _⟩ => ⟨S_, .i1⟩
  | .hbm, ⟨46, _⟩ => ⟨S256, .i1⟩
  | .hbm, ⟨47, _⟩ => ⟨S256, .i1⟩
  | .hbm, ⟨48, _⟩ => ⟨S256, .i1⟩
  | .hbm, ⟨49, _⟩ => ⟨S256, .i32⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S_, .i32⟩
  | .hbm, ⟨61, _⟩ => ⟨S256, .i32⟩
  | .hbm, ⟨62, _⟩ => ⟨S256, .i1⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S256, .i1⟩
  | .hbm, ⟨69, _⟩ => ⟨S_, .i32⟩
  | .hbm, ⟨70, _⟩ => ⟨S256, .i32⟩
  | .hbm, ⟨71, _⟩ => ⟨S256, .i32⟩
  | .hbm, ⟨72, _⟩ => ⟨S256, .i32⟩
  | .hbm, ⟨73, _⟩ => ⟨S256, .i32⟩
  | .hbm, ⟨74, _⟩ => ⟨S256x1, .i32⟩
  | .hbm, ⟨75, _⟩ => ⟨S256, .i32⟩
  | .hbm, ⟨76, _⟩ => ⟨S1x256, .i32⟩
  | .hbm, ⟨77, _⟩ => ⟨S256x256, .i32⟩
  | .hbm, ⟨78, _⟩ => ⟨S256x256, .i32⟩
  | .hbm, ⟨79, _⟩ => ⟨S256x256, .i1⟩
  | .hbm, ⟨80, _⟩ => ⟨S256x256, .bf16⟩
  | .hbm, ⟨81, _⟩ => ⟨S16x2304x1024, .bf16⟩
  | .hbm, ⟨82, _⟩ => ⟨S16x2304x256, .bf16⟩
  | .hbm, ⟨83, _⟩ => ⟨S16x2304x256, .bf16⟩
  | .local _ .vmem, ⟨0, _⟩ => ⟨S256x1024, .f32⟩
  | .local _ .vmem, ⟨1, _⟩ => ⟨S256x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S256x256, .bf16⟩
  | .local _ .vmem, ⟨7, _⟩ => ⟨S1024x1536, .bf16⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S1x128, .f32⟩
  | .local _ .vmem, ⟨15, _⟩ => ⟨S1x128, .f32⟩
  | .local _ .vmem, ⟨16, _⟩ => ⟨S16x16x1024, .bf16⟩
  | .local _ .vmem, ⟨17, _⟩ => ⟨S16x16x1024, .bf16⟩
  | .local _ .vmem, ⟨18, _⟩ => ⟨S16x16x256, .bf16⟩
  | .local _ .vmem, ⟨19, _⟩ => ⟨S16x16x256, .bf16⟩
  | .local _ .vmem, ⟨20, _⟩ => ⟨S16x16x256, .bf16⟩
  | .local _ .vmem, ⟨21, _⟩ => ⟨S16x16x256, .bf16⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_1 : Ref sig .tc := ⟨.hbm, 38, rfl⟩
abbrev main_call0_v5 : Ref sig .tc := ⟨.hbm, 39, rfl⟩
abbrev main_call0_v6 : Ref sig .tc := ⟨.hbm, 40, rfl⟩
abbrev main_call0_c_2 : Ref sig .tc := ⟨.hbm, 41, rfl⟩
abbrev main_call0_v7 : Ref sig .tc := ⟨.hbm, 42, rfl⟩
abbrev main_call0_v8 : Ref sig .tc := ⟨.hbm, 43, rfl⟩
abbrev main_call0_c_3 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_v18 : Ref sig .tc := ⟨.hbm, 51, rfl⟩
abbrev main_c_3 : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30_0 : Ref sig .tc := ⟨.hbm, 81, rfl⟩
abbrev main_v30_1 : Ref sig .tc := ⟨.hbm, 82, rfl⟩
abbrev main_v30_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x16x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvReferenceIdeal.lean ====
abbrev S36864x1024 : Shape := ⟨2, ![36864, 1024]⟩
abbrev S2x16x1024 : Shape := ⟨3, ![2, 16, 1024]⟩
abbrev S1024x1536 : Shape := ⟨2, ![1024, 1536]⟩
abbrev S2048x2x32 : Shape := ⟨3, ![2048, 2, 32]⟩
abbrev S128 : Shape := ⟨1, ![128]⟩
abbrev S2304x16x1024 : Shape := ⟨3, ![2304, 16, 1024]⟩
abbrev S2048x16x1024 : Shape := ⟨3, ![2048, 16, 1024]⟩
abbrev S1x16x1024 : Shape := ⟨3, ![1, 16, 1024]⟩
abbrev S16x1024 : Shape := ⟨2, ![16, 1024]⟩
abbrev S_ : Shape := ⟨0, ![]⟩
abbrev S256x16x1024 : Shape := ⟨3, ![256, 16, 1024]⟩
abbrev S16x2304x1024 : Shape := ⟨3, ![16, 2304, 1024]⟩
abbrev S16x2304x1536 : Shape := ⟨3, ![16, 2304, 1536]⟩
abbrev S16x2304x256 : Shape := ⟨3, ![16, 2304, 256]⟩
abbrev S16x2304x8x128 : Shape := ⟨4, ![16, 2304, 8, 128]⟩
abbrev S16x2304x8 : Shape := ⟨3, ![16, 2304, 8]⟩
abbrev S16x2304x8x1 : Shape := ⟨4, ![16, 2304, 8, 1]⟩
abbrev S1x1x1x128 : Shape := ⟨4, ![1, 1, 1, 128]⟩
abbrev S16x2304x2x128 : Shape := ⟨4, ![16, 2304, 2, 128]⟩
abbrev S16x2304x2 : Shape := ⟨3, ![16, 2304, 2]⟩
abbrev S16x2304x2x1 : Shape := ⟨4, ![16, 2304, 2, 1]⟩
abbrev S16x2048x8x128 : Shape := ⟨4, ![16, 2048, 8, 128]⟩
abbrev S16x2048x8x2x2x32 : Shape := ⟨6, ![16, 2048, 8, 2, 2, 32]⟩
abbrev S16x2048x8x2x1x32 : Shape := ⟨6, ![16, 2048, 8, 2, 1, 32]⟩
abbrev S16x2048x8x2x32 : Shape := ⟨5, ![16, 2048, 8, 2, 32]⟩
abbrev S1x2048x1x2x32 : Shape := ⟨5, ![1, 2048, 1, 2, 32]⟩
abbrev S16x256x8x128 : Shape := ⟨4, ![16, 256, 8, 128]⟩
abbrev S16x2048x2x128 : Shape := ⟨4, ![16, 2048, 2, 128]⟩
abbrev S16x2048x2x2x2x32 : Shape := ⟨6, ![16, 2048, 2, 2, 2, 32]⟩
abbrev S16x2048x2x2x1x32 : Shape := ⟨6, ![16, 2048, 2, 2, 1, 32]⟩
abbrev S16x2048x2x2x32 : Shape := ⟨5, ![16, 2048, 2, 2, 32]⟩
abbrev S16x256x2x128 : Shape := ⟨4, ![16, 256, 2, 128]⟩

abbrev nBuf : Space → Nat
  | .hbm => 130
  | .vmem => 0
  | .smem => 0
  | _ => 0

abbrev hbmTy0_0 (i : Nat) : BufTy := match i % 128 with
  | 0 => ⟨S36864x1024, .f32⟩
  | 1 => ⟨S2x16x1024, .f32⟩
  | 2 => ⟨S2x16x1024, .f32⟩
  | 3 => ⟨S1024x1536, .f32⟩
  | 4 => ⟨S2048x2x32, .f32⟩
  | 5 => ⟨S2048x2x32, .f32⟩
  | 6 => ⟨S128, .f32⟩
  | 7 => ⟨S128, .f32⟩
  | 8 => ⟨S2304x16x1024, .f32⟩
  | 9 => ⟨S2048x16x1024, .f32⟩
  | 10 => ⟨S1x16x1024, .f32⟩
  | 11 => ⟨S16x1024, .f32⟩
  | 12 => ⟨S_, .f32⟩
  | 13 => ⟨S16x1024, .f32⟩
  | 14 => ⟨S16x1024, .f32⟩
  | 15 => ⟨S1x16x1024, .f32⟩
  | 16 => ⟨S2048x16x1024, .f32⟩
  | 17 => ⟨S2048x16x1024, .f32⟩
  | 18 => ⟨S1x16x1024, .f32⟩
  | 19 => ⟨S16x1024, .f32⟩
  | 20 => ⟨S1x16x1024, .f32⟩
  | 21 => ⟨S2048x16x1024, .f32⟩
  | 22 => ⟨S2048x16x1024, .f32⟩
  | 23 => ⟨S256x16x1024, .f32⟩
  | 24 => ⟨S1x16x1024, .f32⟩
  | 25 => ⟨S16x1024, .f32⟩
  | 26 => ⟨S_, .f32⟩
  | 27 => ⟨S16x1024, .f32⟩
  | 28 => ⟨S16x1024, .f32⟩
  | 29 => ⟨S1x16x1024, .f32⟩
  | 30 => ⟨S256x16x1024, .f32⟩
  | 31 => ⟨S256x16x1024, .f32⟩
  | 32 => ⟨S1x16x1024, .f32⟩
  | 33 => ⟨S16x1024, .f32⟩
  | 34 => ⟨S1x16x1024, .f32⟩
  | 35 => ⟨S256x16x1024, .f32⟩
  | 36 => ⟨S256x16x1024, .f32⟩
  | 37 => ⟨S2304x16x1024, .f32⟩
  | 38 => ⟨S16x2304x1024, .f32⟩
  | 39 => ⟨S16x2304x1536, .f32⟩
  | 40 => ⟨S16x2304x1024, .f32⟩
  | 41 => ⟨S16x2304x256, .f32⟩
  | 42 => ⟨S16x2304x256, .f32⟩
  | 43 => ⟨S16x2304x8x128, .f32⟩
  | 44 => ⟨S16x2304x8x128, .f32⟩
  | 45 => ⟨S_, .f32⟩
  | 46 => ⟨S16x2304x8, .f32⟩
  | 47 => ⟨S16x2304x8x1, .f32⟩
  | 48 => ⟨S_, .f32⟩
  | 49 => ⟨S16x2304x8x1, .f32⟩
  | 50 => ⟨S16x2304x8x1, .f32⟩
  | 51 => ⟨S_, .f32⟩
  | 52 => ⟨S16x2304x8x1, .f32⟩
  | 53 => ⟨S16x2304x8x1, .f32⟩
  | 54 => ⟨S16x2304x8x1, .f32⟩
  | 55 => ⟨S16x2304x8x128, .f32⟩
  | 56 => ⟨S16x2304x8x128, .f32⟩
  | 57 => ⟨S1x1x1x128, .f32⟩
  | 58 => ⟨S16x2304x8x128, .f32⟩
  | 59 => ⟨S16x2304x8x128, .f32⟩
  | 60 => ⟨S16x2304x2x128, .f32⟩
  | 61 => ⟨S16x2304x2x128, .f32⟩
  | 62 => ⟨S_, .f32⟩
  | 63 => ⟨S16x2304x2, .f32⟩
  | 64 => ⟨S16x2304x2x1, .f32⟩
  | 65 => ⟨S_, .f32⟩
  | 66 => ⟨S16x2304x2x1, .f32⟩
  | 67 => ⟨S16x2304x2x1, .f32⟩
  | 68 => ⟨S_, .f32⟩
  | 69 => ⟨S16x2304x2x1, .f32⟩
  | 70 => ⟨S16x2304x2x1, .f32⟩
  | 71 => ⟨S16x2304x2x1, .f32⟩
  | 72 => ⟨S16x2304x2x128, .f32⟩
  | 73 => ⟨S16x2304x2x128, .f32⟩
  | 74 => ⟨S1x1x1x128, .f32⟩
  | 75 => ⟨S16x2304x2x128, .f32⟩
  | 76 => ⟨S16x2304x2x128, .f32⟩
  | 77 => ⟨S16x2048x8x128, .f32⟩
  | 78 => ⟨S16x2048x8x2x2x32, .f32⟩
  | 79 => ⟨S16x2048x8x2x1x32, .f32⟩
  | 80 => ⟨S16x2048x8x2x32, .f32⟩
  | 81 => ⟨S16x2048x8x2x1x32, .f32⟩
  | 82 => ⟨S16x2048x8x2x32, .f32⟩
  | 83 => ⟨S1x2048x1x2x32, .f32⟩
  | 84 => ⟨S1x2048x1x2x32, .f32⟩
  | 85 => ⟨S16x2048x8x2x32, .f32⟩
  | 86 => ⟨S16x2048x8x2x32, .f32⟩
  | 87 => ⟨S16x2048x8x2x32, .f32⟩
  | 88 => ⟨S16x2048x8x2x32, .f32⟩
  | 89 => ⟨S16x2048x8x2x32, .f32⟩
  | 90 => ⟨S16x2048x8x2x32, .f32⟩
  | 91 => ⟨S16x2048x8x2x32, .f32⟩
  | 92 => ⟨S16x2048x8x2x32, .f32⟩
  | 93 => ⟨S16x2048x8x2x32, .f32⟩
  | 94 => ⟨S16x2048x8x2x32, .f32⟩
  | 95 => ⟨S16x2048x8x2x1x32, .f32⟩
  | 96 => ⟨S16x2048x8x2x1x32, .f32⟩
  | 97 => ⟨S16x2048x8x2x2x32, .f32⟩
  | 98 => ⟨S16x2048x8x128, .f32⟩
  | 99 => ⟨S16x256x8x128, .f32⟩
  | 100 => ⟨S16x2304x8x128, .f32⟩
  | 101 => ⟨S16x2048x2x128, .f32⟩
  | 102 => ⟨S16x2048x2x2x2x32, .f32⟩
  | 103 => ⟨S16x2048x2x2x1x32, .f32⟩
  | 104 => ⟨S16x2048x2x2x32, .f32⟩
  | 105 => ⟨S16x2048x2x2x1x32, .f32⟩
  | 106 => ⟨S16x2048x2x2x32, .f32⟩
  | 107 => ⟨S1x2048x1x2x32, .f32⟩
  | 108 => ⟨S1x2048x1x2x32, .f32⟩
  | 109 => ⟨S16x2048x2x2x32, .f32⟩
  | 110 => ⟨S16x2048x2x2x32, .f32⟩
  | 111 => ⟨S16x2048x2x2x32, .f32⟩
  | 112 => ⟨S16x2048x2x2x32, .f32⟩
  | 113 => ⟨S16x2048x2x2x32, .f32⟩
  | 114 => ⟨S16x2048x2x2x32, .f32⟩
  | 115 => ⟨S16x2048x2x2x32, .f32⟩
  | 116 => ⟨S16x2048x2x2x32, .f32⟩
  | 117 => ⟨S16x2048x2x2x32, .f32⟩
  | 118 => ⟨S16x2048x2x2x32, .f32⟩
  | 119 => ⟨S16x2048x2x2x1x32, .f32⟩
  | 120 => ⟨S16x2048x2x2x1x32, .f32⟩
  | 121 => ⟨S16x2048x2x2x2x32, .f32⟩
  | 122 => ⟨S16x2048x2x128, .f32⟩
  | 123 => ⟨S16x256x2x128, .f32⟩
  | 124 => ⟨S16x2304x2x128, .f32⟩
  | 125 => ⟨S16x2304x1024, .f32⟩
  | 126 => ⟨S16x2304x1024, .bf16⟩
  | 127 => ⟨S16x2304x256, .f32⟩
  | _ => ⟨S36864x1024, .f32⟩

abbrev hbmTy0_1 (i : Nat) : BufTy := match i % 128 with
  | 0 => ⟨S16x2304x256, .bf16⟩
  | 1 => ⟨S16x2304x256, .bf16⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩

abbrev nD : Nat := 1
abbrev τ : Topo := Topo.v7x

variable {F : FTy → Type} [FloatOps F]
-- ==== AttnOut.lean ====
abbrev S16x2304x1024 : Shape := ⟨3, ![16, 2304, 1024]⟩
abbrev S36864x1024 : Shape := ⟨2, ![36864, 1024]⟩
abbrev S2x16x1024 : Shape := ⟨3, ![2, 16, 1024]⟩
abbrev S1024x1024 : Shape := ⟨2, ![1024, 1024]⟩
abbrev S1024 : Shape := ⟨1, ![1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16x16x1024 : Shape := ⟨3, ![16, 16, 1024]⟩
abbrev S256x1024 : Shape := ⟨2, ![256, 1024]⟩
abbrev S1x16x1024 : Shape := ⟨3, ![1, 16, 1024]⟩
abbrev S16x1024 : Shape := ⟨2, ![16, 1024]⟩

abbrev nBuf : Space → Nat
  | .hbm => 63
  | .vmem => 12
  | .smem => 0
  | _ => 0

abbrev bufTy : (tb : Table) → Fin (tcTables nBuf tb) → BufTy
  | .hbm, ⟨0, _⟩ => ⟨S16x2304x1024, .bf16⟩
  | .hbm, ⟨1, _⟩ => ⟨S36864x1024, .f32⟩
  | .hbm, ⟨2, _⟩ => ⟨S2x16x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S_, .i1⟩
  | .hbm, ⟨26, _⟩ => ⟨S256, .i1⟩
  | .hbm, ⟨27, _⟩ => ⟨S256, .i1⟩
  | .hbm, ⟨28, _⟩ => ⟨S256, .i1⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S256, .i32⟩
  | .hbm, ⟨44, _⟩ => ⟨S256, .i32⟩
  | .hbm, ⟨45, _⟩ => ⟨S_, .i32⟩
  | .hbm, ⟨46, _⟩ => ⟨S256, .i32⟩
  | .hbm, ⟨47, _⟩ => ⟨S256, .i1⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S256, .i32⟩
  | .hbm, ⟨56, _⟩ => ⟨S1x256, .i32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .bf16⟩
  | .hbm, ⟨61, _⟩ => ⟨S256x256, .bf16⟩
  | .hbm, ⟨62, _⟩ => ⟨S36864x1024, .f32⟩
  | .local _ .vmem, ⟨0, _⟩ => ⟨S16x16x1024, .bf16⟩
  | .local _ .vmem, ⟨1, _⟩ => ⟨S16x16x1024, .bf16⟩
  | .local _ .vmem, ⟨2, _⟩ => ⟨S256x1024, .f32⟩
  | .local _ .vmem, ⟨3, _⟩ => ⟨S256x1024, .f32⟩
  | .local _ .vmem, ⟨4, _⟩ => ⟨S1x16x1024, .f32⟩
  | .local _ .vmem, ⟨5, _⟩ => ⟨S1x16x1024, .f32⟩
  | .local _ .vmem, ⟨6, _⟩ => ⟨S256x256, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![144], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnOutReferenceIdeal.lean ====
abbrev S16x2304x1024 : Shape := ⟨3, ![16, 2304, 1024]⟩
abbrev S36864x1024 : Shape := ⟨2, ![36864, 1024]⟩
abbrev S2x16x1024 : Shape := ⟨3, ![2, 16, 1024]⟩
abbrev S1024x1024 : Shape := ⟨2, ![1024, 1024]⟩
abbrev S1024 : Shape := ⟨1, ![1024]⟩
abbrev S2304x16x1024 : Shape := ⟨3, ![2304, 16, 1024]⟩
abbrev S1x16x1024 : Shape := ⟨3, ![1, 16, 1024]⟩
abbrev S16x1024 : Shape := ⟨2, ![16, 1024]⟩
abbrev S2048x16x1024 : Shape := ⟨3, ![2048, 16, 1024]⟩
abbrev S256x16x1024 : Shape := ⟨3, ![256, 16, 1024]⟩
abbrev S_ : Shape := ⟨0, ![]⟩
abbrev S36864 : Shape := ⟨1, ![36864]⟩
abbrev S36864x1 : Shape := ⟨2, ![36864, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x2304x1024, .bf16⟩
  | .hbm, ⟨1, _⟩ => ⟨S36864x1024, .f32⟩
  | .hbm, ⟨2, _⟩ => ⟨S2x16x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16x2304x1024, .f32⟩
  | .hbm, ⟨7, _⟩ => ⟨S16x2304x1024, .f32⟩
  | .hbm, ⟨8, _⟩ => ⟨S2304x16x1024, .f32⟩
  | .hbm, ⟨9, _⟩ => ⟨S1x16x1024, .f32⟩
  | .hbm, ⟨10, _⟩ => ⟨S16x1024, .f32⟩
  | .hbm, ⟨11, _⟩ => ⟨S2048x16x1024, .f32⟩
  | .hbm, ⟨12, _⟩ => ⟨S1x16x1024, .f32⟩
  | .hbm, ⟨13, _⟩ => ⟨S2048x16x1024, .f32⟩
  | .hbm, ⟨14, _⟩ => ⟨S2048x16x1024, .f32⟩
  | .hbm, ⟨15, _⟩ => ⟨S1x16x1024, .f32⟩
  | .hbm, ⟨16, _⟩ => ⟨S16x1024, .f32⟩
  | .hbm, ⟨17, _⟩ => ⟨S256x16x1024, .f32⟩
  | .hbm, ⟨18, _⟩ => ⟨S1x16x1024, .f32⟩
  | .hbm, ⟨19, _⟩ => ⟨S256x16x1024, .f32⟩
  | .hbm, ⟨20, _⟩ => ⟨S256x16x1024, .f32⟩
  | .hbm, ⟨21, _⟩ => ⟨S2304x16x1024, .f32⟩
  | .hbm, ⟨22, _⟩ => ⟨S_, .f32⟩
  | .hbm, ⟨23, _⟩ => ⟨S36864x1024, .f32⟩
  | .hbm, ⟨24, _⟩ => ⟨S36864x1024, .f32⟩
  | .hbm, ⟨25, _⟩ => ⟨S36864x1024, .f32⟩
  | .hbm, ⟨26, _⟩ => ⟨S36864x1024, .f32⟩
  | .hbm, ⟨27, _⟩ => ⟨S_, .f32⟩
  | .hbm, ⟨28, _⟩ => ⟨S36864, .f32⟩
  | .hbm, ⟨29, _⟩ => ⟨S36864x1, .f32⟩
  | .hbm, ⟨30, _⟩ => ⟨S_, .f32⟩
  | .hbm, ⟨31, _⟩ => ⟨S36864x1, .f32⟩
  | .hbm, ⟨32, _⟩ => ⟨S36864x1, .f32⟩
  | .hbm, ⟨33, _⟩ => ⟨S36864x1024, .f32⟩
  | .hbm, ⟨34, _⟩ => ⟨S36864x1024, .f32⟩
  | .hbm, ⟨35, _⟩ => ⟨S36864x1024, .f32⟩
  | .hbm, ⟨36, _⟩ => ⟨S_, .f32⟩
  | .hbm, ⟨37, _⟩ => ⟨S36864, .f32⟩
  | .hbm, ⟨38, _⟩ => ⟨S36864x1, .f32⟩
  | .hbm, ⟨39, _⟩ => ⟨S_, .f32⟩
  | .hbm, ⟨40, _⟩ => ⟨S36864x1, .f32⟩
  | .hbm, ⟨41, _⟩ => ⟨S36864x1, .f32⟩
  | .hbm, ⟨42, _⟩ => ⟨S36864x1024, .f32⟩
  | .hbm, ⟨43, _⟩ => ⟨S36864x1024, .f32⟩
  | .hbm, ⟨44, _⟩ => ⟨S_, .f32⟩
  | .hbm, ⟨45, _⟩ => ⟨S36864x1, .f32⟩
  | .hbm, ⟨46, _⟩ => ⟨S36864x1, .f32⟩
  | .hbm, ⟨47, _⟩ => ⟨S36864x1, .f32⟩
  | .hbm, ⟨48, _⟩ => ⟨S36864x1024, .f32⟩
  | .hbm, ⟨49, _⟩ => ⟨S36864x1024, .f32⟩
  | .hbm, ⟨50, _⟩ => ⟨S1x1024, .f32⟩
  | .hbm, ⟨51, _⟩ => ⟨S36864x1024, .f32⟩
  | .hbm, ⟨52, _⟩ => ⟨S36864x1024, .f32⟩
  | .hbm, ⟨53, _⟩ => ⟨S1x1024, .f32⟩
  | .hbm, ⟨54, _⟩ => ⟨S36864x1024, .f32⟩
  | .hbm, ⟨55, _⟩ => ⟨S36864x1024, .f32⟩
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== OutLast.lean ====
abbrev S16x2048x1024 : Shape := ⟨3, ![16, 2048, 1024]⟩
abbrev S36864x1024 : Shape := ⟨2, ![36864, 1024]⟩
abbrev S2x16x1024 : Shape := ⟨3, ![2, 16, 1024]⟩
abbrev S1024x1024 : Shape := ⟨2, ![1024, 1024]⟩
abbrev S1024 : Shape := ⟨1, ![1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32768x1024 : Shape := ⟨2, ![32768, 1024]⟩
abbrev S16x16x1024 : Shape := ⟨3, ![16, 16, 1024]⟩
abbrev S256x1024 : Shape := ⟨2, ![256, 1024]⟩
abbrev S1x16x1024 : Shape := ⟨3, ![1, 16, 1024]⟩
abbrev S16x1024 : Shape := ⟨2, ![16, 1024]⟩

abbrev nBuf : Space → Nat
  | .hbm => 63
  | .vmem => 12
  | .smem => 0
  | _ => 0

abbrev bufTy : (tb : Table) → Fin (tcTables nBuf tb) → BufTy
  | .hbm, ⟨0, _⟩ => ⟨S16x2048x1024, .bf16⟩
  | .hbm, ⟨1, _⟩ => ⟨S36864x1024, .f32⟩
  | .hbm, ⟨2, _⟩ => ⟨S2x16x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S_, .i1⟩
  | .hbm, ⟨26, _⟩ => ⟨S256, .i1⟩
  | .hbm, ⟨27, _⟩ => ⟨S256, .i1⟩
  | .hbm, ⟨28, _⟩ => ⟨S256, .i1⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S256, .i32⟩
  | .hbm, ⟨44, _⟩ => ⟨S256, .i32⟩
  | .hbm, ⟨45, _⟩ => ⟨S_, .i32⟩
  | .hbm, ⟨46, _⟩ => ⟨S256, .i32⟩
  | .hbm, ⟨47, _⟩ => ⟨S256, .i1⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S256, .i32⟩
  | .hbm, ⟨56, _⟩ => ⟨S1x256, .i32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .bf16⟩
  | .hbm, ⟨61, _⟩ => ⟨S256x256, .bf16⟩
  | .hbm, ⟨62, _⟩ => ⟨S32768x1024, .f32⟩
  | .local _ .vmem, ⟨0, _⟩ => ⟨S16x16x1024, .bf16⟩
  | .local _ .vmem, ⟨1, _⟩ => ⟨S16x16x1024, .bf16⟩
  | .local _ .vmem, ⟨2, _⟩ => ⟨S256x1024, .f32⟩
  | .local _ .vmem, ⟨3, _⟩ => ⟨S256x1024, .f32⟩
  | .local _ .vmem, ⟨4, _⟩ => ⟨S1x16x1024, .f32⟩
  | .local _ .vmem, ⟨5, _⟩ => ⟨S1x16x1024, .f32⟩
  | .local _ .vmem, ⟨6, _⟩ => ⟨S256x256, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLastReferenceIdeal.lean ====
abbrev S16x2048x1024 : Shape := ⟨3, ![16, 2048, 1024]⟩
abbrev S36864x1024 : Shape := ⟨2, ![36864, 1024]⟩
abbrev S2x16x1024 : Shape := ⟨3, ![2, 16, 1024]⟩
abbrev S1024x1024 : Shape := ⟨2, ![1024, 1024]⟩
abbrev S1024 : Shape := ⟨1, ![1024]⟩
abbrev S1x16x1024 : Shape := ⟨3, ![1, 16, 1024]⟩
abbrev S16x1024 : Shape := ⟨2, ![16, 1024]⟩
abbrev S2048x16x1024 : Shape := ⟨3, ![2048, 16, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S36864x1024, .f32⟩
  | .hbm, ⟨2, _⟩ => ⟨S2x16x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1x16x1024, .f32⟩
  | .hbm, ⟨7, _⟩ => ⟨S16x1024, .f32⟩
  | .hbm, ⟨8, _⟩ => ⟨S16x2048x1024, .f32⟩
  | .hbm, ⟨9, _⟩ => ⟨S16x2048x1024, .f32⟩
  | .hbm, ⟨10, _⟩ => ⟨S2048x16x1024, .f32⟩
  | .hbm, ⟨11, _⟩ => ⟨S1x16x1024, .f32⟩
  | .hbm, ⟨12, _⟩ => ⟨S2048x16x1024, .f32⟩
  | .hbm, ⟨13, _⟩ => ⟨S2048x16x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== LruBwd.lean ====
abbrev S36864x1280 : Shape := ⟨2, ![36864, 1280]⟩
abbrev S36864x1024 : Shape := ⟨2, ![36864, 1024]⟩
abbrev S2x16x1024 : Shape := ⟨3, ![2, 16, 1024]⟩
abbrev S16x80x160 : Shape := ⟨3, ![16, 80, 160]⟩
abbrev S16x160 : Shape := ⟨2, ![16, 160]⟩
abbrev S1280 : Shape := ⟨1, ![1280]⟩
abbrev S1280x1024 : Shape := ⟨2, ![1280, 1024]⟩
abbrev S1024 : Shape := ⟨1, ![1024]⟩
abbrev S8x8 : Shape := ⟨2, ![8, 8]⟩
abbrev S_ : Shape := ⟨0, ![]⟩
abbrev S2x8x80x160 : Shape := ⟨4, ![2, 8, 80, 160]⟩
abbrev S2x8x80x80 : Shape := ⟨4, ![2, 8, 80, 80]⟩
abbrev S2x8x80x1x80 : Shape := ⟨5, ![2, 8, 80, 1, 80]⟩
abbrev S8x1x8x1 : Shape := ⟨4, ![8, 1, 8, 1]⟩
abbrev S1x8x1x8x1 : Shape := ⟨5, ![1, 8, 1, 8, 1]⟩
abbrev S2x8x80x8x80 : Shape := ⟨5, ![2, 8, 80, 8, 80]⟩
abbrev S2x640x640 : Shape := ⟨3, ![2, 640, 640]⟩
abbrev S2x640x1280 : Shape := ⟨3, ![2, 640, 1280]⟩
abbrev S16x80 : Shape := ⟨2, ![16, 80]⟩
abbrev S1x1280 : Shape := ⟨2, ![1, 1280]⟩
abbrev S1x2560 : Shape := ⟨2, ![1, 2560]⟩
abbrev S1x1024 : Shape := ⟨2, ![1, 1024]⟩
abbrev S256x1280 : Shape := ⟨2, ![256, 1280]⟩
abbrev S256x1024 : Shape := ⟨2, ![256, 1024]⟩
abbrev S1x16x1024 : Shape := ⟨3, ![1, 16, 1024]⟩
abbrev S16x1280 : Shape := ⟨2, ![16, 1280]⟩
abbrev S256x640 : Shape := ⟨2, ![256, 640]⟩
abbrev S1x640x1280 : Shape := ⟨3, ![1, 640, 1280]⟩
abbrev S640x1280 : Shape := ⟨2, ![640, 1280]⟩
abbrev S16x1024 : Shape := ⟨2, ![16, 1024]⟩
abbrev S16x16x1024 : Shape := ⟨3, ![16, 16, 1024]⟩
abbrev S256 : Shape := ⟨1, ![256]⟩
abbrev S256x1 : Shape := ⟨2, ![256, 1]⟩

abbrev nBuf : Space → Nat
  | .hbm => 47
  | .vmem => 22
  | .smem => 0
  | _ => 0

abbrev bufTy : (tb : Table) → Fin (tcTables nBuf tb) → BufTy
  | .hbm, ⟨0, _⟩ => ⟨S36864x1280, .f32⟩
  | .hbm, ⟨1, _⟩ => ⟨S36864x1280, .f32⟩
  | .hbm, ⟨2, _⟩ => ⟨S36864x1280, .f32⟩
  | .hbm, ⟨3, _⟩ => ⟨S36864x1024, .f32⟩
  | .hbm, ⟨4, _⟩ => ⟨S2x16x1024, .f32⟩
  | .hbm, ⟨5, _⟩ => ⟨S16x80x160, .f32⟩
  | .hbm, ⟨6, _⟩ => ⟨S16x160, .f32⟩
  | .hbm, ⟨7, _⟩ => ⟨S1280, .f32⟩
  | .hbm, ⟨8, _⟩ => ⟨S1280x1024, .f32⟩
  | .hbm, ⟨9, _⟩ => ⟨S1024, .f32⟩
  | .hbm, ⟨10, _⟩ => ⟨S1024, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S2x8x80x160, .f32⟩
  | .hbm, ⟨19, _⟩ => ⟨S2x8x80x80, .f32⟩
  | .hbm, ⟨20, _⟩ => ⟨S2x8x80x1x80, .f32⟩
  | .hbm, ⟨21, _⟩ => ⟨S8x1x8x1, .f32⟩
  | .hbm, ⟨22, _⟩ => ⟨S1x8x1x8x1, .f32⟩
  | .hbm, ⟨23, _⟩ => ⟨S2x8x80x8x80, .f32⟩
  | .hbm, ⟨24, _⟩ => ⟨S2x8x80x8x80, .f32⟩
  | .hbm, ⟨25, _⟩ => ⟨S2x8x80x8x80, .f32⟩
  | .hbm, ⟨26, _⟩ => ⟨S2x640x640, .f32⟩
  | .hbm, ⟨27, _⟩ => ⟨S2x8x80x80, .f32⟩
  | .hbm, ⟨28, _⟩ => ⟨S2x8x80x1x80, .f32⟩
  | .hbm, ⟨29, _⟩ => ⟨S8x1x8x1, .f32⟩
  | .hbm, ⟨30, _⟩ => ⟨S1x8x1x8x1, .f32⟩
  | .hbm, ⟨31, _⟩ => ⟨S2x8x80x8x80, .f32⟩
  | .hbm, ⟨32, _⟩ => ⟨S2x8x80x8x80, .f32⟩
  | .hbm, ⟨33, _⟩ => ⟨S2x8x80x8x80, .f32⟩
  | .hbm, ⟨34, _⟩ => ⟨S2x640x640, .f32⟩
  | .hbm, ⟨35, _⟩ => ⟨S2x640x1280, .f32⟩
  | .hbm, ⟨36, _⟩ => ⟨S2x640x1280, .bf16⟩
  | .hbm, ⟨37, _⟩ => ⟨S16x80, .f32⟩
  | .hbm, ⟨38, _⟩ => ⟨S1x1280, .f32⟩
  | .hbm, ⟨39, _⟩ => ⟨S16x80, .f32⟩
  | .hbm, ⟨40, _⟩ => ⟨S1x1280, .f32⟩
  | .hbm, ⟨41, _⟩ => ⟨S1x2560, .f32⟩
  | .hbm, ⟨42, _⟩ => ⟨S1x1280, .f32⟩
  | .hbm, ⟨43, _⟩ => ⟨S1280x1024, .bf16⟩
  | .hbm, ⟨44, _⟩ => ⟨S1x1024, .f32⟩
  | .hbm, ⟨45, _⟩ => ⟨S1x1024, .f32⟩
  | .hbm, ⟨46, _⟩ => ⟨S36864x1024, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1024, .f32⟩
  | .local _ .vmem, ⟨7, _⟩ => ⟨S256x1024, .f32⟩
  | .local _ .vmem, ⟨8, _⟩ => ⟨S1x16x1024, .f32⟩
  | .local _ .vmem, ⟨9, _⟩ => ⟨S1x16x1024, .f32⟩
  | .local _ .vmem, ⟨10, _⟩ => ⟨S2x640x1280, .bf16⟩
  | .local _ .vmem, ⟨11, _⟩ => ⟨S1x2560, .f32⟩
  | .local _ .vmem, ⟨12, _⟩ => ⟨S1x1280, .f32⟩
  | .local _ .vmem, ⟨13, _⟩ => ⟨S1280x1024, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1280, .f32⟩
  | .local _ .vmem, ⟨19, _⟩ => ⟨S256x1280, .f32⟩
  | .local _ .vmem, ⟨20, _⟩ => ⟨S256x1280, .f32⟩
  | .local _ .vmem, ⟨21, _⟩ => ⟨S16x1280, .f32⟩
  | _, _ => ⟨S36864x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c15_i32 : BitVec 32 := 15#32
  let v1 : BitVec 32 := Scalar.subi c15_i32 arg0
  let c128_i32 : BitVec 32 := 128#32
  let v2 : BitVec 32 := Scalar.addi c128_i32 v1
  let c16_i32_0 : BitVec 32 := 16#32
  let v3 : BitVec 32 := Scalar.subi arg0 c16_i32_0
  let c127_i32 : BitVec 32 := 127#32
  let v4 : BitVec 32 := Scalar.subi c127_i32 v3
  let v5 : BitVec 32 := Scalar.select v0 v2 v4
  let c0_i32 : BitVec 32 := 0#32
  let c0_i32_1 : BitVec 32 := 0#32
  ![v5.toNat, c0_i32.toNat]

def cc0_transform_1 (i : grid0.Coords) : Fin 2 → Nat :=
  let arg0 : BitVec 32 := BitVec.ofNat 32 (i 0).val
  let c16_i32 : BitVec 32 := 16#32
  let v0 : BitVec 1 := Scalar.cmpi .slt arg0 c16_i32
  let c15_i32 : BitVec 32 := 15#32
  let v1 : BitVec 32 := Scalar.subi c15_i32 arg0
  let c128_i32 : BitVec 32 := 128#32
  let v2 : BitVec 32 := Scalar.addi c128_i32 v1
  let c16_i32_0 : BitVec 32 := 16#32
  let v3 : BitVec 32 := Scalar.subi arg0 c16_i32_0
  let c127_i32 : BitVec 32 := 127#32
  let v4 : BitVec 32 := Scalar.subi c127_i32 v3
  let v5 : BitVec 32 := Scalar.select v0 v2 v4
  let c0_i32 : BitVec 32 := 0#32
  let c0_i32_1 : BitVec 32 := 0#32
  ![v5.toNat, c0_i32.toNat]

def cc0_transform_2 (i : grid0.Coords) : Fin 2 → Nat :=
  let arg0 : BitVec 32 := BitVec.ofNat 32 (i 0).val
  let c16_i32 : BitVec 32 := 16#32
  let v0 : BitVec 1 := Scalar.cmpi .slt arg0 c16_i32
  let c15_i32 : BitVec 32 := 15#32
  let v1 : BitVec 32 := Scalar.subi c15_i32 arg0
  let c128_i32 : BitVec 32 := 128#32
  let v2 : BitVec 32 := Scalar.addi c128_i32 v1
  let c16_i32_0 : BitVec 32 := 16#32
  let v3 : BitVec 32 := Scalar.subi arg0 c16_i32_0
  let c127_i32 : BitVec 32 := 127#32
  let v4 : BitVec 32 := Scalar.subi c127_i32 v3
  let v5 : BitVec 32 := Scalar.select v0 v2 v4
  let c0_i32 : BitVec 32 := 0#32
  let c0_i32_1 : BitVec 32 := 0#32
  ![v5.toNat, c0_i32.toNat]

def cc0_transform_3 (i : grid0.Coords) : Fin 2 → Nat :=
  let arg0 : BitVec 32 := BitVec.ofNat 32 (i 0).val
  let c16_i32 : BitVec 32 := 16#32
  let v0 : BitVec 1 := Scalar.cmpi .slt arg0 c16_i32
  let c15_i32 : BitVec 32 := 15#32
  let v1 : BitVec 32 := Scalar.subi c15_i32 arg0
  let c128_i32 : BitVec 32 := 128#32
  let v2 : BitVec 32 := Scalar.addi c128_i32 v1
  let c16_i32_0 : BitVec 32 := 16#32
  let v3 : BitVec 32 := Scalar.subi arg0 c16_i32_0
  let c127_i32 : BitVec 32 := 127#32
  let v4 : BitVec 32 := Scalar.subi c127_i32 v3
  let v5 : BitVec 32 := Scalar.select v0 v2 v4
  let c0_i32 : BitVec 32 := 0#32
  let c0_i32_1 : BitVec 32 := 0#32
  ![v5.toNat, c0_i32.toNat]

def cc0_transform_4 (i : grid0.Coords) : Fin 3 → Nat :=
  let arg0 : BitVec 32 := BitVec.ofNat 32 (i 0).val
  let c16_i32 : BitVec 32 := 16#32
  let v0 : BitVec 1 := Scalar.cmpi .slt arg0 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c16_i32 : BitVec 32 := 16#32
  let v0 : BitVec 1 := Scalar.cmpi .slt arg0 c16_i32
  let c15_i32 : BitVec 32 := 15#32
  let v1 : BitVec 32 := Scalar.subi c15_i32 arg0
  let c128_i32 : BitVec 32 := 128#32
  let v2 : BitVec 32 := Scalar.addi c128_i32 v1
  let c16_i32_0 : BitVec 32 := 16#32
  let v3 : BitVec 32 := Scalar.subi arg0 c16_i32_0
  let c127_i32 : BitVec 32 := 127#32
  let v4 : BitVec 32 := Scalar.subi c127_i32 v3
  let v5 : BitVec 32 := Scalar.select v0 v2 v4
  let c0_i32 : BitVec 32 := 0#32
  let c0_i32_1 : BitVec 32 := 0#32
  ![v5.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x640x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1280x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LruBwdReferenceIdeal.lean ====
abbrev S36864x1280 : Shape := ⟨2, ![36864, 1280]⟩
abbrev S36864x1024 : Shape := ⟨2, ![36864, 1024]⟩
abbrev S2x16x1024 : Shape := ⟨3, ![2, 16, 1024]⟩
abbrev S16x80x160 : Shape := ⟨3, ![16, 80, 160]⟩
abbrev S16x160 : Shape := ⟨2, ![16, 160]⟩
abbrev S1280 : Shape := ⟨1, ![1280]⟩
abbrev S1280x1024 : Shape := ⟨2, ![1280, 1024]⟩
abbrev S1024 : Shape := ⟨1, ![1024]⟩
abbrev S2304x16x16x80 : Shape := ⟨4, ![2304, 16, 16, 80]⟩
abbrev S16x160x2304x16 : Shape := ⟨4, ![16, 160, 2304, 16]⟩
abbrev S2304x16x16x160 : Shape := ⟨4, ![2304, 16, 16, 160]⟩
abbrev S1x1x16x160 : Shape := ⟨4, ![1, 1, 16, 160]⟩
abbrev S_ : Shape := ⟨0, ![]⟩
abbrev S2304x16x1280 : Shape := ⟨3, ![2304, 16, 1280]⟩
abbrev S1x1x1280 : Shape := ⟨3, ![1, 1, 1280]⟩
abbrev S16x1280 : Shape := ⟨2, ![16, 1280]⟩
abbrev S1x16x1280 : Shape := ⟨3, ![1, 16, 1280]⟩
abbrev S2304x16x1024 : Shape := ⟨3, ![2304, 16, 1024]⟩
abbrev S1x16x1024 : Shape := ⟨3, ![1, 16, 1024]⟩
abbrev S16x1024 : Shape := ⟨2, ![16, 1024]⟩
abbrev S2048x16x1024 : Shape := ⟨3, ![2048, 16, 1024]⟩
abbrev S256x16x1024 : Shape := ⟨3, ![256, 16, 1024]⟩
abbrev S36864 : Shape := ⟨1, ![36864]⟩
abbrev S36864x1 : Shape := ⟨2, ![36864, 1]⟩
abbrev S1x1024 : Shape := ⟨2, ![1, 1024]⟩

abbrev nBuf : Space → Nat
  | .hbm => 157
  | .vmem => 0
  | .smem => 0
  | _ => 0

abbrev hbmTy0_0 (i : Nat) : BufTy := match i % 128 with
  | 0 => ⟨S36864x1280, .f32⟩
  | 1 => ⟨S36864x1280, .f32⟩
  | 2 => ⟨S36864x1280, .f32⟩
  | 3 => ⟨S36864x1024, .f32⟩
  | 4 => ⟨S2x16x1024, .f32⟩
  | 5 => ⟨S16x80x160, .f32⟩
  | 6 => ⟨S16x160, .f32⟩
  | 7 => ⟨S1280, .f32⟩
  | 8 => ⟨S1280x1024, .f32⟩
  | 9 => ⟨S1024, .f32⟩
  | 10 => ⟨S1024, .f32⟩
  | 11 => ⟨S2304x16x16x80, .f32⟩
  | 12 => ⟨S16x160x2304x16, .f32⟩
  | 13 => ⟨S2304x16x16x160, .f32⟩
  | 14 => ⟨S1x1x16x160, .f32⟩
  | 15 => ⟨S2304x16x16x160, .f32⟩
  | 16 => ⟨S2304x16x16x160, .f32⟩
  | 17 => ⟨S2304x16x16x80, .f32⟩
  | 18 => ⟨S2304x16x16x80, .f32⟩
  | 19 => ⟨S2304x16x16x80, .f32⟩
  | 20 => ⟨S_, .f32⟩
  | 21 => ⟨S2304x16x16x80, .f32⟩
  | 22 => ⟨S2304x16x16x80, .f32⟩
  | 23 => ⟨S_, .f32⟩
  | 24 => ⟨S2304x16x16x80, .f32⟩
  | 25 => ⟨S2304x16x16x80, .f32⟩
  | 26 => ⟨S2304x16x1280, .f32⟩
  | 27 => ⟨S2304x16x16x80, .f32⟩
  | 28 => ⟨S2304x16x16x80, .f32⟩
  | 29 => ⟨S2304x16x16x80, .f32⟩
  | 30 => ⟨S_, .f32⟩
  | 31 => ⟨S2304x16x16x80, .f32⟩
  | 32 => ⟨S2304x16x16x80, .f32⟩
  | 33 => ⟨S_, .f32⟩
  | 34 => ⟨S2304x16x16x80, .f32⟩
  | 35 => ⟨S2304x16x16x80, .f32⟩
  | 36 => ⟨S2304x16x1280, .f32⟩
  | 37 => ⟨S_, .f32⟩
  | 38 => ⟨S2304x16x1280, .f32⟩
  | 39 => ⟨S2304x16x1280, .f32⟩
  | 40 => ⟨S1x1x1280, .f32⟩
  | 41 => ⟨S2304x16x1280, .f32⟩
  | 42 => ⟨S2304x16x1280, .f32⟩
  | 43 => ⟨S2304x16x1280, .f32⟩
  | 44 => ⟨S_, .f32⟩
  | 45 => ⟨S2304x16x1280, .f32⟩
  | 46 => ⟨S2304x16x1280, .f32⟩
  | 47 => ⟨S2304x16x1280, .f32⟩
  | 48 => ⟨S2304x16x1280, .f32⟩
  | 49 => ⟨S2304x16x1280, .f32⟩
  | 50 => ⟨S2304x16x1280, .f32⟩
  | 51 => ⟨S2304x16x1280, .f32⟩
  | 52 => ⟨S2304x16x1280, .f32⟩
  | 53 => ⟨S_, .f32⟩
  | 54 => ⟨S16x1280, .f32⟩
  | 55 => ⟨S_, .f32⟩
  | 56 => ⟨S2304x16x1280, .f32⟩
  | 57 => ⟨S_, .i32⟩
  | 58 => ⟨S_, .i32⟩
  | 59 => ⟨S2304x16x1280, .f32⟩
  | 60 => ⟨S2304x16x1280, .f32⟩
  | 61 => ⟨S_, .i32⟩
  | 62 => ⟨S_, .i32⟩
  | 63 => ⟨S16x1280, .f32⟩
  | 64 => ⟨S2304x16x1280, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S1x16x1280, .f32⟩
  | 80 => ⟨S16x1280, .f32⟩
  | 81 => ⟨S16x1280, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S1x16x1280, .f32⟩
  | 91 => ⟨S16x1280, .f32⟩
  | 92 => ⟨S16x1280, .f32⟩
  | 93 => ⟨S1x16x1280, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S2304x16x1280, .f32⟩
  | 103 => ⟨S_, .i32⟩
  | 104 => ⟨S_, .i32⟩
  | 105 => ⟨S36864x1280, .f32⟩
  | 106 => ⟨S36864x1280, .f32⟩
  | 107 => ⟨S36864x1280, .f32⟩
  | 108 => ⟨S36864x1024, .f32⟩
  | 109 => ⟨S2304x16x1024, .f32⟩
  | 110 => ⟨S1x16x1024, .f32⟩
  | 111 => ⟨S16x1024, .f32⟩
  | 112 => ⟨S2048x16x1024, .f32⟩
  | 113 => ⟨S1x16x1024, .f32⟩
  | 114 => ⟨S2048x16x1024, .f32⟩
  | 115 => ⟨S2048x16x1024, .f32⟩
  | 116 => ⟨S1x16x1024, .f32⟩
  | 117 => ⟨S16x1024, .f32⟩
  | 118 => ⟨S256x16x1024, .f32⟩
  | 119 => ⟨S1x16x1024, .f32⟩
  | 120 => ⟨S256x16x1024, .f32⟩
  | 121 => ⟨S256x16x1024, .f32⟩
  | 122 => ⟨S2304x16x1024, .f32⟩
  | 123 => ⟨S36864x1024, .f32⟩
  | 124 => ⟨S_, .f32⟩
  | 125 => ⟨S36864x1024, .f32⟩
  | 126 => ⟨S36864x1024, .f32⟩
  | 127 => ⟨S36864x1024, .f32⟩
  | _ => ⟨S36864x1280, .f32⟩

abbrev hbmTy0_1 (i : Nat) : BufTy := match i % 128 with
  | 0 => ⟨S_, .f32⟩
  | 1 => ⟨S36864, .f32⟩
  | 2 => ⟨S36864x1, .f32⟩
  | 3 => ⟨S_, .f32⟩
  | 4 => ⟨S36864x1, .f32⟩
  | 5 => ⟨S36864x1, .f32⟩
  | 6 => ⟨S36864x1024, .f32⟩
  | 7 => ⟨S36864x1024, .f32⟩
  | 8 => ⟨S36864x1024, .f32⟩
  | 9 => ⟨S_, .f32⟩
  | 10 => ⟨S36864, .f32⟩
  | 11 => ⟨S36864x1, .f32⟩
  | 12 => ⟨S_, .f32⟩
  | 13 => ⟨S36864x1, .f32⟩
  | 14 => ⟨S36864x1, .f32⟩
  | 15 => ⟨S36864x1024, .f32⟩
  | 16 => ⟨S36864x1024, .f32⟩
  | 17 => ⟨S_, .f32⟩
  | 18 => ⟨S36864x1, .f32⟩
  | 19 => ⟨S36864x1, .f32⟩
  | 20 => ⟨S36864x1, .f32⟩
  | 21 => ⟨S36864x1024, .f32⟩
  | 22 => ⟨S36864x1024, .f32⟩
  | 23 => ⟨S1x1024, .f32⟩
  | 24 => ⟨S36864x1024, .f32⟩
  | 25 => ⟨S36864x1024, .f32⟩
  | 26 => ⟨S1x1024, .f32⟩
  | 27 => ⟨S36864x1024, .f32⟩
  | 28 => ⟨S36864x1024, .f32⟩
  | _ => ⟨S36864x1280, .f32⟩

abbrev hbmTy (i : Nat) : BufTy := match i / 128 with
  | 0 => hbmTy0_0 i
  | 1 => hbmTy0_1 i
  | _ => ⟨S36864x1280, .f32⟩

abbrev bufTy : (tb : Table) → Fin (tcTables nBuf tb) → BufTy
  | .hbm, ⟨i, _⟩ => hbmTy i
  | _, _ => ⟨S36864x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_c : Ref sig .tc := ⟨.hbm, 57, rfl⟩
abbrev main_c_7 : Ref sig .tc := ⟨.hbm, 58, rfl⟩
abbrev main_v38_0 : Ref sig .tc := ⟨.hbm, 59, rfl⟩
abbrev main_v38_1 : Ref sig .tc := ⟨.hbm, 60, rfl⟩
abbrev main_v38_2 : Ref sig .tc := ⟨.hbm, 61, rfl⟩
abbrev main_v38_3 : Ref sig .tc := ⟨.hbm, 62, rfl⟩
abbrev main_v38_4 : Ref sig .tc := ⟨.hbm, 63, rfl⟩
abbrev main_v38_5 : Ref sig .tc := ⟨.hbm, 64, rfl⟩
abbrev main_while0c_c_19 : Ref sig .tc := ⟨.hbm, 65, rfl⟩
abbrev main_while0c_v85 : Ref sig .tc := ⟨.hbm, 66, rfl⟩
abbrev main_while0b_c_19 : Ref sig .tc := ⟨.hbm, 67, rfl⟩
abbrev main_while0b_v85 : Ref sig .tc := ⟨.hbm, 68, rfl⟩
abbrev main_while0b_c_20 : Ref sig .tc := ⟨.hbm, 69, rfl⟩
abbrev main_while0b_v86 : Ref sig .tc := ⟨.hbm, 70, rfl⟩
abbrev main_while0b_call0_c : Ref sig .tc := ⟨.hbm, 71, rfl⟩
abbrev main_while0b_call0_v0 : Ref sig .tc := ⟨.hbm, 72, rfl⟩
abbrev main_while0b_call0_v1 : Ref sig .tc := ⟨.hbm, 73, rfl⟩
abbrev main_while0b_call0_c_0 : Ref sig .tc := ⟨.hbm, 74, rfl⟩
abbrev main_while0b_call0_v2 : Ref sig .tc := ⟨.hbm, 75, rfl⟩
abbrev main_while0b_call0_v3 : Ref sig .tc := ⟨.hbm, 76, rfl⟩
abbrev main_while0b_call0_c_1 : Ref sig .tc := ⟨.hbm, 77, rfl⟩
abbrev main_while0b_call0_c_2 : Ref sig .tc := ⟨.hbm, 78, rfl⟩
abbrev main_while0b_call0_v4 : Ref sig .tc := ⟨.hbm, 79, rfl⟩
abbrev main_while0b_v87 : Ref sig .tc := ⟨.hbm, 80, rfl⟩
abbrev main_while0b_v88 : Ref sig .tc := ⟨.hbm, 81, rfl⟩
abbrev main_while0b_call1_c : Ref sig .tc := ⟨.hbm, 82, rfl⟩
abbrev main_while0b_call1_v0 : Ref sig .tc := ⟨.hbm, 83, rfl⟩
abbrev main_while0b_call1_v1 : Ref sig .tc := ⟨.hbm, 84, rfl⟩
abbrev main_while0b_call1_c_0 : Ref sig .tc := ⟨.hbm, 85, rfl⟩
abbrev main_while0b_call1_v2 : Ref sig .tc := ⟨.hbm, 86, rfl⟩
abbrev main_while0b_call1_v3 : Ref sig .tc := ⟨.hbm, 87, rfl⟩
abbrev main_while0b_call1_c_1 : Ref sig .tc := ⟨.hbm, 88, rfl⟩
abbrev main_while0b_call1_c_2 : Ref sig .tc := ⟨.hbm, 89, rfl⟩
abbrev main_while0b_call1_v4 : Ref sig .tc := ⟨.hbm, 90, rfl⟩
abbrev main_while0b_v89 : Ref sig .tc := ⟨.hbm, 91, rfl⟩
abbrev main_while0b_v90 : Ref sig .tc := ⟨.hbm, 92, rfl⟩
abbrev main_while0b_call2_v0 : Ref sig .tc := ⟨.hbm, 93, rfl⟩
abbrev main_while0b_call2_c : Ref sig .tc := ⟨.hbm, 94, rfl⟩
abbrev main_while0b_call2_v1 : Ref sig .tc := ⟨.hbm, 95, rfl⟩
abbrev main_while0b_call2_v2 : Ref sig .tc := ⟨.hbm, 96, rfl⟩
abbrev main_while0b_call2_c_0 : Ref sig .tc := ⟨.hbm, 97, rfl⟩
abbrev main_while0b_call2_v3 : Ref sig .tc := ⟨.hbm, 98, rfl⟩
abbrev main_while0b_call2_v4 : Ref sig .tc := ⟨.hbm, 99, rfl⟩
abbrev main_while0b_call2_c_1 : Ref sig .tc := ⟨.hbm, 100, rfl⟩
abbrev main_while0b_call2_c_2 : Ref sig .tc := ⟨.hbm, 101, rfl⟩
abbrev main_while0b_v91 : Ref sig .tc := ⟨.hbm, 102, rfl⟩
abbrev main_while0b_c_21 : Ref sig .tc := ⟨.hbm, 103, rfl⟩
abbrev main_while0b_v92 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_cst_8 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_cst_9 : Ref sig .tc := ⟨.hbm, 128, rfl⟩
abbrev main_v61 : Ref sig .tc := ⟨.hbm, 129, rfl⟩
abbrev main_v62 : Ref sig .tc := ⟨.hbm, 130, rfl⟩
abbrev main_cst_10 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_11 : Ref sig .tc := ⟨.hbm, 137, rfl⟩
abbrev main_v68 : Ref sig .tc := ⟨.hbm, 138, rfl⟩
abbrev main_v69 : Ref sig .tc := ⟨.hbm, 139, rfl⟩
abbrev main_cst_12 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_cst_13 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩

abbrev nD : Nat := 1
abbrev τ : Topo := Topo.v7x

variable {F : FTy → Type} [FloatOps F]

abbrev main_while0_count : Scf.Loop 32 := ⟨0#32, 2304#32, 1#32⟩
-- ==== Proof.Softmax.lean ====
/- Attention of one query over `n` keys, on the extended reals: the sum of the exponentials times the values, divided
   once by the exponentials' sum, and the same with every weight divided first. -/
module

public import Idealize.ShloMosaic.Lib.Pointwise

@[expose] public section

noncomputable section

open Idealize.ShloMosaic

namespace Cert.Softmax

/-- `x` is a real number: neither infinity. -/
def IsReal (x : EReal) : Prop := ∃ r : ℝ, x = (r : EReal)

theorem isReal_of_ne {x : EReal} (h1 : x ≠ ⊤) (h2 : x ≠ ⊥) : IsReal x := by
  lift x to ℝ using ⟨h1, h2⟩
  exact ⟨x, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sum {ι : Type*} (s : Finset ι) (f : ι → EReal) (h : ∀ k, IsReal (f k)) : IsReal (∑ k ∈ s, f k) := by
  classical
  induction s using Finset.induction with
  | empty => exact ⟨0, by simp⟩
  | insert a s ha ih =>
    rw [Finset.sum_insert ha]
    obtain ⟨r, hr⟩ := h a; obtain ⟨t, ht⟩ := ih
    exact ⟨r + t, by rw [hr, ht, EReal.coe_add]⟩

/-- A real number whose absolute value is below infinity. -/
theorem isReal_of_abs_lt {x : EReal} (h : max x (-x) < ⊤) : IsReal x := by
  refine isReal_of_ne (fun e => ?_) (fun e => ?_) <;> subst e <;> simp at h

/-- The pattern of minus infinity denotes the least extended real. -/
theorem ofBits_neg_inf : Ideal.ofBits .f32 0xFF800000#32 = ⊥ := by simp [Ideal.ofBits, Ideal.ieee]

theorem ofBits_inf_bf16 : Ideal.ofBits .bf16 0x7F80#16 = ⊤ := by simp [Ideal.ofBits, Ideal.ieee]

/-- The scale's pattern denotes a real number. -/
theorem isReal_scale : IsReal (Ideal.ofBits .f32 0x3DB504F3#32) := by
  simp only [Ideal.ofBits, Ideal.ieee]
  rw [if_neg (by decide), if_neg (by decide)]
  exact ⟨_, rfl⟩

/-- The sum of coerced reals is the coerced sum. -/
theorem coe_sum {ι : Type*} (s : Finset ι) (f : ι → ℝ) : ∑ k ∈ s, ((f k : ℝ) : EReal) = ((∑ k ∈ s, f k : ℝ) : EReal) := by
  classical
  induction s using Finset.induction with
  | empty => simp
  | insert a s ha ih => rw [Finset.sum_insert ha, Finset.sum_insert ha, ih, EReal.coe_add]

/-- A nonnegative real factor distributes over a sum of extended reals. -/
theorem sum_mul_coe {ι : Type*} (s : Finset ι) (f : ι → EReal) {c : ℝ} (hc : 0 ≤ c) :
    (∑ k ∈ s, f k) * (c : EReal) = ∑ k ∈ s, f k * (c : EReal) := by
  classical
  induction s using Finset.induction with
  | empty => simp
  | insert a s ha ih =>
    rw [Finset.sum_insert ha, Finset.sum_insert ha, ← ih]
    exact EReal.right_distrib_of_nonneg_of_ne_top (by exact_mod_cast hc) (EReal.coe_ne_top c) _ _

variable {n : ℕ}

/-- The largest score, from minus infinity. -/
def top (s : Fin n → EReal) : EReal := Finset.univ.fold max (Ideal.ofBits .f32 0xFF800000#32) s

/-- The exponentials' weighted sum of the values, divided by the exponentials' sum. -/
def attn (s v : Fin n → EReal) : EReal :=
  Ideal.div (∑ k, Ideal.exp (s k - top s) * v k) (∑ k, Ideal.exp (s k - top s))

/-- The values weighted by the softmax of the scores. -/
def softmaxSum (s v : Fin n → EReal) : EReal :=
  ∑ k, v k * Ideal.div (Ideal.exp (s k - max (Ideal.ofBits .f32 0xFF800000#32) (top s)))
    (∑ l, Ideal.exp (s l - max (Ideal.ofBits .f32 0xFF800000#32) (top s)))

/-- The largest of one or more real scores is real. -/
theorem isReal_top (hn : 0 < n) (s : Fin n → EReal) (h : ∀ k, IsReal (s k)) : IsReal (top s) := by
  unfold top
  rw [ofBits_neg_inf]
  refine isReal_of_ne (ne_of_lt ?_) (ne_of_gt ?_)
  · exact (Finset.fold_max_lt _).2 ⟨bot_lt_top, fun k _ => lt_top_iff_ne_top.2 (h k).ne_top⟩
  · exact (Finset.lt_fold_max _).2 (.inr ⟨⟨0, hn⟩, Finset.mem_univ _, bot_lt_iff_ne_bot.2 (h _).ne_bot⟩)

/-- When the scores are real, dividing each exponential by their sum before weighting gives what dividing the weighted
    sum once gives. -/
theorem softmaxSum_eq (hn : 0 < n) (s v : Fin n → EReal) (h : ∀ k, IsReal (s k)) : softmaxSum s v = attn s v := by
  obtain ⟨μ, hμ⟩ := isReal_top hn s h
  choose σ hσ using h
  have he : ∀ k, Ideal.exp (s k - top s) = ((Real.exp (σ k - μ) : ℝ) : EReal) := fun k => by
    rw [hσ, hμ, ← EReal.coe_sub]; rfl
  have hpos : 0 < ∑ k, Real.exp (σ k - μ) :=
    Finset.sum_pos (fun k _ => Real.exp_pos _) ⟨⟨0, hn⟩, Finset.mem_univ _⟩
  unfold softmaxSum attn
  rw [ofBits_neg_inf, max_eq_right bot_le]
  simp only [he]
  rw [coe_sum, Ideal.div_coe hpos.ne', sum_mul_coe _ _ (by positivity)]
  refine Finset.sum_congr rfl fun k _ => ?_
  rw [Ideal.div_coe hpos.ne', ← mul_assoc, mul_comm (v k)]

end Cert.Softmax

end
-- ==== Proof.AttnPay.lean ====
/- What the attention kernel stores for one query head at one grid point: the softmax over the key rows it loaded,
   weighting the value rows, whichever of the body's four copies of the head's arithmetic wrote it. -/
module

public import proofs.«01_k».proof.Proof.Gen.KernelIdeal.Value
public import proofs.«01_k».proof.Proof.Softmax
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

set_option maxHeartbeats 1600000

/-- One head's result at row `r` and lane `d`, of `n` key and value rows. -/
def head {n : ℕ} (q : (⟨3, ![1, 256, 128]⟩ : Shape).Idx → EReal) (k v : (⟨3, ![1, n, 128]⟩ : Shape).Idx → EReal)
    (r : Fin 256) (d : Fin 128) : EReal :=
  Softmax.attn (fun l : Fin n => (∑ e : Fin 128, q (ix3 0 r e) * k (ix3 0 l e)) * Ideal.ofBits .f32 0x3DB504F3#32)
    (fun l => v (ix3 0 l d))

variable (q : FVec Ideal S1x256x128 .bf16)

/-! ## Latent rows: all 2304 key rows -/

section Latent
variable (k v : FVec Ideal S1x2304x128 .bf16) (r : Fin 256) (d : Fin 128)

/-- The first head. -/
theorem latent0 : k0_pay5 (F := Ideal) k v q (ix3 0 r d) = head q k v r d := by
  unfold head Softmax.attn Softmax.top
  pointwise [k0_pay5, k0_pay4, k0_pay3]

/-- The second head. -/
theorem latent1 : k0_pay8 (F := Ideal) (k0_pay4 v) (k0_pay6 k q) (k0_pay7 k q) (ix3 0 r d) = head q k v r d := by
  unfold head Softmax.attn Softmax.top
  pointwise [k0_pay8, k0_pay7, k0_pay6, k0_pay4, k0_pay3]

/-- The third head. -/
theorem latent2 : k0_pay9 (F := Ideal) (k0_pay3 k) (k0_pay4 v) q (ix3 0 r d) = head q k v r d := by
  unfold head Softmax.attn Softmax.top
  pointwise [k0_pay9, k0_pay4, k0_pay3]

/-- The fourth head. -/
theorem latent3 : k0_pay1 (F := Ideal) (k0_pay4 v) (k0_pay10 (k0_pay3 k) q) (k0_pay11 (k0_pay3 k) q) (ix3 0 r d)
    = head q k v r d := by
  unfold head Softmax.attn Softmax.top
  pointwise [k0_pay1, k0_pay11, k0_pay10, k0_pay4, k0_pay3]

end Latent

/-! ## Context rows: the 256 context rows only -/

section Context
variable (k v : FVec Ideal S1x256x128 .bf16) (r : Fin 256) (d : Fin 128)

/-- The first head. -/
theorem context0 : k0_pay14 (F := Ideal) k v q (ix3 0 r d) = head q k v r d := by
  unfold head Softmax.attn Softmax.top
  pointwise [k0_pay14, k0_pay13, k0_pay12]

/-- The second head. -/
theorem context1 : k0_pay17 (F := Ideal) (k0_pay13 v) (k0_pay15 k q) (k0_pay16 k q) (ix3 0 r d) = head q k v r d := by
  unfold head Softmax.attn Softmax.top
  pointwise [k0_pay17, k0_pay16, k0_pay15, k0_pay13, k0_pay12]

/-- The third head. -/
theorem context2 : k0_pay18 (F := Ideal) (k0_pay12 k) (k0_pay13 v) q (ix3 0 r d) = head q k v r d := by
  unfold head Softmax.attn Softmax.top
  pointwise [k0_pay18, k0_pay13, k0_pay12]

/-- The fourth head. -/
theorem context3 : k0_pay2 (F := Ideal) (k0_pay13 v) (k0_pay19 (k0_pay12 k) q) (k0_pay20 (k0_pay12 k) q) (ix3 0 r d)
    = head q k v r d := by
  unfold head Softmax.attn Softmax.top
  pointwise [k0_pay2, k0_pay20, k0_pay19, k0_pay13, k0_pay12]

end Context

end Cert.KernelIdeal.Attn

end
-- ==== Proof.AttnBlock.lean ====
/- One grid point's block of the attention's result: four heads side by side, each a softmax over the keys the point
   loaded. -/
module

public import proofs.«01_k».proof.Proof.AttnPay
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen

set_option maxHeartbeats 1600000

/-- The block of four heads: column `x` belongs to head `x / 128` and reads that head's columns of the queries. -/
def block {n : ℕ} (q : (⟨3, ![1, 256, 512]⟩ : Shape).Idx → EReal) (k v : (⟨3, ![1, n, 128]⟩ : Shape).Idx → EReal) :
    (⟨3, ![1, 256, 512]⟩ : Shape).Idx → EReal := fun i =>
  Softmax.attn
    (fun l : Fin n => (∑ e : Fin 128, q (ix3 0 (i 1) ⟨(i 2).val / 128 * 128 + e.val, by have : (i 2).val < 512 := (i 2).isLt; omega⟩) * k (ix3 0 l e))
      * Ideal.ofBits .f32 0x3DB504F3#32)
    (fun l => v (ix3 0 l ⟨(i 2).val % 128, by omega⟩))

/-- A head's result is its part of the block, whatever store wrote it. -/
theorem head_eq_block {n : ℕ} (o : ℕ) (inb) (q : Vec Ideal S1x256x512 .bf16)
    (k v : (⟨3, ![1, n, 128]⟩ : Shape).Idx → EReal) (ho : o % 128 = 0) (x : S1x256x128.Idx) :
    head (View.ld q (Rect.unit (s := S1x256x512) ![0, 0, o] S1x256x128.size inb)) k v (x 1) (x 2)
      = block q k v ((Rect.unit (s := S1x256x512) ![0, 0, o] S1x256x128.size inb).emb x) := by
  have hx : (x 2).val < 128 := (x 2).isLt
  have hq : ∀ e : Fin 128, View.ld q (Rect.unit (s := S1x256x512) ![0, 0, o] S1x256x128.size inb) (ix3 0 (x 1) e)
      = q (ix3 0 (((Rect.unit (s := S1x256x512) ![0, 0, o] S1x256x128.size inb).emb x) 1)
          ⟨(((Rect.unit (s := S1x256x512) ![0, 0, o] S1x256x128.size inb).emb x) 2).val / 128 * 128 + e.val, by
            have : (((Rect.unit (s := S1x256x512) ![0, 0, o] S1x256x128.size inb).emb x) 2).val < 512 := (((Rect.unit (s := S1x256x512) ![0, 0, o] S1x256x128.size inb).emb x) 2).isLt; omega⟩) := by
    intro e
    refine congrArg q (funext fun a => Fin.ext ?_)
    have h2 : (((Rect.unit (s := S1x256x512) ![0, 0, o] S1x256x128.size inb).emb x) 2).val = o + (x 2).val := by
      simp [Rect.emb, Rect.unit]
    match a with
    | 0 => simp [Rect.emb, Rect.unit, ix3]
    | 1 => simp [Rect.emb, Rect.unit, ix3]
    | 2 =>
      show o + 1 * e.val = _ / 128 * 128 + e.val
      rw [h2]; omega
  have hv : ∀ l : Fin n, v (ix3 0 l (x 2))
      = v (ix3 0 l ⟨(((Rect.unit (s := S1x256x512) ![0, 0, o] S1x256x128.size inb).emb x) 2).val % 128, by omega⟩) := by
    intro l
    refine congrArg (fun d => v (ix3 0 l d)) (Fin.ext ?_)
    show (x 2).val = (o + 1 * (x 2).val) % 128
    omega
  exact congrArg₂ Softmax.attn
    (funext fun l => congrArg (· * _) (Finset.sum_congr rfl fun e _ => congrArg (· * _) (hq e))) (funext hv)

/-- A store of a head's results at column `o` writes its part of the block. -/
theorem piece {n : ℕ} (o : ℕ) (inb) (q : Vec Ideal S1x256x512 .bf16) (k v : (⟨3, ![1, n, 128]⟩ : Shape).Idx → EReal)
    (ho : o % 128 = 0) (P : S1x256x128.Idx → EReal)
    (hP : ∀ r d, P (ix3 0 r d) = head (View.ld q (Rect.unit (s := S1x256x512) ![0, 0, o] S1x256x128.size inb)) k v r d)
    (x : S1x256x128.Idx) : P x = block q k v ((Rect.unit (s := S1x256x512) ![0, 0, o] S1x256x128.size inb).emb x) := by
  rw [← head_eq_block o inb q k v ho x]
  refine Eq.trans (congrArg P (funext fun a => Fin.ext ?_)) (hP (x 1) (x 2))
  match a with
  | 0 => have : (x 0).val < 1 := (x 0).isLt
         show (x 0).val = 0
         omega
  | 1 => rfl
  | 2 => rfl

/-- The context rows of a block of all rows, as the kernel loads them. -/
theorem ld_context (X : Vec Ideal S1x2304x128 .bf16) :
    View.ld X (Rect.unit ![0, 2048, 0] ![1, 256, 128] inb_S1x2304x128_S1x256x128_0_2048_0)
      = fun j => X (ix3 0 ⟨2048 + (j 1).val, by have : (j 1).val < 256 := (j 1).isLt; omega⟩ (j 2)) := by
  funext j
  refine congrArg X (funext fun a => Fin.ext ?_)
  match a with
  | 0 => have : (j 0).val < 1 := (j 0).isLt
         show 0 + 1 * (j 0).val = 0
         omega
  | 1 => show 2048 + 1 * (j 1).val = 2048 + (j 1).val
         omega
  | 2 => show 0 + 1 * (j 2).val = (j 2).val
         omega

/-- A block of latent rows, as the kernel leaves it. -/
theorem out_A (c : Dev nD) (i a1 h1 a2 h2 a3 h3 a4 h4 c0 c1) (x0 : Vec Ideal S1x256x512 .bf16)
    (x1 x2 : Vec Ideal S1x2304x128 .bf16) :
    out0_A_3 (F := Ideal) c i a1 h1 a2 h2 a3 h3 a4 h4 c0 c1 x0 x1 x2 = block (n := 2304) x0 x1 x2 := by
  unfold out0_A_3
  rw [View.read_writes_eq_canon _ _ _ (cover0_A_3 _ _ _ _ _ _ _ _ _ _ _ _ _ _ _)]
  have hc := cover0_A_3 (F := Ideal) c i a1 h1 a2 h2 a3 h3 a4 h4 c0 c1 x0 x1 x2
  revert hc
  unfold kernelRun0_A
  dsimp only
  sl_unfold_words
  have hz : (![0, 0, 0] : Fin 3 → ℕ) = fun _ => 0 := by decide
  have e1 : View.ld x1 (Rect.unit ![0, 0, 0] ![1, 2304, 128] inb_S1x2304x128_S1x2304x128_0_0_0) = x1 := View.ld_unit_zero hz _ x1
  have e2 : View.ld x2 (Rect.unit ![0, 0, 0] ![1, 2304, 128] inb_S1x2304x128_S1x2304x128_0_0_0) = x2 := View.ld_unit_zero hz _ x2
  simp only [View.readAt_eq_ld, h1.read_unread, h2.read_unread, h3.read_unread, e1, e2]
  intro hc
  funext y
  refine View.canon_apply_of_pieces _ _ ?_ y (hc y)
  intro p hp
  simp only [List.mem_cons, List.not_mem_nil, or_false] at hp
  rcases hp with rfl | rfl | rfl | rfl
  · exact piece 384 inb_S1x256x512_S1x256x128_0_0_384 x0 x1 x2 rfl _ fun r d => latent3 _ _ _ r d
  · exact piece 256 inb_S1x256x512_S1x256x128_0_0_256 x0 x1 x2 rfl _ fun r d => latent2 _ _ _ r d
  · exact piece 128 inb_S1x256x512_S1x256x128_0_0_128 x0 x1 x2 rfl _ fun r d => latent1 _ _ _ r d
  · exact piece 0 inb_S1x256x512_S1x256x128_0_0_0 x0 x1 x2 rfl _ fun r d => latent0 _ _ _ r d

/-- A block of context rows, as the kernel leaves it. -/
theorem out_B (c : Dev nD) (i a1 h1 a2 h2 a3 h3 a4 h4 c0 c1) (x0 : Vec Ideal S1x256x512 .bf16)
    (x1 x2 : Vec Ideal S1x2304x128 .bf16) :
    out0_B_3 (F := Ideal) c i a1 h1 a2 h2 a3 h3 a4 h4 c0 c1 x0 x1 x2
      = block (n := 256) x0 (fun j => x1 (ix3 0 ⟨2048 + (j 1).val, by have : (j 1).val < 256 := (j 1).isLt; omega⟩ (j 2)))
          (fun j => x2 (ix3 0 ⟨2048 + (j 1).val, by have : (j 1).val < 256 := (j 1).isLt; omega⟩ (j 2))) := by
  refine Eq.trans ?_ (congrArg₂ (block (n := 256) x0) (ld_context x1) (ld_context x2))
  unfold out0_B_3
  rw [View.read_writes_eq_canon _ _ _ (cover0_B_3 _ _ _ _ _ _ _ _ _ _ _ _ _ _ _)]
  have hc := cover0_B_3 (F := Ideal) c i a1 h1 a2 h2 a3 h3 a4 h4 c0 c1 x0 x1 x2
  revert hc
  unfold kernelRun0_B
  dsimp only
  sl_unfold_words
  simp only [View.readAt_eq_ld, h1.read_unread, h2.read_unread, h3.read_unread]
  intro hc
  funext y
  refine View.canon_apply_of_pieces _ _ ?_ y (hc y)
  intro p hp
  simp only [List.mem_cons, List.not_mem_nil, or_false] at hp
  rcases hp with rfl | rfl | rfl | rfl
  · exact piece 384 inb_S1x256x512_S1x256x128_0_0_384 x0 _ _ rfl _ fun r d => context3 _ _ _ r d
  · exact piece 256 inb_S1x256x512_S1x256x128_0_0_256 x0 _ _ rfl _ fun r d => context2 _ _ _ r d
  · exact piece 128 inb_S1x256x512_S1x256x128_0_0_128 x0 _ _ rfl _ fun r d => context1 _ _ _ r d
  · exact piece 0 inb_S1x256x512_S1x256x128_0_0_0 x0 _ _ rfl _ fun r d => context0 _ _ _ r d

end Cert.KernelIdeal.Attn

end
-- ==== Proof.AttnSpec.lean ====
/- What the attention call computes, at an index: the row's softmax over the keys it may read, weighting the values. -/
module

public import proofs.«01_k».proof.Proof.Softmax

@[expose] public section

noncomputable section

open Idealize.ShloMosaic

namespace Cert.AttnSpec

/-- The queries' and the result's array, and the keys' and the values'. -/
abbrev Rows : Type := (⟨3, ![16, 2304, 1024]⟩ : Shape).Idx → EReal
abbrev Keys : Type := (⟨3, ![16, 2304, 256]⟩ : Shape).Idx → EReal

/-- The scaled product of query row `r` with key row `l`, for the head of column `x` and the key head it shares. -/
def score (Q : Rows) (K : Keys) (b : Fin 16) (r : Fin 2304) (x : Fin 1024) (l : Fin 2304) : EReal :=
  (∑ d : Fin 128, Q (ix3 b r ⟨x.val / 128 * 128 + d.val, by omega⟩) * K (ix3 b l ⟨x.val / 512 * 128 + d.val, by omega⟩))
    * Ideal.ofBits .f32 0x3DB504F3#32

/-- The value row `l` at column `x`'s place in its head. -/
def value (V : Keys) (b : Fin 16) (x : Fin 1024) (l : Fin 2304) : EReal :=
  V (ix3 b l ⟨x.val / 512 * 128 + x.val % 128, by omega⟩)

/-- Context row `l`, counted among all rows. -/
def ctx (l : Fin 256) : Fin 2304 := ⟨2048 + l.val, by omega⟩

/-- A latent row attends to all rows, a context row to the context rows. -/
def at' (Q : Rows) (K V : Keys) (b : Fin 16) (r : Fin 2304) (x : Fin 1024) : EReal :=
  if r.val < 2048 then Softmax.attn (score Q K b r x) (value V b x)
  else Softmax.attn (fun l : Fin 256 => score Q K b r x (ctx l)) (fun l => value V b x (ctx l))

/-- The whole result. -/
def G (Q : Rows) (K V : Keys) : Rows := fun i => at' Q K V (i 0) (i 1) (i 2)

/-- Real queries and keys have real scores. -/
theorem isReal_score (Q : Rows) (K : Keys) (hQ : ∀ i, Softmax.IsReal (Q i)) (hK : ∀ i, Softmax.IsReal (K i))
    (b : Fin 16) (r : Fin 2304) (x : Fin 1024) (l : Fin 2304) : Softmax.IsReal (score Q K b r x l) :=
  (Softmax.IsReal.sum _ _ fun d => (hQ _).mul (hK _)).mul Softmax.isReal_scale

end Cert.AttnSpec

end
-- ==== Proof.AttnKernel.lean ====
/- The attention kernel's result array, after its run: the specification's array of the arguments. -/
module

public import proofs.«01_k».proof.Proof.AttnBlock
public import proofs.«01_k».proof.Proof.AttnSpec

@[expose] public section

set_option maxRecDepth 16384

noncomputable section

open Idealize.ShloMosaic Idealize.ShloMosaic.TcCoe Idealize.SL.Sem

namespace Cert.KernelIdeal.Attn

open Cert.KernelIdeal Cert.KernelIdeal.Gen

set_option maxHeartbeats 1600000

/-- Which blocks the grid's point `t` reads and writes: batch `t / 18`, key head `t / 9 % 2`, row block `t % 9`. -/
theorem idx : ∀ t : Fin cfg0.N, win0_0.index t = ![t.val / 18, t.val % 9, t.val / 9 % 2]
    ∧ win0_1.index t = ![t.val / 18, 0, t.val / 9 % 2] ∧ win0_2.index t = ![t.val / 18, 0, t.val / 9 % 2]
    ∧ win0_3.index t = ![t.val / 18, t.val % 9, t.val / 9 % 2] :=
  (by decide +kernel : ∀ t : Fin grid0.N, _)

variable (m : (ℓ : Loc nD τ sig) → Buf (Elt Ideal) ℓ) (c : Dev nD)

/-- A query of point `t`'s block is the argument's at the block's place. -/
theorem q_at (t : Fin cfg0.N) (r : Fin 256) (x : Fin 512) (b : Fin 16) (R : Fin 2304) (X : Fin 1024)
    (hb : b.val = t.val / 18) (hR : R.val = t.val % 9 * 256 + r.val) (hX : X.val = t.val / 9 % 2 * 512 + x.val) :
    iblk m c 0 t (ix3 0 r x) = m ((c : Thread nD τ).loc main_arg0) (ix3 b R X) := by
  blk_point [iblk, V, idx t]

/-- So is a key. -/
theorem k_at (t : Fin cfg0.N) (l : Fin 2304) (x : Fin 128) (b : Fin 16) (X : Fin 256)
    (hb : b.val = t.val / 18) (hX : X.val = t.val / 9 % 2 * 128 + x.val) :
    iblk m c 1 t (ix3 0 l x) = m ((c : Thread nD τ).loc main_arg1) (ix3 b l X) := by
  blk_point [iblk, V, idx t]

/-- So is a value. -/
theorem v_at (t : Fin cfg0.N) (l : Fin 2304) (x : Fin 128) (b : Fin 16) (X : Fin 256)
    (hb : b.val = t.val / 18) (hX : X.val = t.val / 9 % 2 * 128 + x.val) :
    iblk m c 2 t (ix3 0 l x) = m ((c : Thread nD τ).loc main_arg2) (ix3 b l X) := by
  blk_point [iblk, V, idx t]

/-- The specification's value at the place of index `y` of a latent rows' block. -/
theorem block_latent (t : Fin cfg0.N) (h : t.val % 9 ≤ 7) (y : S1x256x512.Idx) (j : S16x2304x1024.Idx)
    (hj0 : (j 0).val = t.val / 18) (hj1 : (j 1).val = t.val % 9 * 256 + (y 1).val)
    (hj2 : (j 2).val = t.val / 9 % 2 * 512 + (y 2).val) :
    block (n := 2304) (iblk m c 0 t) (iblk m c 1 t) (iblk m c 2 t) y
      = AttnSpec.G (m ((c : Thread nD τ).loc main_arg0)) (m ((c : Thread nD τ).loc main_arg1))
          (m ((c : Thread nD τ).loc main_arg2)) j := by
  have h1 : (y 1).val < 256 := (y 1).isLt
  have h2 : (y 2).val < 512 := (y 2).isLt
  unfold AttnSpec.G AttnSpec.at' block
  rw [if_pos (show (j 1).val < 2048 by omega)]
  refine congrArg₂ Softmax.attn (funext fun l => congrArg (· * _) (Finset.sum_congr rfl fun e _ => congrArg₂ (· * ·)
    (q_at m c t _ _ _ _ _ hj0 hj1 ?_) (k_at m c t _ _ _ _ hj0 ?_))) (funext fun l => v_at m c t _ _ _ _ hj0 ?_)
  all_goals (dsimp only; omega)

/-- The same for a context rows' block. -/
theorem block_context (t : Fin cfg0.N) (h : t.val % 9 = 8) (y : S1x256x512.Idx) (j : S16x2304x1024.Idx)
    (hj0 : (j 0).val = t.val / 18) (hj1 : (j 1).val = t.val % 9 * 256 + (y 1).val)
    (hj2 : (j 2).val = t.val / 9 % 2 * 512 + (y 2).val) :
    block (n := 256) (iblk m c 0 t)
        (fun i => iblk m c 1 t (ix3 0 ⟨2048 + (i 1).val, by have : (i 1).val < 256 := (i 1).isLt; omega⟩ (i 2)))
        (fun i => iblk m c 2 t (ix3 0 ⟨2048 + (i 1).val, by have : (i 1).val < 256 := (i 1).isLt; omega⟩ (i 2))) y
      = AttnSpec.G (m ((c : Thread nD τ).loc main_arg0)) (m ((c : Thread nD τ).loc main_arg1))
          (m ((c : Thread nD τ).loc main_arg2)) j := by
  have h1 : (y 1).val < 256 := (y 1).isLt
  have h2 : (y 2).val < 512 := (y 2).isLt
  unfold AttnSpec.G AttnSpec.at' block
  rw [if_neg (show ¬(j 1).val < 2048 by omega)]
  refine congrArg₂ Softmax.attn (funext fun l => congrArg (· * _) (Finset.sum_congr rfl fun e _ => congrArg₂ (· * ·)
    (q_at m c t _ _ _ _ _ hj0 hj1 ?_) (k_at m c t _ e _ _ hj0 ?_))) (funext fun l => v_at m c t _ ⟨(y 2).val % 128, by omega⟩ _ _ hj0 ?_)
  all_goals (dsimp only; omega)

/-- The result array after the run. -/
theorem final : (dats m 0 c).arrAt 3 cfg0.N = AttnSpec.G (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 9 = 8
  · rw [outsAt0_B m c t (by omega) h, out_B]
    refine block_context m c t h y _ ?_ ?_ ?_ <;> blk_simp [idx t]
  · rw [outsAt0_A m c t (by omega) h, out_A]
    refine block_latent m c t (by omega) y _ ?_ ?_ ?_ <;> blk_simp [idx t]

end Cert.KernelIdeal.Attn

end
-- ==== Proof.RowMax.lean ====
/- The maximum of a rank-five array along its last axis, read at an index. -/
module

public import Idealize.ShloMosaic.Lib.Pointwise

@[expose] public section

noncomputable section

open Idealize.ShloMosaic

namespace Cert.RowMax

variable {n0 n1 n2 n3 n4 : Nat}

/-- The host's maximum along the last axis from a constant, at `(a, b, c, d)`: the fold of `max` over that row. -/
theorem reduce_max_at (x : FVec Ideal ⟨5, ![n0, n1, n2, n3, n4]⟩ .f32) {u : Shape} (w : BitVec 32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf x (constant u .f32 w) h hu (ix4 a b c d)
      = (Finset.univ : Finset (Fin n4)).fold max (Ideal.ofBits .f32 w) (fun k => x (ix5 a b c d k)) := by
  rw [Host.reduce_eq_fold, Shape.ReducesTo.fold_fiber_r5_a4]
  rfl

end Cert.RowMax

end
-- ==== Proof.AttnRef.lean ====
/- The reference's composed term, stage by stage, read at an index. -/
module

public import proofs.«01_k».proof.Proof.Gen.ReferenceIdeal.Run
public import proofs.«01_k».proof.Proof.RowMax
public import proofs.«01_k».proof.Proof.AttnSpec

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

/-- The scaled scores of the latent rows against all keys. -/
def scoreL (Q : FVec Ideal S16x2304x1024 .bf16) (K : FVec Ideal S16x2304x256 .bf16) : FVec Ideal S16x2x4x2048x2304 .f32 :=
  mulf (transpose S16x2x4x2048x2304 [0, 1, 4, 3, 2]
      (Host.dotGeneral dot_S16x2304x2x128_S16x2048x2x4x128_S16x2x2304x2048x4_3_4_1_13_02_02 none
        (shapeCast S16x2304x2x128 K shapeCasts_S16x2304x256_S16x2304x2x128)
        (shapeCast S16x2048x2x4x128 (extractStridedSlice S16x2048x1024 ![0, 0, 0] Q slices_S16x2304x1024_S16x2048x1024_0_0_0)
          shapeCasts_S16x2048x1024_S16x2048x2x4x128))
      transposes_S16x2x2304x2048x4_S16x2x4x2048x2304_0_1_4_3_2)
    (broadcastInDim S16x2x4x2048x2304 ![] bcast_S_S16x2x4x2048x2304 (constant S_ .f32 0x3DB504F3#32))

/-- The latent rows' largest scores. -/
def topL (s : FVec Ideal S16x2x4x2048x2304 .f32) : FVec Ideal S16x2x4x2048 .f32 :=
  Host.reduce FloatOps.maximumf s (constant S_ .f32 0xFF800000#32) reducesTo_S16x2x4x2048x2304_S16x2x4x2048_d4 h_S_

/-- The exponentials of the scores less the larger of their row's maximum and a constant, for the latent rows. -/
def expL' (w : BitVec 32) (s : FVec Ideal S16x2x4x2048x2304 .f32) (t : FVec Ideal S16x2x4x2048 .f32) : FVec Ideal S16x2x4x2048x2304 .f32 :=
  Host.exp (subf s
    (broadcastInDim S16x2x4x2048x2304 ![0, 1, 2, 3, 4] bcast_S16x2x4x2048x1_S16x2x4x2048x2304_0_1_2_3_4
      (broadcastInDim S16x2x4x2048x1 ![0, 1, 2, 3] bcast_S16x2x4x2048_S16x2x4x2048x1_0_1_2_3
        (maximumf (broadcastInDim S16x2x4x2048 ![] bcast_S_S16x2x4x2048 (constant S_ .f32 w)) t))))

/-- The exponentials of the scores less their row's maximum, for the latent rows. -/
def expL (s : FVec Ideal S16x2x4x2048x2304 .f32) : FVec Ideal S16x2x4x2048x2304 .f32 := expL' 0xFF800000#32 s (topL s)

/-- The softmax weights of the latent rows, from the exponentials. -/
def weightL (p : FVec Ideal S16x2x4x2048x2304 .f32) : FVec Ideal S16x2x4x2048x2304 .f32 :=
  Host.divf p
    (broadcastInDim S16x2x4x2048x2304 ![0, 1, 2, 3, 4] bcast_S16x2x4x2048x1_S16x2x4x2048x2304_0_1_2_3_4
      (broadcastInDim S16x2x4x2048x1 ![0, 1, 2, 3] bcast_S16x2x4x2048_S16x2x4x2048x1_0_1_2_3
        (Host.reduceAdd p (constant S_ .f32 0x00000000#32) reducesTo_S16x2x4x2048x2304_S16x2x4x2048_d4 h_S_)))

/-- The latent rows' weighted sums of the values, laid out as rows. -/
def outL (w : FVec Ideal S16x2x4x2048x2304 .f32) (V : FVec Ideal S16x2304x256 .bf16) : FVec Ideal S16x2048x1024 .bf16 :=
  shapeCast S16x2048x1024 (truncf .bf16 (transpose S16x2048x2x4x128 [0, 4, 1, 3, 2]
      (Host.dotGeneral dot_S16x2304x2x128_S16x2x4x2048x2304_S16x2x128x4x2048_1_4_3_23_02_01 none
        (shapeCast S16x2304x2x128 V shapeCasts_S16x2304x256_S16x2304x2x128) (truncf .bf16 w bitsLt_bf16_f32))
      transposes_S16x2x128x4x2048_S16x2048x2x4x128_0_4_1_3_2) bitsLt_bf16_f32) shapeCasts_S16x2048x2x4x128_S16x2048x1024

/-- The scaled scores of the context rows against the context's keys. -/
def scoreC (Q : FVec Ideal S16x2304x1024 .bf16) (K : FVec Ideal S16x2304x256 .bf16) : FVec Ideal S16x2x4x256x256 .f32 :=
  mulf (transpose S16x2x4x256x256 [0, 1, 4, 3, 2]
      (Host.dotGeneral dot_S16x256x2x128_S16x256x2x4x128_S16x2x256x256x4_3_4_1_13_02_02 none
        (extractStridedSlice S16x256x2x128 ![0, 2048, 0, 0] (shapeCast S16x2304x2x128 K shapeCasts_S16x2304x256_S16x2304x2x128)
          slices_S16x2304x2x128_S16x256x2x128_0_2048_0_0)
        (shapeCast S16x256x2x4x128 (extractStridedSlice S16x256x1024 ![0, 2048, 0] Q slices_S16x2304x1024_S16x256x1024_0_2048_0)
          shapeCasts_S16x256x1024_S16x256x2x4x128))
      transposes_S16x2x256x256x4_S16x2x4x256x256_0_1_4_3_2)
    (broadcastInDim S16x2x4x256x256 ![] bcast_S_S16x2x4x256x256 (constant S_ .f32 0x3DB504F3#32))

/-- The context rows' largest scores. -/
def topC (s : FVec Ideal S16x2x4x256x256 .f32) : FVec Ideal S16x2x4x256 .f32 :=
  Host.reduce FloatOps.maximumf s (constant S_ .f32 0xFF800000#32) reducesTo_S16x2x4x256x256_S16x2x4x256_d4 h_S_

/-- The exponentials of the scores less the larger of their row's maximum and a constant, for the context rows. -/
def expC' (w : BitVec 32) (s : FVec Ideal S16x2x4x256x256 .f32) (t : FVec Ideal S16x2x4x256 .f32) : FVec Ideal S16x2x4x256x256 .f32 :=
  Host.exp (subf s
    (broadcastInDim S16x2x4x256x256 ![0, 1, 2, 3, 4] bcast_S16x2x4x256x1_S16x2x4x256x256_0_1_2_3_4
      (broadcastInDim S16x2x4x256x1 ![0, 1, 2, 3] bcast_S16x2x4x256_S16x2x4x256x1_0_1_2_3
        (maximumf (broadcastInDim S16x2x4x256 ![] bcast_S_S16x2x4x256 (constant S_ .f32 w)) t))))

/-- The exponentials of the scores less their row's maximum, for the context rows. -/
def expC (s : FVec Ideal S16x2x4x256x256 .f32) : FVec Ideal S16x2x4x256x256 .f32 := expC' 0xFF800000#32 s (topC s)

/-- The softmax weights of the context rows, from the exponentials. -/
def weightC (p : FVec Ideal S16x2x4x256x256 .f32) : FVec Ideal S16x2x4x256x256 .f32 :=
  Host.divf p
    (broadcastInDim S16x2x4x256x256 ![0, 1, 2, 3, 4] bcast_S16x2x4x256x1_S16x2x4x256x256_0_1_2_3_4
      (broadcastInDim S16x2x4x256x1 ![0, 1, 2, 3] bcast_S16x2x4x256_S16x2x4x256x1_0_1_2_3
        (Host.reduceAdd p (constant S_ .f32 0x00000000#32) reducesTo_S16x2x4x256x256_S16x2x4x256_d4 h_S_)))

/-- The context rows' weighted sums of the context's values, laid out as rows. -/
def outC (w : FVec Ideal S16x2x4x256x256 .f32) (V : FVec Ideal S16x2304x256 .bf16) : FVec Ideal S16x256x1024 .bf16 :=
  shapeCast S16x256x1024 (truncf .bf16 (transpose S16x256x2x4x128 [0, 4, 1, 3, 2]
      (Host.dotGeneral dot_S16x256x2x128_S16x2x4x256x256_S16x2x128x4x256_1_4_3_23_02_01 none
        (extractStridedSlice S16x256x2x128 ![0, 2048, 0, 0] (shapeCast S16x2304x2x128 V shapeCasts_S16x2304x256_S16x2304x2x128)
          slices_S16x2304x2x128_S16x256x2x128_0_2048_0_0) (truncf .bf16 w bitsLt_bf16_f32))
      transposes_S16x2x128x4x256_S16x256x2x4x128_0_4_1_3_2) bitsLt_bf16_f32) shapeCasts_S16x256x2x4x128_S16x256x1024

/-- The reference's result: the latent rows, then the context rows. -/
def REF (Q : FVec Ideal S16x2304x1024 .bf16) (K V : FVec Ideal S16x2304x256 .bf16) : FVec Ideal S16x2304x1024 .bf16 :=
  concatenate S16x2304x1024 1 [⟨S16x2048x1024, outL (weightL (expL (scoreL Q K))) V⟩,
    ⟨S16x256x1024, outC (weightC (expC (scoreC Q K))) V⟩] concatenates_S16x2048x1024_S16x256x1024_S16x2304x1024_d1

/-- The run's composed term is `REF` of the argument arrays. -/
theorem res_eq (m : (ℓ : Loc nD τ sig) → Buf (Elt Ideal) ℓ) (c : Dev nD) :
    Value.res_main_v48 (F := Ideal) m c
      = REF (m ((c : Thread nD τ).loc main_arg0)) (m ((c : Thread nD τ).loc main_arg1)) (m ((c : Thread nD τ).loc main_arg2)) := rfl

/-! ## The latent rows, stage by stage at an index -/

theorem scoreL_at (Q : FVec Ideal S16x2304x1024 .bf16) (K : FVec Ideal S16x2304x256 .bf16)
    (b : Fin 16) (h : Fin 2) (g : Fin 4) (r : Fin 2048) (l : Fin 2304) :
    scoreL Q K (ix5 b h g r l) = (∑ d : Fin 128, K (ix3 b l ⟨h.val * 128 + d.val, by omega⟩)
      * Q (ix3 b ⟨r.val, by omega⟩ ⟨h.val * 512 + g.val * 128 + d.val, by omega⟩)) * Ideal.ofBits .f32 0x3DB504F3#32 := by
  pointwise [scoreL]

theorem topL_at (s : FVec Ideal S16x2x4x2048x2304 .f32) (b : Fin 16) (h : Fin 2) (g : Fin 4) (r : Fin 2048) :
    topL s (ix4 b h g r) = Softmax.top fun l : Fin 2304 => s (ix5 b h g r l) :=
  RowMax.reduce_max_at s _ _ _ b h g r

theorem expL'_at (w : BitVec 32) (s : FVec Ideal S16x2x4x2048x2304 .f32) (t : FVec Ideal S16x2x4x2048 .f32)
    (b : Fin 16) (h : Fin 2) (g : Fin 4) (r : Fin 2048) (l : Fin 2304) :
    expL' w s t (ix5 b h g r l) = Ideal.exp (s (ix5 b h g r l) - max (Ideal.ofBits .f32 w) (t (ix4 b h g r))) := by
  pointwise [expL']

theorem expL_at (s : FVec Ideal S16x2x4x2048x2304 .f32) (b : Fin 16) (h : Fin 2) (g : Fin 4) (r : Fin 2048) (l : Fin 2304) :
    expL s (ix5 b h g r l)
      = Ideal.exp (s (ix5 b h g r l) - max (Ideal.ofBits .f32 0xFF800000#32) (Softmax.top fun k : Fin 2304 => s (ix5 b h g r k))) := by
  rw [← topL_at]
  exact expL'_at _ s _ b h g r l

theorem weightL_at (p : FVec Ideal S16x2x4x2048x2304 .f32) (b : Fin 16) (h : Fin 2) (g : Fin 4) (r : Fin 2048) (l : Fin 2304) :
    weightL p (ix5 b h g r l) = Ideal.div (p (ix5 b h g r l)) (∑ k : Fin 2304, p (ix5 b h g r k)) := by
  pointwise [weightL]

theorem outL_at (w : FVec Ideal S16x2x4x2048x2304 .f32) (V : FVec Ideal S16x2304x256 .bf16) (b : Fin 16) (r : Fin 2048) (x : Fin 1024) :
    outL w V (ix3 b r x) = ∑ k : Fin 2304, V (ix3 b k ⟨x.val / 512 * 128 + x.val % 128, by omega⟩)
      * w (ix5 b ⟨x.val / 512, by omega⟩ ⟨x.val / 128 % 4, by omega⟩ r k) := by
  pointwise [outL]

/-- A latent row's scores, as the specification has them. -/
theorem scoreL_eq (Q : FVec Ideal S16x2304x1024 .bf16) (K : FVec Ideal S16x2304x256 .bf16)
    (b : Fin 16) (r : Fin 2048) (x : Fin 1024) (l : Fin 2304) :
    scoreL Q K (ix5 b ⟨x.val / 512, by omega⟩ ⟨x.val / 128 % 4, by omega⟩ r l)
      = AttnSpec.score Q K b ⟨r.val, by omega⟩ x l := by
  rw [scoreL_at]
  unfold AttnSpec.score
  refine congrArg (· * _) (Finset.sum_congr rfl fun d _ => ?_)
  rw [mul_comm]
  have e : x.val / 512 * 512 + x.val / 128 % 4 * 128 + d.val = x.val / 128 * 128 + d.val := by omega
  simp only [e]

/-- A latent row of the reference's result, for real queries and keys. -/
theorem rowL (Q : FVec Ideal S16x2304x1024 .bf16) (K V : FVec Ideal S16x2304x256 .bf16)
    (hQ : ∀ i, Softmax.IsReal (Q i)) (hK : ∀ i, Softmax.IsReal (K i)) (b : Fin 16) (r : Fin 2048) (x : Fin 1024) :
    outL (weightL (expL (scoreL Q K))) V (ix3 b r x)
      = Softmax.attn (fun l : Fin 2304 => AttnSpec.score Q K b ⟨r.val, by omega⟩ x l) (fun l => AttnSpec.value V b x l) := by
  rw [outL_at, ← Softmax.softmaxSum_eq (by omega) _ _ fun l => AttnSpec.isReal_score Q K hQ hK _ _ _ _]
  unfold Softmax.softmaxSum AttnSpec.value
  simp only [weightL_at, expL_at, scoreL_eq]

/-! ## The context rows, stage by stage at an index -/

theorem scoreC_at (Q : FVec Ideal S16x2304x1024 .bf16) (K : FVec Ideal S16x2304x256 .bf16)
    (b : Fin 16) (h : Fin 2) (g : Fin 4) (r : Fin 256) (l : Fin 256) :
    scoreC Q K (ix5 b h g r l) = (∑ d : Fin 128, K (ix3 b ⟨2048 + l.val, by omega⟩ ⟨h.val * 128 + d.val, by omega⟩)
      * Q (ix3 b ⟨2048 + r.val, by omega⟩ ⟨h.val * 512 + g.val * 128 + d.val, by omega⟩)) * Ideal.ofBits .f32 0x3DB504F3#32 := by
  pointwise [scoreC]

theorem topC_at (s : FVec Ideal S16x2x4x256x256 .f32) (b : Fin 16) (h : Fin 2) (g : Fin 4) (r : Fin 256) :
    topC s (ix4 b h g r) = Softmax.top fun l : Fin 256 => s (ix5 b h g r l) :=
  RowMax.reduce_max_at s _ _ _ b h g r

theorem expC'_at (w : BitVec 32) (s : FVec Ideal S16x2x4x256x256 .f32) (t : FVec Ideal S16x2x4x256 .f32)
    (b : Fin 16) (h : Fin 2) (g : Fin 4) (r : Fin 256) (l : Fin 256) :
    expC' w s t (ix5 b h g r l) = Ideal.exp (s (ix5 b h g r l) - max (Ideal.ofBits .f32 w) (t (ix4 b h g r))) := by
  pointwise [expC']

theorem expC_at (s : FVec Ideal S16x2x4x256x256 .f32) (b : Fin 16) (h : Fin 2) (g : Fin 4) (r : Fin 256) (l : Fin 256) :
    expC s (ix5 b h g r l)
      = Ideal.exp (s (ix5 b h g r l) - max (Ideal.ofBits .f32 0xFF800000#32) (Softmax.top fun k : Fin 256 => s (ix5 b h g r k))) := by
  rw [← topC_at]
  exact expC'_at _ s _ b h g r l

theorem weightC_at (p : FVec Ideal S16x2x4x256x256 .f32) (b : Fin 16) (h : Fin 2) (g : Fin 4) (r : Fin 256) (l : Fin 256) :
    weightC p (ix5 b h g r l) = Ideal.div (p (ix5 b h g r l)) (∑ k : Fin 256, p (ix5 b h g r k)) := by
  pointwise [weightC]

theorem outC_at (w : FVec Ideal S16x2x4x256x256 .f32) (V : FVec Ideal S16x2304x256 .bf16) (b : Fin 16) (r : Fin 256) (x : Fin 1024) :
    outC w V (ix3 b r x) = ∑ k : Fin 256, V (ix3 b ⟨2048 + k.val, by omega⟩ ⟨x.val / 512 * 128 + x.val % 128, by omega⟩)
      * w (ix5 b ⟨x.val / 512, by omega⟩ ⟨x.val / 128 % 4, by omega⟩ r k) := by
  pointwise [outC]

/-- A context row's scores, as the specification has them. -/
theorem scoreC_eq (Q : FVec Ideal S16x2304x1024 .bf16) (K : FVec Ideal S16x2304x256 .bf16)
    (b : Fin 16) (r : Fin 256) (x : Fin 1024) (l : Fin 256) :
    scoreC Q K (ix5 b ⟨x.val / 512, by omega⟩ ⟨x.val / 128 % 4, by omega⟩ r l)
      = AttnSpec.score Q K b ⟨2048 + r.val, by omega⟩ x ⟨2048 + l.val, by omega⟩ := by
  rw [scoreC_at]
  unfold AttnSpec.score
  refine congrArg (· * _) (Finset.sum_congr rfl fun d _ => ?_)
  rw [mul_comm]
  have e : x.val / 512 * 512 + x.val / 128 % 4 * 128 + d.val = x.val / 128 * 128 + d.val := by omega
  simp only [e]

/-- A context row of the reference's result, for real queries and keys. -/
theorem rowC (Q : FVec Ideal S16x2304x1024 .bf16) (K V : FVec Ideal S16x2304x256 .bf16)
    (hQ : ∀ i, Softmax.IsReal (Q i)) (hK : ∀ i, Softmax.IsReal (K i)) (b : Fin 16) (r : Fin 256) (x : Fin 1024) :
    outC (weightC (expC (scoreC Q K))) V (ix3 b r x)
      = Softmax.attn (fun l : Fin 256 => AttnSpec.score Q K b ⟨2048 + r.val, by omega⟩ x ⟨2048 + l.val, by omega⟩) (fun l => AttnSpec.value V b x ⟨2048 + l.val, by omega⟩) := by
  rw [outC_at, ← Softmax.softmaxSum_eq (by omega) _ _ fun l => AttnSpec.isReal_score Q K hQ hK _ _ _ _]
  unfold Softmax.softmaxSum AttnSpec.value
  simp only [weightC_at, expC_at, scoreC_eq]

/-- The reference's result at an index, for real queries and keys. -/
theorem REF_at (Q : FVec Ideal S16x2304x1024 .bf16) (K V : FVec Ideal S16x2304x256 .bf16)
    (hQ : ∀ i, Softmax.IsReal (Q i)) (hK : ∀ i, Softmax.IsReal (K i)) (b : Fin 16) (r : Fin 2304) (x : Fin 1024) :
    REF Q K V (ix3 b r x) = AttnSpec.at' Q K V b r x := by
  pointwise [REF]
  unfold AttnSpec.at'
  by_cases h : r.val < 2048
  · rw [dif_pos h, if_pos h, rowL Q K V hQ hK]
  · rw [dif_neg h, if_neg h, rowC Q K V hQ hK]
    have e : (⟨2048 + (r.val - 2048), by omega⟩ : Fin 2304) = r := Fin.ext (by show 2048 + (r.val - 2048) = r.val; omega)
    simp only [e]
    rfl

/-- The reference's result, for real queries and keys. -/
theorem REF_eq (Q : FVec Ideal S16x2304x1024 .bf16) (K V : FVec Ideal S16x2304x256 .bf16)
    (hQ : ∀ i, Softmax.IsReal (Q i)) (hK : ∀ i, Softmax.IsReal (K i)) : REF Q K V = AttnSpec.G Q K V := by
  funext i
  rw [eq_ix3 i]
  exact REF_at Q K V hQ hK _ _ _

end Cert.ReferenceIdeal.Attn

end
-- ==== Proof.AttnPre.lean ====
/- The precondition read back: every query and every key is a real number. -/
module

public import proofs.«01_k».proof.Proof.Gen.Pre_finite_qk
public import proofs.«01_k».proof.Proof.Softmax
public import Idealize.ShloMosaic.Lib.ReduceAll
public import Idealize.ShloMosaic.Lib.Affine
public import Idealize.ShloMosaic.Lib.Pointwise

@[expose] public section

noncomputable section

open Idealize.ShloMosaic

namespace Cert.AttnPre

open Cert.Pre_finite_qk Cert.Pre_finite_qk.Gen

instance : Subsingleton S_.Idx := ⟨fun a b => funext fun i => i.elim0⟩

/-- An ordered comparison that yields 1 holds. -/
theorem lt_of_cmp {x y : EReal} (h : Ideal.cmp .olt x y = 1#1) : x < y := by
  by_contra hn
  simp [Ideal.cmp, hn] at h

theorem real_of_pre (Q : FVec Ideal S16x2304x1024 .bf16) (K V : FVec Ideal S16x2304x256 .bf16)
    (h : Cert.Pre_finite_qk.fn (F := Ideal) Q K V = fun _ => 1#1) :
    (∀ i, Softmax.IsReal (Q i)) ∧ (∀ i, Softmax.IsReal (K i)) := by
  have h0 := congrFun h (fun a => a.elim0)
  dsimp only [Cert.Pre_finite_qk.fn] at h0
  obtain ⟨hq, hk⟩ := IntOp.andi_eq_one.mp h0
  refine ⟨fun i => ?_, fun i => ?_⟩
  · have e := Host.reduce_andi_all _ _ _ _ _ hq i
    refine Softmax.isReal_of_abs_lt (lt_of_lt_of_eq (lt_of_cmp e) Softmax.ofBits_inf_bf16)
  · have e := Host.reduce_andi_all _ _ _ _ _ hk i
    refine Softmax.isReal_of_abs_lt (lt_of_lt_of_eq (lt_of_cmp e) Softmax.ofBits_inf_bf16)

end Cert.AttnPre

end
-- ==== Proof.LastSpec.lean ====
/- What the last attention layer's call computes: the latent rows of the attention. -/
module

public import proofs.«01_k».proof.Proof.AttnSpec

@[expose] public section

noncomputable section

open Idealize.ShloMosaic

namespace Cert.LastSpec

open Cert.AttnSpec

/-- A latent row attends to all rows. -/
def at' (Q : Rows) (K V : Keys) (b : Fin 16) (r : Fin 2048) (x : Fin 1024) : EReal :=
  Softmax.attn (score Q K b ⟨r.val, by omega⟩ x) (value V b x)

/-- The whole result. -/
def G (Q : Rows) (K V : Keys) : (⟨3, ![16, 2048, 1024]⟩ : Shape).Idx → EReal := fun i => at' Q K V (i 0) (i 1) (i 2)

end Cert.LastSpec

end
-- ==== Proof.LastKernel.lean ====
/- The last attention layer's call: the latent rows only. Its result array, after its run, is the specification's. -/
module

public import proofs.«01_k».proof.Proof.Gen.LastIdeal.Value
public import proofs.«01_k».proof.Proof.AttnBlock
public import proofs.«01_k».proof.Proof.LastSpec

@[expose] public section

set_option maxRecDepth 16384

noncomputable section

open Idealize.ShloMosaic Idealize.ShloMosaic.TcCoe Idealize.SL.Sem

namespace Cert.LastIdeal.Attn

open Cert.LastIdeal Cert.LastIdeal.Gen
open Cert.KernelIdeal.Attn (block piece latent0 latent1 latent2 latent3)

set_option maxHeartbeats 1600000

/-- A block of rows, as the kernel leaves it. -/
theorem out_A (c : Dev nD) (i a1 h1 a2 h2 a3 h3 a4 h4 c0 c1) (x0 : Vec Ideal S1x256x512 .bf16)
    (x1 x2 : Vec Ideal S1x2304x128 .bf16) :
    out0_A_3 (F := Ideal) c i a1 h1 a2 h2 a3 h3 a4 h4 c0 c1 x0 x1 x2 = block (n := 2304) x0 x1 x2 := by
  unfold out0_A_3
  rw [View.read_writes_eq_canon _ _ _ (cover0_A_3 _ _ _ _ _ _ _ _ _ _ _ _ _ _ _)]
  have hc := cover0_A_3 (F := Ideal) c i a1 h1 a2 h2 a3 h3 a4 h4 c0 c1 x0 x1 x2
  revert hc
  unfold kernelRun0_A
  dsimp only
  sl_unfold_words
  have hz : (![0, 0, 0] : Fin 3 → ℕ) = fun _ => 0 := by decide
  have e1 : View.ld x1 (Rect.unit ![0, 0, 0] ![1, 2304, 128] inb_S1x2304x128_S1x2304x128_0_0_0) = x1 := View.ld_unit_zero hz _ x1
  have e2 : View.ld x2 (Rect.unit ![0, 0, 0] ![1, 2304, 128] inb_S1x2304x128_S1x2304x128_0_0_0) = x2 := View.ld_unit_zero hz _ x2
  simp only [View.readAt_eq_ld, h1.read_unread, h2.read_unread, h3.read_unread, e1, e2]
  intro hc
  funext y
  refine View.canon_apply_of_pieces _ _ ?_ y (hc y)
  intro p hp
  simp only [List.mem_cons, List.not_mem_nil, or_false] at hp
  rcases hp with rfl | rfl | rfl | rfl
  · exact piece 384 inb_S1x256x512_S1x256x128_0_0_384 x0 x1 x2 rfl _ fun r d => latent3 _ _ _ r d
  · exact piece 256 inb_S1x256x512_S1x256x128_0_0_256 x0 x1 x2 rfl _ fun r d => latent2 _ _ _ r d
  · exact piece 128 inb_S1x256x512_S1x256x128_0_0_128 x0 x1 x2 rfl _ fun r d => latent1 _ _ _ r d
  · exact piece 0 inb_S1x256x512_S1x256x128_0_0_0 x0 x1 x2 rfl _ fun r d => latent0 _ _ _ r d

/-- Which blocks the grid's point `t` reads and writes: batch `t / 16`, key head `t / 8 % 2`, row block `t % 8`. -/
theorem idx : ∀ t : Fin cfg0.N, win0_0.index t = ![t.val / 16, t.val % 8, t.val / 8 % 2]
    ∧ win0_1.index t = ![t.val / 16, 0, t.val / 8 % 2] ∧ win0_2.index t = ![t.val / 16, 0, t.val / 8 % 2]
    ∧ win0_3.index t = ![t.val / 16, t.val % 8, t.val / 8 % 2] :=
  (by decide +kernel : ∀ t : Fin grid0.N, _)

variable (m : (ℓ : Loc nD τ sig) → Buf (Elt Ideal) ℓ) (c : Dev nD)

/-- A query of point `t`'s block is the argument's at the block's place. -/
theorem q_at (t : Fin cfg0.N) (r : Fin 256) (x : Fin 512) (b : Fin 16) (R : Fin 2304) (X : Fin 1024)
    (hb : b.val = t.val / 16) (hR : R.val = t.val % 8 * 256 + r.val) (hX : X.val = t.val / 8 % 2 * 512 + x.val) :
    iblk m c 0 t (ix3 0 r x) = m ((c : Thread nD τ).loc main_arg0) (ix3 b R X) := by
  blk_point [iblk, V, idx t]

/-- So is a key. -/
theorem k_at (t : Fin cfg0.N) (l : Fin 2304) (x : Fin 128) (b : Fin 16) (X : Fin 256)
    (hb : b.val = t.val / 16) (hX : X.val = t.val / 8 % 2 * 128 + x.val) :
    iblk m c 1 t (ix3 0 l x) = m ((c : Thread nD τ).loc main_arg1) (ix3 b l X) := by
  blk_point [iblk, V, idx t]

/-- So is a value. -/
theorem v_at (t : Fin cfg0.N) (l : Fin 2304) (x : Fin 128) (b : Fin 16) (X : Fin 256)
    (hb : b.val = t.val / 16) (hX : X.val = t.val / 8 % 2 * 128 + x.val) :
    iblk m c 2 t (ix3 0 l x) = m ((c : Thread nD τ).loc main_arg2) (ix3 b l X) := by
  blk_point [iblk, V, idx t]

/-- The specification's value at the place of index `y` of a block. -/
theorem block_at (t : Fin cfg0.N) (y : S1x256x512.Idx) (j : S16x2048x1024.Idx)
    (hj0 : (j 0).val = t.val / 16) (hj1 : (j 1).val = t.val % 8 * 256 + (y 1).val)
    (hj2 : (j 2).val = t.val / 8 % 2 * 512 + (y 2).val) :
    block (n := 2304) (iblk m c 0 t) (iblk m c 1 t) (iblk m c 2 t) y
      = LastSpec.G (m ((c : Thread nD τ).loc main_arg0)) (m ((c : Thread nD τ).loc main_arg1))
          (m ((c : Thread nD τ).loc main_arg2)) j := by
  have h1 : (y 1).val < 256 := (y 1).isLt
  have h2 : (y 2).val < 512 := (y 2).isLt
  unfold LastSpec.G LastSpec.at' block
  refine congrArg₂ Softmax.attn (funext fun l => congrArg (· * _) (Finset.sum_congr rfl fun e _ => congrArg₂ (· * ·)
    (q_at m c t _ _ _ _ _ hj0 hj1 ?_) (k_at m c t _ _ _ _ hj0 ?_))) (funext fun l => v_at m c t _ _ _ _ hj0 ?_)
  all_goals (dsimp only; omega)

/-- The result array after the run. -/
theorem final : (dats m 0 c).arrAt 3 cfg0.N = LastSpec.G (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  rw [out_A]
  refine block_at m c t y _ ?_ ?_ ?_ <;> blk_simp [idx t]

end Cert.LastIdeal.Attn

end
-- ==== Proof.LastRef.lean ====
/- The last attention layer's reference: its composed term is the latent part of the first attention's. -/
module

public import proofs.«01_k».proof.Proof.Gen.LastReferenceIdeal.Run
public import proofs.«01_k».proof.Proof.AttnRef
public import proofs.«01_k».proof.Proof.LastSpec

@[expose] public section

set_option maxRecDepth 16384

noncomputable section

open Idealize.ShloMosaic Idealize.ShloMosaic.TcCoe Idealize.SL.Sem

namespace Cert.LastReferenceIdeal.Attn

open Cert.ReferenceIdeal.Attn (outL weightL expL scoreL rowL)
open Cert.LastReferenceIdeal Cert.LastReferenceIdeal.Gen

/-- The latent part of the attention, for real queries and keys, is the specification's array. -/
theorem latent_eq (Q : AttnSpec.Rows) (K V : AttnSpec.Keys)
    (hQ : ∀ i, Softmax.IsReal (Q i)) (hK : ∀ i, Softmax.IsReal (K i)) :
    outL (weightL (expL (scoreL Q K))) V = LastSpec.G Q K V := by
  funext i
  rw [eq_ix3 i]
  exact rowL Q K V hQ hK _ _ _

/-- The reference's run: its result is the latent part of the attention, its arguments are left alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = outL (weightL (expL (scoreL (m ((c : Thread nD τ).loc main_arg0)) (m ((c : Thread nD τ).loc main_arg1)))))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Value.run m ρ)

end Cert.LastReferenceIdeal.Attn

end
-- ==== Proof.ModSpec.lean ====
/- The modulated rows that the projections read, at an index. -/
module

public import Idealize.ShloMosaic.PureOps.Ideal
public import Idealize.ShloMosaic.Lib.Pointwise

@[expose] public section

noncomputable section

open Idealize.ShloMosaic

namespace Cert.ModSpec

/-- The rows' array and the modulation's: two groups (latent, context), sixteen sequences. -/
abbrev Rows : Type := (⟨2, ![36864, 1024]⟩ : Shape).Idx → EReal
abbrev Mods : Type := (⟨3, ![2, 16, 1024]⟩ : Shape).Idx → EReal

/-- A row's group: the first 2048 · 16 rows are latent. -/
def group (R : Fin 36864) : Fin 2 := ⟨R.val / 32768, by omega⟩

/-- A row's sequence. -/
def seq (R : Fin 36864) : Fin 16 := ⟨R.val % 16, by omega⟩

/-- Row `R` scaled by one more than its scale, and shifted. -/
def mod (x : Rows) (sc sh : Mods) (R : Fin 36864) (d : Fin 1024) : EReal :=
  x (ix2 R d) * (1 + sc (ix3 (group R) (seq R) d)) + sh (ix3 (group R) (seq R) d)

end Cert.ModSpec

end
-- ==== Proof.LruInSpec.lean ====
/- What the recurrent layer's input projection computes, at an index. -/
module

public import proofs.«01_k».proof.Proof.ModSpec
public import Idealize.ShloMosaic.PureOps.Ideal.Laws

@[expose] public section

noncomputable section

open Idealize.ShloMosaic

namespace Cert.LruInSpec

open Cert.ModSpec

/-- The weights' array, and each result's. -/
abbrev Weights : Type := (⟨2, ![1024, 2560]⟩ : Shape).Idx → EReal
abbrev Half : Type := (⟨2, ![36864, 1280]⟩ : Shape).Idx → EReal

/-- The projection of the modulated row. -/
def u (x : Rows) (sc sh : Mods) (w : Weights) (R : Fin 36864) (j : Fin 2560) : EReal :=
  ∑ d : Fin 1024, mod x sc sh R d * w (ix2 d j)

/-- The Gaussian error linear unit, by the error function. -/
def gelu (z : EReal) : EReal :=
  Ideal.ofBits .f32 0x3F000000#32 * z * (1 + Ideal.erf (z * Ideal.ofBits .f32 0x3F3504F3#32))

/-- The first result: the unit of the left half of the projection. -/
def gate (x : Rows) (sc sh : Mods) (w : Weights) : Half := fun i =>
  gelu (u x sc sh w (i 0) ⟨(i 1).val, by have : (i 1).val < 1280 := (i 1).isLt; omega⟩)

/-- The second result: the right half of the projection. -/
def xr (x : Rows) (sc sh : Mods) (w : Weights) : Half := fun i =>
  u x sc sh w (i 0) ⟨1280 + (i 1).val, by have : (i 1).val < 1280 := (i 1).isLt; omega⟩

/-- The unit by the complementary error function of the negated argument. -/
theorem gelu_erfc (z : EReal) :
    Ideal.ofBits .f32 0x3F000000#32 * z * Ideal.erfc (-z * Ideal.ofBits .f32 0x3F3504F3#32) = gelu z := by
  unfold gelu
  rw [EReal.neg_mul, Ideal.erfc_neg]

end Cert.LruInSpec

end
-- ==== Proof.LruInKernel.lean ====
/- The recurrent layer's input projection: the kernel's result arrays, after its run, are the specification's. -/
module

public import proofs.«01_k».proof.Proof.Gen.LruInIdeal.Value
public import proofs.«01_k».proof.Proof.LruInSpec
public import Idealize.ShloMosaic.Lib.Pipeline.ValueKit

@[expose] public section

set_option maxRecDepth 16384

noncomputable section

open Idealize.ShloMosaic Idealize.ShloMosaic.TcCoe Idealize.SL.Sem

namespace Cert.LruInIdeal.Lru

open Cert.LruInIdeal Cert.LruInIdeal.Gen

set_option maxHeartbeats 1600000

/-- The block's product at an index: the modulated row against the weights' column. -/
theorem pay1_at (x : FVec Ideal S256x1024 .f32) (sc sh : FVec Ideal S1x16x1024 .f32) (w : FVec Ideal S1024x2560 .bf16)
    (r : Fin 256) (j : Fin 2560) :
    k0_pay1 (F := Ideal) x sc sh w (ix2 r j) = ∑ d : Fin 1024, (x (ix2 r d) * (1
      + sc (ix3 0 ⟨r.val % 16, by omega⟩ d)) + sh (ix3 0 ⟨r.val % 16, by omega⟩ d)) * w (ix2 d j) := by
  pointwise [k0_pay1]

/-- The first store at an index. -/
theorem pay2_at (x : FVec Ideal S256x1024 .f32) (sc sh : FVec Ideal S1x16x1024 .f32) (w : FVec Ideal S1024x2560 .bf16)
    (r : Fin 256) (j : Fin 1280) :
    k0_pay2 (F := Ideal) x sc sh w (ix2 r j) = LruInSpec.gelu (k0_pay1 (F := Ideal) x sc sh w (ix2 r ⟨j.val, by omega⟩)) := by
  unfold LruInSpec.gelu
  pointwise [k0_pay2]
  rfl

/-- The second store at an index. -/
theorem pay3_at (x : FVec Ideal S256x1024 .f32) (sc sh : FVec Ideal S1x16x1024 .f32) (w : FVec Ideal S1024x2560 .bf16)
    (r : Fin 256) (j : Fin 1280) :
    k0_pay3 (F := Ideal) x sc sh w (ix2 r j) = k0_pay1 (F := Ideal) x sc sh w (ix2 r ⟨1280 + j.val, by omega⟩) := by
  pointwise [k0_pay3]

/-- Point `t` reads row block `t`, the modulation of its group (the first 128 blocks are latent) and all weights. -/
theorem idx : ∀ t : Fin cfg0.N, win0_0.index t = ![t.val, 0] ∧ win0_1.index t = ![t.val / 128, 0, 0]
    ∧ win0_2.index t = ![t.val / 128, 0, 0] ∧ win0_3.index t = ![0, 0] ∧ win0_4.index t = ![t.val, 0]
    ∧ win0_5.index t = ![t.val, 0] :=
  (by decide +kernel : ∀ t : Fin grid0.N, _)

variable (m : (ℓ : Loc nD τ sig) → Buf (Elt Ideal) ℓ) (c : Dev nD)

/-- A row of point `t`'s block is the argument's at the block's place. -/
theorem x_at (t : Fin cfg0.N) (r : Fin 256) (d : Fin 1024) (R : Fin 36864) (hR : R.val = t.val * 256 + r.val) :
    iblk m c 0 t (ix2 r d) = m ((c : Thread nD τ).loc main_arg0) (ix2 R d) := by
  blk_point [iblk, V, idx t]

/-- So is a scale. -/
theorem sc_at (t : Fin cfg0.N) (b : Fin 16) (d : Fin 1024) (g : Fin 2) (hg : g.val = t.val / 128) :
    iblk m c 1 t (ix3 0 b d) = m ((c : Thread nD τ).loc main_arg1) (ix3 g b d) := by
  blk_point [iblk, V, idx t]

/-- So is a shift. -/
theorem sh_at (t : Fin cfg0.N) (b : Fin 16) (d : Fin 1024) (g : Fin 2) (hg : g.val = t.val / 128) :
    iblk m c 2 t (ix3 0 b d) = m ((c : Thread nD τ).loc main_arg2) (ix3 g b d) := by
  blk_point [iblk, V, idx t]

/-- The weights' block is the argument. -/
theorem w_at (t : Fin cfg0.N) (d : Fin 1024) (j : Fin 2560) :
    iblk m c 3 t (ix2 d j) = m ((c : Thread nD τ).loc main_arg3) (ix2 d j) := by
  blk_point [iblk, idx t]

/-- The product at point `t` is the specification's. -/
theorem u_at (t : Fin cfg0.N) (r : Fin 256) (j : Fin 2560) (R : Fin 36864) (hR : R.val = t.val * 256 + r.val) :
    k0_pay1 (F := Ideal) (iblk m c 0 t) (iblk m c 1 t) (iblk m c 2 t) (iblk m c 3 t) (ix2 r j)
      = LruInSpec.u (m ((c : Thread nD τ).loc main_arg0)) (m ((c : Thread nD τ).loc main_arg1))
          (m ((c : Thread nD τ).loc main_arg2)) (m ((c : Thread nD τ).loc main_arg3)) R j := by
  have hb : ModSpec.seq R = ⟨r.val % 16, by omega⟩ := Fin.ext (by show R.val % 16 = r.val % 16; omega)
  have hg : (ModSpec.group R).val = t.val / 128 := by show R.val / 32768 = t.val / 128; omega
  rw [pay1_at]
  unfold LruInSpec.u ModSpec.mod
  rw [hb]
  exact Finset.sum_congr rfl fun d _ => congrArg₂ (· * ·)
    (congrArg₂ (· + ·) (congrArg₂ (· * ·) (x_at m c t r d R hR) (congrArg (_ + ·) (sc_at m c t _ d _ hg)))
      (sh_at m c t _ d _ hg)) (w_at m c t d j)

/-- The first store at point `t` is the specification's at the block's place. -/
theorem gate_at (t : Fin cfg0.N) (y : S256x1280.Idx) (j : S36864x1280.Idx) (h0 : (j 0).val = t.val * 256 + (y 0).val)
    (h1 : (j 1).val = (y 1).val) :
    k0_pay2 (F := Ideal) (iblk m c 0 t) (iblk m c 1 t) (iblk m c 2 t) (iblk m c 3 t) y
      = LruInSpec.gate (m ((c : Thread nD τ).loc main_arg0)) (m ((c : Thread nD τ).loc main_arg1))
          (m ((c : Thread nD τ).loc main_arg2)) (m ((c : Thread nD τ).loc main_arg3)) j := by
  rw [eq_ix2 y]
  refine (pay2_at _ _ _ _ _ _).trans (congrArg LruInSpec.gelu ((u_at m c t _ _ (j 0) h0).trans ?_))
  exact congrArg (LruInSpec.u _ _ _ _ (j 0)) (Fin.ext h1.symm)

/-- So is the second. -/
theorem xr_at (t : Fin cfg0.N) (y : S256x1280.Idx) (j : S36864x1280.Idx) (h0 : (j 0).val = t.val * 256 + (y 0).val)
    (h1 : (j 1).val = (y 1).val) :
    k0_pay3 (F := Ideal) (iblk m c 0 t) (iblk m c 1 t) (iblk m c 2 t) (iblk m c 3 t) y
      = LruInSpec.xr (m ((c : Thread nD τ).loc main_arg0)) (m ((c : Thread nD τ).loc main_arg1))
          (m ((c : Thread nD τ).loc main_arg2)) (m ((c : Thread nD τ).loc main_arg3)) j := by
  rw [eq_ix2 y]
  refine (pay3_at _ _ _ _ _ _).trans ((u_at m c t _ _ (j 0) h0).trans ?_)
  exact congrArg (LruInSpec.u _ _ _ _ (j 0)) (Fin.ext (congrArg (1280 + ·) h1.symm))

/-- The first result array after the run. -/
theorem final4 : (dats m 0 c).arrAt 4 cfg0.N = LruInSpec.gate (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  refine gate_at m c t y _ ?_ ?_ <;> blk_simp [idx t]

/-- The second result array after the run. -/
theorem final5 : (dats m 0 c).arrAt 5 cfg0.N = LruInSpec.xr (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine xr_at m c t y _ ?_ ?_ <;> blk_simp [idx t]

end Cert.LruInIdeal.Lru

end
-- ==== Proof.ModRef.lean ====
/- The modulated rows of the reference, stage by stage at an index. -/
module

public import proofs.«01_k».proof.Proof.Gen.LruInReferenceIdeal.Run
public import proofs.«01_k».proof.Proof.ModSpec

@[expose] public section

set_option maxRecDepth 16384

noncomputable section

open Idealize.ShloMosaic Idealize.ShloMosaic.TcCoe Idealize.SL.Sem

namespace Cert.LruInReferenceIdeal.Lru

open Cert.LruInReferenceIdeal Cert.LruInReferenceIdeal.Gen

/-- The latent rows, modulated. -/
def latent (x : FVec Ideal S36864x1024 .f32) (sc sh : FVec Ideal S2x16x1024 .f32) : FVec Ideal S2048x16x1024 .f32 :=
  addf (mulf (extractStridedSlice S2048x16x1024 ![0, 0, 0] (shapeCast S2304x16x1024 x shapeCasts_S36864x1024_S2304x16x1024)
        slices_S2304x16x1024_S2048x16x1024_0_0_0)
      (broadcastInDim S2048x16x1024 ![0, 1, 2] bcast_S1x16x1024_S2048x16x1024_0_1_2
        (broadcastInDim S1x16x1024 ![1, 2] bcast_S16x1024_S1x16x1024_1_2
          (addf (broadcastInDim S16x1024 ![] bcast_S_S16x1024 (constant S_ .f32 0x3F800000#32))
            (shapeCast S16x1024 (extractStridedSlice S1x16x1024 ![0, 0, 0] sc slices_S2x16x1024_S1x16x1024_0_0_0)
              shapeCasts_S1x16x1024_S16x1024)))))
    (broadcastInDim S2048x16x1024 ![0, 1, 2] bcast_S1x16x1024_S2048x16x1024_0_1_2
      (broadcastInDim S1x16x1024 ![1, 2] bcast_S16x1024_S1x16x1024_1_2
        (shapeCast S16x1024 (extractStridedSlice S1x16x1024 ![0, 0, 0] sh slices_S2x16x1024_S1x16x1024_0_0_0)
          shapeCasts_S1x16x1024_S16x1024)))

/-- The context rows, modulated. -/
def context (x : FVec Ideal S36864x1024 .f32) (sc sh : FVec Ideal S2x16x1024 .f32) : FVec Ideal S256x16x1024 .f32 :=
  addf (mulf (extractStridedSlice S256x16x1024 ![2048, 0, 0] (shapeCast S2304x16x1024 x shapeCasts_S36864x1024_S2304x16x1024)
        slices_S2304x16x1024_S256x16x1024_2048_0_0)
      (broadcastInDim S256x16x1024 ![0, 1, 2] bcast_S1x16x1024_S256x16x1024_0_1_2
        (broadcastInDim S1x16x1024 ![1, 2] bcast_S16x1024_S1x16x1024_1_2
          (addf (broadcastInDim S16x1024 ![] bcast_S_S16x1024 (constant S_ .f32 0x3F800000#32))
            (shapeCast S16x1024 (extractStridedSlice S1x16x1024 ![1, 0, 0] sc slices_S2x16x1024_S1x16x1024_1_0_0)
              shapeCasts_S1x16x1024_S16x1024)))))
    (broadcastInDim S256x16x1024 ![0, 1, 2] bcast_S1x16x1024_S256x16x1024_0_1_2
      (broadcastInDim S1x16x1024 ![1, 2] bcast_S16x1024_S1x16x1024_1_2
        (shapeCast S16x1024 (extractStridedSlice S1x16x1024 ![1, 0, 0] sh slices_S2x16x1024_S1x16x1024_1_0_0)
          shapeCasts_S1x16x1024_S16x1024)))

/-- Latent rows, then context rows. -/
def modulated (x : FVec Ideal S36864x1024 .f32) (sc sh : FVec Ideal S2x16x1024 .f32) : FVec Ideal S2304x16x1024 .f32 :=
  concatenate S2304x16x1024 0 [⟨S2048x16x1024, latent x sc sh⟩, ⟨S256x16x1024, context x sc sh⟩]
    concatenates_S2048x16x1024_S256x16x1024_S2304x16x1024_d0

theorem latent_at (x : FVec Ideal S36864x1024 .f32) (sc sh : FVec Ideal S2x16x1024 .f32) (r : Fin 2048) (b : Fin 16) (d : Fin 1024) :
    latent x sc sh (ix3 r b d) = x (ix2 ⟨r.val * 16 + b.val, by omega⟩ d) * (1 + sc (ix3 0 b d))
      + sh (ix3 0 b d) := by
  pointwise [latent]

theorem context_at (x : FVec Ideal S36864x1024 .f32) (sc sh : FVec Ideal S2x16x1024 .f32) (r : Fin 256) (b : Fin 16) (d : Fin 1024) :
    context x sc sh (ix3 r b d) = x (ix2 ⟨(2048 + r.val) * 16 + b.val, by omega⟩ d) * (1 + sc (ix3 1 b d))
      + sh (ix3 1 b d) := by
  pointwise [context]

/-- The modulated rows at token `r` of sequence `b`, as the specification has them. -/
theorem modulated_at (x : FVec Ideal S36864x1024 .f32) (sc sh : FVec Ideal S2x16x1024 .f32) (r : Fin 2304) (b : Fin 16) (d : Fin 1024)
    (R : Fin 36864) (hR : R.val = r.val * 16 + b.val) :
    modulated x sc sh (ix3 r b d) = ModSpec.mod x sc sh R d := by
  have hs : ModSpec.seq R = b := Fin.ext (by show R.val % 16 = b.val; omega)
  unfold ModSpec.mod
  rw [hs]
  pointwise [modulated]
  by_cases h : r.val < 2048
  · have hg : ModSpec.group R = 0 := Fin.ext (by show R.val / 32768 = 0; omega)
    have hx : (⟨r.val * 16 + b.val, by omega⟩ : Fin 36864) = R := Fin.ext hR.symm
    rw [dif_pos h, hg, latent_at, hx]
  · have hg : ModSpec.group R = 1 := Fin.ext (by show R.val / 32768 = 1; omega)
    have hx : (⟨(2048 + (r.val - 2048)) * 16 + b.val, by omega⟩ : Fin 36864) = R := Fin.ext (by show (2048 + (r.val - 2048)) * 16 + b.val = R.val; omega)
    rw [dif_neg h, hg, context_at, hx]

end Cert.LruInReferenceIdeal.Lru

end
-- ==== Proof.LruInRef.lean ====
/- The recurrent layer's input projection: the reference's composed terms are the specification's arrays. -/
module

public import proofs.«01_k».proof.Proof.ModRef
public import proofs.«01_k».proof.Proof.LruInSpec

@[expose] public section

set_option maxRecDepth 16384

noncomputable section

open Idealize.ShloMosaic Idealize.ShloMosaic.TcCoe Idealize.SL.Sem

namespace Cert.LruInReferenceIdeal.Lru

open Cert.LruInReferenceIdeal Cert.LruInReferenceIdeal.Gen

/-- The projection, as rows. -/
def proj (h : FVec Ideal S2304x16x1024 .f32) (w : FVec Ideal S1024x2560 .f32) : FVec Ideal S36864x2560 .f32 :=
  shapeCast S36864x2560 (Host.dotGeneral dot_S2304x16x1024_S1024x2560_S2304x16x2560_2_0_01_1_n_n none h w)
    shapeCasts_S2304x16x2560_S36864x2560

/-- Its left and right halves. -/
def left (u : FVec Ideal S36864x2560 .f32) : FVec Ideal S36864x1280 .f32 :=
  extractStridedSlice S36864x1280 ![0, 0] u slices_S36864x2560_S36864x1280_0_0
def right (u : FVec Ideal S36864x2560 .f32) : FVec Ideal S36864x1280 .f32 :=
  extractStridedSlice S36864x1280 ![0, 1280] u slices_S36864x2560_S36864x1280_0_1280

/-- The unit, by the complementary error function. -/
def unit (z : FVec Ideal S36864x1280 .f32) : FVec Ideal S36864x1280 .f32 :=
  mulf (mulf (broadcastInDim S36864x1280 ![] bcast_S_S36864x1280 (constant S_ .f32 0x3F000000#32)) z)
    (Host.erfc (mulf (Host.negf z) (broadcastInDim S36864x1280 ![] bcast_S_S36864x1280 (constant S_ .f32 0x3F3504F3#32))))

theorem proj_at (h : FVec Ideal S2304x16x1024 .f32) (w : FVec Ideal S1024x2560 .f32) (R : Fin 36864) (j : Fin 2560) :
    proj h w (ix2 R j) = ∑ d : Fin 1024, h (ix3 ⟨R.val / 16, by omega⟩ ⟨R.val % 16, by omega⟩ d) * w (ix2 d j) := by
  pointwise [proj]

theorem left_at (u : FVec Ideal S36864x2560 .f32) (R : Fin 36864) (j : Fin 1280) : left u (ix2 R j) = u (ix2 R ⟨j.val, by omega⟩) := by
  pointwise [left]

theorem right_at (u : FVec Ideal S36864x2560 .f32) (R : Fin 36864) (j : Fin 1280) : right u (ix2 R j) = u (ix2 R ⟨1280 + j.val, by omega⟩) := by
  pointwise [right]

theorem unit_at (z : FVec Ideal S36864x1280 .f32) (R : Fin 36864) (j : Fin 1280) : unit z (ix2 R j) = LruInSpec.gelu (z (ix2 R j)) := by
  rw [← LruInSpec.gelu_erfc]
  pointwise [unit]

/-- The reference's projection at an index is the specification's. -/
theorem u_at (x : FVec Ideal S36864x1024 .f32) (sc sh : FVec Ideal S2x16x1024 .f32) (w : FVec Ideal S1024x2560 .f32)
    (R : Fin 36864) (j : Fin 2560) : proj (modulated x sc sh) w (ix2 R j) = LruInSpec.u x sc sh w R j := by
  rw [proj_at]
  exact Finset.sum_congr rfl fun d _ => congrArg (· * _) (modulated_at x sc sh _ _ d R (by dsimp only; omega))

/-- The first result. -/
theorem gate_eq (x : FVec Ideal S36864x1024 .f32) (sc sh : FVec Ideal S2x16x1024 .f32) (w : FVec Ideal S1024x2560 .f32) :
    unit (left (proj (modulated x sc sh) w)) = LruInSpec.gate x sc sh w := by
  funext i
  rw [eq_ix2 i]
  exact (unit_at _ _ _).trans (congrArg LruInSpec.gelu ((left_at _ _ _).trans (u_at x sc sh w _ _)))

/-- The second result. -/
theorem xr_eq (x : FVec Ideal S36864x1024 .f32) (sc sh : FVec Ideal S2x16x1024 .f32) (w : FVec Ideal S1024x2560 .f32) :
    right (proj (modulated x sc sh) w) = LruInSpec.xr x sc sh w := by
  funext i
  rw [eq_ix2 i]
  exact (right_at _ _ _).trans (u_at x sc sh w _ _)

/-- The reference's run: its results are the specification's arrays, its arguments are left alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38)
        = LruInSpec.gate (m ((c : Thread nD τ).loc main_arg0)) (m ((c : Thread nD τ).loc main_arg1))
            (m ((c : Thread nD τ).loc main_arg2)) (m ((c : Thread nD τ).loc main_arg3))
      ∧ r.2.mem ((c.tc : Thread nD τ).loc main_v31)
        = LruInSpec.xr (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (gate_eq _ _ _ _), (h c).2.1.trans (xr_eq _ _ _ _), (h c).2.2⟩) (Value.run m ρ)

end Cert.LruInReferenceIdeal.Lru

end
-- ==== Proof.QkvSpec.lean ====
/- What the attention layer's projections compute, at an index: the projection of a modulated row, and a head of it, normalised and turned. -/
module

public import proofs.«01_k».proof.Proof.ModSpec

@[expose] public section

set_option maxRecDepth 16384

noncomputable section

open Idealize.ShloMosaic Idealize.ShloMosaic.TcCoe Idealize.SL.Sem

namespace Cert.QkvSpec

open Cert.ModSpec

/-- The weights' array, the turns' cosines and sines, a head's gain, and the results' arrays. -/
abbrev Weights : Type := (⟨2, ![1024, 1536]⟩ : Shape).Idx → EReal
abbrev Turns : Type := (⟨3, ![2048, 2, 32]⟩ : Shape).Idx → EReal
abbrev Gain : Type := (⟨1, ![128]⟩ : Shape).Idx → EReal
abbrev Queries : Type := (⟨3, ![16, 2304, 1024]⟩ : Shape).Idx → EReal
abbrev Keys : Type := (⟨3, ![16, 2304, 256]⟩ : Shape).Idx → EReal

/-- The projection of the modulated row. -/
def u (x : Rows) (sc sh : Mods) (w : Weights) (R : Fin 36864) (j : Fin 1536) : EReal :=
  ∑ d : Fin 1024, mod x sc sh R d * w (ix2 d j)

/-- Sequence `b`'s row at token `t`. -/
def row (b : Fin 16) (t : Fin 2304) : Fin 36864 := ⟨t.val * 16 + b.val, by omega⟩

/-- A head divided by its root mean square, times its gain. -/
def norm (v g : Fin 128 → EReal) (d : Fin 128) : EReal :=
  v d * Ideal.rsqrt (Ideal.div (∑ e : Fin 128, v e * v e) (Ideal.ofBits .f32 0x43000000#32) + Ideal.ofBits .f32 0x358637BD#32) * g d

/-- A head turned at token `t`: two planes of 32 pairs (`d`, `d + 32`) are turned by the angles of the token's
    place; a context token's head stays. -/
def turn (v : Fin 128 → EReal) (cos sin : Turns) (t : Fin 2304) (d : Fin 128) : EReal :=
  if ht : t.val < 2048 then
    if hd : d.val % 64 < 32 then
      v d * cos (ix3 ⟨t.val, ht⟩ ⟨d.val / 64, by omega⟩ ⟨d.val % 32, by omega⟩)
        - v ⟨d.val + 32, by omega⟩ * sin (ix3 ⟨t.val, ht⟩ ⟨d.val / 64, by omega⟩ ⟨d.val % 32, by omega⟩)
    else
      v d * cos (ix3 ⟨t.val, ht⟩ ⟨d.val / 64, by omega⟩ ⟨d.val % 32, by omega⟩)
        + v ⟨d.val - 32, by omega⟩ * sin (ix3 ⟨t.val, ht⟩ ⟨d.val / 64, by omega⟩ ⟨d.val % 32, by omega⟩)
  else v d

/-- The head that begins at the projection's column `o`. -/
def head (x : Rows) (sc sh : Mods) (w : Weights) (cos sin : Turns) (g : Gain) (b : Fin 16) (t : Fin 2304) (o : Fin 1409)
    (d : Fin 128) : EReal :=
  turn (norm (fun e => u x sc sh w (row b t) ⟨o.val + e.val, by omega⟩) fun e => g (ix1 e)) cos sin t d

/-- The queries: eight heads of the projection's first 1024 columns. -/
def q (x : Rows) (sc sh : Mods) (w : Weights) (cos sin : Turns) (g : Gain) : Queries := fun i =>
  head x sc sh w cos sin g (i 0) (i 1) ⟨(i 2).val / 128 * 128, by have : (i 2).val < 1024 := (i 2).isLt; omega⟩
    ⟨(i 2).val % 128, by omega⟩

/-- The keys: two heads of the next 256. -/
def k (x : Rows) (sc sh : Mods) (w : Weights) (cos sin : Turns) (g : Gain) : Keys := fun i =>
  head x sc sh w cos sin g (i 0) (i 1) ⟨1024 + (i 2).val / 128 * 128, by have : (i 2).val < 256 := (i 2).isLt; omega⟩
    ⟨(i 2).val % 128, by omega⟩

/-- The values: the last 256 columns as they are. -/
def v (x : Rows) (sc sh : Mods) (w : Weights) : Keys := fun i =>
  u x sc sh w (row (i 0) (i 1)) ⟨1280 + (i 2).val, by have : (i 2).val < 256 := (i 2).isLt; omega⟩

/-- The three tables of one token by which a block is turned: a factor of the head itself, one of the head
    read 32 places on, and one of the head read 32 places back. -/
def here (cos : Turns) (t : Fin 2304) (d : Fin 128) : EReal :=
  if ht : t.val < 2048 then cos (ix3 ⟨t.val, ht⟩ ⟨d.val / 64, by omega⟩ ⟨d.val % 32, by omega⟩) else 1
def ahead (sin : Turns) (t : Fin 2304) (d : Fin 128) : EReal :=
  if ht : t.val < 2048 then if d.val % 64 < 32 then -sin (ix3 ⟨t.val, ht⟩ ⟨d.val / 64, by omega⟩ ⟨d.val % 32, by omega⟩) else 0 else 0
def behind (sin : Turns) (t : Fin 2304) (d : Fin 128) : EReal :=
  if ht : t.val < 2048 then if d.val % 64 < 32 then 0 else sin (ix3 ⟨t.val, ht⟩ ⟨d.val / 64, by omega⟩ ⟨d.val % 32, by omega⟩) else 0

/-- Three factors at each place, the head read round its 128 places: what a block's turning computes. -/
def turned (v c a b : Fin 128 → EReal) (d : Fin 128) : EReal :=
  v d * c d + v ⟨(d.val + 32) % 128, by omega⟩ * a d + v ⟨(d.val + 96) % 128, by omega⟩ * b d

/-- With the tables it is the turn. -/
theorem turned_eq (v : Fin 128 → EReal) (cos sin : Turns) (t : Fin 2304) (d : Fin 128) :
    turned v (here cos t) (ahead sin t) (behind sin t) d = turn v cos sin t d := by
  unfold turned turn here ahead behind
  by_cases ht : t.val < 2048
  · by_cases hd : d.val % 64 < 32
    · simp only [dif_pos ht, if_pos hd, dif_pos hd, mul_zero, add_zero]
      have e : (⟨(d.val + 32) % 128, by omega⟩ : Fin 128) = ⟨d.val + 32, by omega⟩ := Fin.ext (Nat.mod_eq_of_lt (by omega))
      rw [e, mul_neg, sub_eq_add_neg]
    · simp only [dif_pos ht, if_neg hd, dif_neg hd, mul_zero, add_zero]
      have e : (⟨(d.val + 96) % 128, by omega⟩ : Fin 128) = ⟨d.val - 32, by omega⟩ := Fin.ext (by show (d.val + 96) % 128 = d.val - 32; omega)
      rw [e]
  · simp only [dif_neg ht, mul_zero, add_zero, mul_one]

end Cert.QkvSpec
end
-- ==== Proof.Perm.lean ====
/- The zero-one matrix by which the attention kernels reorder the rows of a block, at an index, and a sum against its row. -/
module

public import Idealize.ShloMosaic.Lib.Pipeline.ValueKit

@[expose] public section

set_option maxRecDepth 16384

noncomputable section

open Idealize.ShloMosaic Idealize.ShloMosaic.TcCoe Idealize.SL.Sem

namespace Cert.Perm

/-- Two words below 256 agree exactly when the numbers do. -/
theorem word_eq (a b : ℕ) (ha : a < 256) (hb : b < 256) : BitVec.ofNat 32 a = BitVec.ofNat 32 b ↔ b = a := by
  constructor
  · intro h
    have := congrArg BitVec.toNat h
    simp only [BitVec.toNat_ofNat] at this
    omega
  · rintro rfl
    rfl

/-- The comparison of two such words, as a number, is one where they agree and zero elsewhere. -/
theorem bit (a b : ℕ) (ha : a < 256) (hb : b < 256) :
    FloatOps.uitofp (F := Ideal) .bf16 (IntOp.cmpi .eq (BitVec.ofNat 32 a) (BitVec.ofNat 32 b))
      = (if b = a then 1 else 0 : EReal) := by
  show (((IntOp.cmpi .eq (BitVec.ofNat 32 a) (BitVec.ofNat 32 b)).toNat : ℝ) : EReal) = _
  unfold IntOp.cmpi
  by_cases h : b = a
  · subst h
    simp
  · have hne : ¬ BitVec.ofNat 32 a = BitVec.ofNat 32 b := fun e => h ((word_eq a b ha hb).mp e)
    rw [if_neg h]
    simp only [beq_eq_false_iff_ne.mpr hne]
    simp

/-- A sum against a row of the matrix is the summand at that row's one. -/
theorem sum (n : ℕ) (hn : n < 256) (h : Fin 256 → EReal) :
    ∑ s : Fin 256, (if s.val = n then 1 else 0 : EReal) * h s = h ⟨n, hn⟩ := by
  rw [Finset.sum_eq_single (⟨n, hn⟩ : Fin 256) ?_ fun habs => absurd (Finset.mem_univ _) habs]
  · rw [if_pos rfl, one_mul]
  · intro s _ hs
    rw [if_neg fun e => hs (Fin.ext e), zero_mul]

end Cert.Perm
end
-- ==== Proof.QkvPay.lean ====
/- What a block of the attention layer's projections kernel stores, at an index, as expressions in the blocks it reads. -/
module

public import proofs.«01_k».proof.Proof.Gen.QkvIdeal.Frame
public import proofs.«01_k».proof.Proof.QkvSpec
public import proofs.«01_k».proof.Proof.Perm

@[expose] public section

set_option maxRecDepth 16384

noncomputable section

open Idealize.ShloMosaic Idealize.ShloMosaic.TcCoe Idealize.SL.Sem

namespace Cert.QkvIdeal.Qkv

open Cert.QkvIdeal Cert.QkvIdeal.Gen

set_option maxHeartbeats 1600000

/-- The block's product at an index: row `r` of the reordered, modulated rows against the weights' column. -/
theorem pay3_at (x : FVec Ideal S256x1024 .f32) (sc sh : FVec Ideal S1x16x1024 .f32) (p : FVec Ideal S256x256 .bf16)
    (w : FVec Ideal S1024x1536 .bf16) (r : Fin 256) (j : Fin 1536) :
    k0_pay3 (F := Ideal) x sc sh p w (ix2 r j) = ∑ d : Fin 1024, (∑ s : Fin 256, p (ix2 r s) * (x (ix2 s d) * (1
      + sc (ix3 0 ⟨s.val % 16, by omega⟩ d)) + sh (ix3 0 ⟨s.val % 16, by omega⟩ d))) * w (ix2 d j) := by
  pointwise [k0_pay3]

/-- A table's row repeated down the block: row `r` is the table's at `r`'s token. -/
theorem pay4_at (a : FVec Ideal S16x128 .f32) (r : Fin 256) (d : Fin 128) :
    k0_pay4 (F := Ideal) a (ix2 r d) = a (ix2 ⟨r.val % 16, by omega⟩ d) := by
  pointwise [k0_pay4]

/-- A head at an index, from its slice of the product, the three tables and its gain. -/
theorem pay16_at (c a b v : FVec Ideal S256x128 .f32) (g : FVec Ideal S1x128 .f32) (r : Fin 256) (d : Fin 128) :
    k0_pay16 (F := Ideal) c a b v g (ix2 r d) = QkvSpec.turned (QkvSpec.norm (fun e => v (ix2 r e)) fun e => g (ix2 0 e))
      (fun e => c (ix2 r e)) (fun e => a (ix2 r e)) (fun e => b (ix2 r e)) d := by
  unfold QkvSpec.turned QkvSpec.norm
  have e1 : d.val + 128 - 96 = d.val + 32 := by omega
  have e2 : d.val + 128 - 32 = d.val + 96 := by omega
  pointwise [k0_pay16]
  simp only [e1, e2]

/-- A slice of the product at an index. -/
theorem slice_at (v : FVec Ideal S256x1536 .f32) (o : ℕ) (ho : o < 1409) (h : S256x1536.Slices ![0, o] S256x128) (r : Fin 256) (d : Fin 128) :
    extractStridedSlice S256x128 ![0, o] v h (ix2 r d) = v (ix2 r ⟨o + d.val, by omega⟩) := by
  pointwise

/-- A head's slice of the product begins at a multiple of its width. -/
theorem slices : ∀ k : Fin 12, S256x1536.Slices ![0, k.val * 128] S256x128 := by
  decide

/-- Head `k` of a block, from the product, the tables' rows and the gain. -/
def headOf (u : FVec Ideal S256x1536 .f32) (c a b : FVec Ideal S16x128 .f32) (g : FVec Ideal S1x128 .f32) (k : Fin 12) :
    FVec Ideal S256x128 .f32 :=
  k0_pay16 (F := Ideal) (k0_pay4 c) (k0_pay4 a) (k0_pay4 b) (extractStridedSlice S256x128 ![0, k.val * 128] u (slices k)) g

section heads

variable (u : FVec Ideal S256x1536 .f32) (c a b : FVec Ideal S16x128 .f32) (g : FVec Ideal S1x128 .f32)

/-! Each head of the kernel's text is that head. -/

theorem head0 : k0_pay8 (F := Ideal) u (k0_pay4 c) (k0_pay5 a) (k0_pay6 b) g = headOf u c a b g 0 := rfl
theorem head1 : k0_pay12 (F := Ideal) (k0_pay10 u (k0_pay4 c) (k0_pay5 a) g) (k0_pay11 u (k0_pay6 b) g) = headOf u c a b g 1 := rfl
theorem head2 : k0_pay13 (F := Ideal) u (k0_pay4 c) (k0_pay5 a) (k0_pay7 (k0_pay6 b)) g = headOf u c a b g 2 := rfl
theorem head3 : k0_pay14 (F := Ideal) u (k0_pay4 c) (k0_pay5 a) (k0_pay7 (k0_pay6 b)) g = headOf u c a b g 3 := rfl
theorem head4 : k0_pay16 (F := Ideal) (k0_pay4 c) (k0_pay5 a) (k0_pay7 (k0_pay6 b)) (k0_pay15 u) g = headOf u c a b g 4 := rfl
theorem head5 : k0_pay17 (F := Ideal) u (k0_pay4 c) (k0_pay5 a) (k0_pay7 (k0_pay6 b)) g = headOf u c a b g 5 := rfl
theorem head6 : k0_pay19 (F := Ideal) (k0_pay4 c) (k0_pay5 a) (k0_pay7 (k0_pay6 b)) (k0_pay18 u) g = headOf u c a b g 6 := rfl
theorem head7 : k0_pay20 (F := Ideal) u (k0_pay4 c) (k0_pay5 a) (k0_pay7 (k0_pay6 b)) g = headOf u c a b g 7 := rfl
theorem head8 : k0_pay23 (F := Ideal) (k0_pay4 c) (k0_pay5 a) (k0_pay7 (k0_pay6 b)) (k0_pay21 u) (k0_pay22 g) = headOf u c a b g 8 := rfl
theorem head9 : k0_pay24 (F := Ideal) u (k0_pay4 c) (k0_pay5 a) (k0_pay7 (k0_pay6 b)) g = headOf u c a b g 9 := rfl

end heads

/-- Equal head and place, equal entry. -/
theorem side {n : ℕ} (f : Fin n → FVec Ideal S256x128 .f32) (R : Fin 256) {k k' : Fin n} {e e' : Fin 128}
    (hk : k.val = k'.val) (he : e.val = e'.val) : f k (ix2 R e) = f k' (ix2 R e') := by
  rw [Fin.ext hk, Fin.ext he]

/-- The eight heads side by side. -/
theorem pay25_at (f : Fin 8 → FVec Ideal S256x128 .f32) (b t : Fin 16) (j : Fin 1024) :
    k0_pay25 (F := Ideal) (f 0) (f 1) (f 2) (f 3) (f 4) (f 5) (f 6) (f 7) (ix3 b t j)
      = f ⟨j.val / 128, by omega⟩ (ix2 ⟨b.val * 16 + t.val, by omega⟩ ⟨j.val % 128, by omega⟩) := by
  pointwise [k0_pay25]
  split_ifs <;> refine side f _ ?_ ?_ <;> simp <;> omega

/-- The two heads side by side. -/
theorem pay1_at (f : Fin 2 → FVec Ideal S256x128 .f32) (b t : Fin 16) (j : Fin 256) :
    k0_pay1 (F := Ideal) (f 0) (f 1) (ix3 b t j)
      = f ⟨j.val / 128, by omega⟩ (ix2 ⟨b.val * 16 + t.val, by omega⟩ ⟨j.val % 128, by omega⟩) := by
  pointwise [k0_pay1]
  split_ifs <;> refine side f _ ?_ ?_ <;> simp <;> omega

/-- The values' columns. -/
theorem pay2_at (v : FVec Ideal S256x1536 .f32) (b t : Fin 16) (j : Fin 256) :
    k0_pay2 (F := Ideal) v (ix3 b t j) = v (ix2 ⟨b.val * 16 + t.val, by omega⟩ ⟨1280 + j.val, by omega⟩) := by
  pointwise [k0_pay2]

end Cert.QkvIdeal.Qkv
end
-- ==== Proof.QkvKernel.lean ====
/- The attention layer's projections: the kernel's result arrays, after its run, are the specification's. -/
module

public import proofs.«01_k».proof.Proof.QkvPay
public import Idealize.ShloMosaic.Lib.Pipeline.ValueKit

@[expose] public section

set_option maxRecDepth 16384

noncomputable section

open Idealize.ShloMosaic Idealize.ShloMosaic.TcCoe Idealize.SL.Sem

namespace Cert.QkvIdeal.Qkv

open Cert.QkvIdeal Cert.QkvIdeal.Gen

set_option maxHeartbeats 1600000

/-- Point `t` reads row block `t`, the modulation of its group (the first 128 blocks are latent), the reordering
    matrix, all weights, the tables' row block `t` and the gains; it writes every sequence's token block `t`. -/
theorem idx : ∀ t : Fin cfg0.N, win0_0.index t = ![t.val, 0] ∧ win0_1.index t = ![t.val / 128, 0, 0]
    ∧ win0_2.index t = ![t.val / 128, 0, 0] ∧ win0_3.index t = ![0, 0] ∧ win0_4.index t = ![0, 0]
    ∧ win0_5.index t = ![t.val, 0] ∧ win0_6.index t = ![t.val, 0] ∧ win0_7.index t = ![t.val, 0]
    ∧ win0_8.index t = ![0, 0] ∧ win0_9.index t = ![0, 0] ∧ win0_10.index t = ![0, t.val, 0]
    ∧ win0_11.index t = ![0, t.val, 0] ∧ win0_12.index t = ![0, t.val, 0] :=
  (by decide +kernel : ∀ t : Fin grid0.N, _)

variable (m : (ℓ : Loc nD τ sig) → Buf (Elt Ideal) ℓ) (c : Dev nD)

/-! ## What the host computes before the kernel -/

/-- The place in the block's own order of row `r` of the new order. -/
theorem place_at (r : Fin 256) : (V m c main_v22 : IVec S256 32) (ix1 r) = BitVec.ofNat 32 (r.val % 16 * 16 + r.val / 16) := by
  unfold V
  simp only [hostOps0, hostOps0_1, hostOps0_2, hostOps0_3, hostOps0_4, List.flatten_cons, List.flatten_nil, List.append_nil, List.cons_append,
    List.nil_append]
  after_results_simp
  simp only [StableHlo.TRef.ofBuf, StableHlo.TRef.toBuf, eqRec_eq_cast, cast_eq, id]
  pointwise
  change (_ : BitVec 32) = _
  revert r
  decide +kernel

/-- The reordering matrix, from the places. -/
theorem perm_eq : (V m c main_v29 : FVec Ideal S256x256 .bf16) = (uitofp .bf16 (cmpi .eq
    (broadcastInDim S256x256 ![0, 1] bcast_S256x1_S256x256_0_1 (broadcastInDim S256x1 ![0] bcast_S256_S256x1_0 (V m c main_v22 : IVec S256 32)))
    (broadcastInDim S256x256 ![0, 1] bcast_S1x256_S256x256_0_1 (broadcastInDim S1x256 ![1] bcast_S256_S1x256_1 (iotaInDim S256 32 0)))) :
      FVec Ideal S256x256 .bf16) := by
  unfold V
  simp only [hostOps0, hostOps0_1, hostOps0_2, hostOps0_3, hostOps0_4, List.flatten_cons, List.flatten_nil, List.append_nil, List.cons_append,
    List.nil_append]
  after_results_simp
  all_goals rfl

/-- The reordering matrix at an index: row `r` has its one at `r`'s place. -/
theorem perm_at (r s : Fin 256) :
    V m c main_v29 (ix2 r s) = (if s.val = r.val % 16 * 16 + r.val / 16 then 1 else 0 : EReal) := by
  rw [perm_eq]
  pointwise
  rw [place_at]
  exact Perm.bit _ _ (by omega) s.isLt

/-- The weights as the kernel takes them are the argument's. -/
theorem weights_at (d : Fin 1024) (j : Fin 1536) :
    V m c main_v0 (ix2 d j) = m ((c : Thread nD τ).loc main_arg3) (ix2 d j) := by
  unfold V
  simp only [hostOps0, hostOps0_1, hostOps0_2, hostOps0_3, hostOps0_4, List.flatten_cons, List.flatten_nil, List.append_nil, List.cons_append,
    List.nil_append]
  after_results_simp
  pointwise

/-- The queries' gain as the kernel takes it is the argument's. -/
theorem qgain_at (d : Fin 128) : V m c main_v15 (ix2 0 d) = m ((c : Thread nD τ).loc main_arg6) (ix1 d) := by
  unfold V
  simp only [hostOps0, hostOps0_1, hostOps0_2, hostOps0_3, hostOps0_4, List.flatten_cons, List.flatten_nil, List.append_nil, List.cons_append,
    List.nil_append]
  after_results_simp
  pointwise

/-- So is the keys'. -/
theorem kgain_at (d : Fin 128) : V m c main_v16 (ix2 0 d) = m ((c : Thread nD τ).loc main_arg7) (ix1 d) := by
  unfold V
  simp only [hostOps0, hostOps0_1, hostOps0_2, hostOps0_3, hostOps0_4, List.flatten_cons, List.flatten_nil, List.append_nil, List.cons_append,
    List.nil_append]
  after_results_simp
  pointwise

/-- A table from the latent tokens' two halves of each plane, and the word of the context tokens' entries. -/
def table (a b : FVec Ideal S2048x2x32 .f32) (word : BitVec 32) : FVec Ideal S2304x128 .f32 :=
  concatenate S2304x128 0 [⟨S2048x128, shapeCast S2048x128 (concatenate S2048x2x64 2 [⟨S2048x2x32, a⟩, ⟨S2048x2x32, b⟩]
    concatenates_S2048x2x32_S2048x2x32_S2048x2x64_d2) shapeCasts_S2048x2x64_S2048x128⟩,
    ⟨S256x128, broadcastInDim S256x128 ![] bcast_S_S256x128 (constant S_ .f32 word)⟩] concatenates_S2048x128_S256x128_S2304x128_d0

theorem table_at (a b : FVec Ideal S2048x2x32 .f32) (word : BitVec 32) (t : Fin 2304) (d : Fin 128) :
    table a b word (ix2 t d) = if ht : t.val < 2048 then if d.val % 64 < 32 then a (ix3 ⟨t.val, ht⟩ ⟨d.val / 64, by omega⟩ ⟨d.val % 32, by omega⟩)
      else b (ix3 ⟨t.val, ht⟩ ⟨d.val / 64, by omega⟩ ⟨d.val % 32, by omega⟩) else Ideal.ofBits .f32 word := by
  pointwise [table]
  by_cases ht : t.val < 2048
  · by_cases hd : d.val % 64 < 32
    · simp only [dif_pos ht, dif_pos hd, if_pos hd]
      exact congrArg (fun e => a (ix3 ⟨t.val, ht⟩ ⟨d.val / 64, by omega⟩ e)) (Fin.ext (by show d.val % 64 = d.val % 32; omega))
    · simp only [dif_pos ht, dif_neg hd, if_neg hd]
      exact congrArg (fun e => b (ix3 ⟨t.val, ht⟩ ⟨d.val / 64, by omega⟩ e)) (Fin.ext (by show d.val % 64 - 32 = d.val % 32; omega))
  · simp only [dif_neg ht]

/-- The zeros that fill the other half of each plane. -/
def zeros : FVec Ideal S2048x2x32 .f32 := broadcastInDim S2048x2x32 ![] bcast_S_S2048x2x32 (constant S_ .f32 0x00000000#32)

theorem zeros_at (i : S2048x2x32.Idx) : zeros i = 0 := by
  pointwise [zeros]

/-- The table of the head itself. -/
theorem here_at (t : Fin 2304) (d : Fin 128) :
    V m c main_v10 (ix2 t d) = QkvSpec.here (m ((c : Thread nD τ).loc main_arg4)) t d := by
  have e : V m c main_v10 = table (m ((c : Thread nD τ).loc main_arg4)) (m ((c : Thread nD τ).loc main_arg4)) 0x3F800000#32 := by
    unfold V
    simp only [hostOps0, hostOps0_1, hostOps0_2, hostOps0_3, hostOps0_4, List.flatten_cons, List.flatten_nil, List.append_nil, List.cons_append,
      List.nil_append]
    after_results_simp
    all_goals rfl
  rw [e, table_at]
  unfold QkvSpec.here
  simp only [ite_self]
  pointwise

/-- The table of the head read 32 places on. -/
theorem ahead_at (t : Fin 2304) (d : Fin 128) :
    V m c main_v12 (ix2 t d) = QkvSpec.ahead (m ((c : Thread nD τ).loc main_arg5)) t d := by
  have e : V m c main_v12 = table (Host.negf (m ((c : Thread nD τ).loc main_arg5))) zeros 0x00000000#32 := by
    unfold V
    simp only [hostOps0, hostOps0_1, hostOps0_2, hostOps0_3, hostOps0_4, List.flatten_cons, List.flatten_nil, List.append_nil, List.cons_append,
      List.nil_append]
    after_results_simp
    all_goals rfl
  rw [e, table_at]
  unfold QkvSpec.ahead
  simp only [zeros_at]
  pointwise

/-- The table of the head read 32 places back. -/
theorem behind_at (t : Fin 2304) (d : Fin 128) :
    V m c main_v14 (ix2 t d) = QkvSpec.behind (m ((c : Thread nD τ).loc main_arg5)) t d := by
  have e : V m c main_v14 = table zeros (m ((c : Thread nD τ).loc main_arg5)) 0x00000000#32 := by
    unfold V
    simp only [hostOps0, hostOps0_1, hostOps0_2, hostOps0_3, hostOps0_4, List.flatten_cons, List.flatten_nil, List.append_nil, List.cons_append,
      List.nil_append]
    after_results_simp
    all_goals rfl
  rw [e, table_at]
  unfold QkvSpec.behind
  simp only [zeros_at]
  pointwise

/-! ## The blocks a grid point reads -/

/-- A row of point `t`'s block is the argument's at the block's place. -/
theorem x_at (t : Fin cfg0.N) (r : Fin 256) (d : Fin 1024) (R : Fin 36864) (hR : R.val = t.val * 256 + r.val) :
    iblk m c 0 t (ix2 r d) = m ((c : Thread nD τ).loc main_arg0) (ix2 R d) := by
  blk_point [iblk, V_main_arg0, idx t]

/-- So is a scale. -/
theorem sc_at (t : Fin cfg0.N) (b : Fin 16) (d : Fin 1024) (g : Fin 2) (hg : g.val = t.val / 128) :
    iblk m c 1 t (ix3 0 b d) = m ((c : Thread nD τ).loc main_arg1) (ix3 g b d) := by
  blk_point [iblk, V_main_arg1, idx t]

/-- So is a shift. -/
theorem sh_at (t : Fin cfg0.N) (b : Fin 16) (d : Fin 1024) (g : Fin 2) (hg : g.val = t.val / 128) :
    iblk m c 2 t (ix3 0 b d) = m ((c : Thread nD τ).loc main_arg2) (ix3 g b d) := by
  blk_point [iblk, V_main_arg2, idx t]

/-- The reordering matrix is whole at every point. -/
theorem p_at (t : Fin cfg0.N) (r s : Fin 256) :
    iblk m c 3 t (ix2 r s) = (if s.val = r.val % 16 * 16 + r.val / 16 then 1 else 0 : EReal) := by
  refine Eq.trans ?_ (perm_at m c r s)
  blk_point [iblk, idx t]

/-- So are the weights. -/
theorem w_at (t : Fin cfg0.N) (d : Fin 1024) (j : Fin 1536) :
    iblk m c 4 t (ix2 d j) = m ((c : Thread nD τ).loc main_arg3) (ix2 d j) := by
  refine Eq.trans ?_ (weights_at m c d j)
  blk_point [iblk, idx t]

/-- The first table's row. -/
theorem c_at (t : Fin cfg0.N) (r : Fin 16) (d : Fin 128) (T : Fin 2304) (hT : T.val = t.val * 16 + r.val) :
    iblk m c 5 t (ix2 r d) = QkvSpec.here (m ((c : Thread nD τ).loc main_arg4)) T d := by
  refine Eq.trans ?_ (here_at m c T d)
  blk_point [iblk, idx t]

/-- The second's. -/
theorem a_at (t : Fin cfg0.N) (r : Fin 16) (d : Fin 128) (T : Fin 2304) (hT : T.val = t.val * 16 + r.val) :
    iblk m c 6 t (ix2 r d) = QkvSpec.ahead (m ((c : Thread nD τ).loc main_arg5)) T d := by
  refine Eq.trans ?_ (ahead_at m c T d)
  blk_point [iblk, idx t]

/-- The third's. -/
theorem b_at (t : Fin cfg0.N) (r : Fin 16) (d : Fin 128) (T : Fin 2304) (hT : T.val = t.val * 16 + r.val) :
    iblk m c 7 t (ix2 r d) = QkvSpec.behind (m ((c : Thread nD τ).loc main_arg5)) T d := by
  refine Eq.trans ?_ (behind_at m c T d)
  blk_point [iblk, idx t]

/-- The queries' gain. -/
theorem gq_at (t : Fin cfg0.N) (d : Fin 128) : iblk m c 8 t (ix2 0 d) = m ((c : Thread nD τ).loc main_arg6) (ix1 d) := by
  refine Eq.trans ?_ (qgain_at m c d)
  blk_point [iblk, idx t]

/-- The keys'. -/
theorem gk_at (t : Fin cfg0.N) (d : Fin 128) : iblk m c 9 t (ix2 0 d) = m ((c : Thread nD τ).loc main_arg7) (ix1 d) := by
  refine Eq.trans ?_ (kgain_at m c d)
  blk_point [iblk, idx t]

/-! ## What a grid point stores -/

/-- The product at point `t`: its row `16 b + i` is sequence `b`'s at the block's token `i`. -/
theorem u_at (t : Fin cfg0.N) (b i : Fin 16) (j : Fin 1536) (T : Fin 2304) (hT : T.val = t.val * 16 + i.val) :
    k0_pay3 (F := Ideal) (iblk m c 0 t) (iblk m c 1 t) (iblk m c 2 t) (iblk m c 3 t) (iblk m c 4 t) (ix2 ⟨b.val * 16 + i.val, by omega⟩ j)
      = QkvSpec.u (m ((c : Thread nD τ).loc main_arg0)) (m ((c : Thread nD τ).loc main_arg1))
          (m ((c : Thread nD τ).loc main_arg2)) (m ((c : Thread nD τ).loc main_arg3)) (QkvSpec.row b T) j := by
  have hb : ModSpec.seq (QkvSpec.row b T) = b := Fin.ext (by show (T.val * 16 + b.val) % 16 = b.val; omega)
  have hg : (ModSpec.group (QkvSpec.row b T)).val = t.val / 128 := by show (T.val * 16 + b.val) / 32768 = t.val / 128; omega
  rw [pay3_at]
  unfold QkvSpec.u ModSpec.mod
  rw [hb]
  refine Finset.sum_congr rfl fun d _ => congrArg₂ (· * ·) ?_ (w_at m c t d j)
  refine (Finset.sum_congr rfl fun s _ => congrArg (fun z : EReal => z * _) (p_at m c t _ s)).trans ((Perm.sum _ (by omega) _).trans ?_)
  have hs : (b.val * 16 + i.val) % 16 * 16 + (b.val * 16 + i.val) / 16 = i.val * 16 + b.val := by omega
  have hq : (⟨((b.val * 16 + i.val) % 16 * 16 + (b.val * 16 + i.val) / 16) % 16, by omega⟩ : Fin 16) = b :=
    Fin.ext (by show ((b.val * 16 + i.val) % 16 * 16 + (b.val * 16 + i.val) / 16) % 16 = b.val; omega)
  refine congrArg₂ (· + ·) (congrArg₂ (· * ·) (x_at m c t _ d (QkvSpec.row b T) ?_) (congrArg (_ + ·) ?_)) ?_
  · show T.val * 16 + b.val = t.val * 256 + ((b.val * 16 + i.val) % 16 * 16 + (b.val * 16 + i.val) / 16)
    omega
  · exact (congrArg (fun e => iblk m c 1 t (ix3 0 e d)) hq).trans (sc_at m c t b d _ hg)
  · exact (congrArg (fun e => iblk m c 2 t (ix3 0 e d)) hq).trans (sh_at m c t b d _ hg)

/-- Head `k` of point `t`'s block, by the gain `g`. -/
def heads (t : Fin cfg0.N) (g : FVec Ideal S1x128 .f32) (k : Fin 12) : FVec Ideal S256x128 .f32 :=
  headOf (k0_pay3 (F := Ideal) (iblk m c 0 t) (iblk m c 1 t) (iblk m c 2 t) (iblk m c 3 t) (iblk m c 4 t)) (iblk m c 5 t)
    (iblk m c 6 t) (iblk m c 7 t) g k

/-- It is the specification's head. -/
theorem heads_at (t : Fin cfg0.N) (g : FVec Ideal S1x128 .f32) (k : Fin 12) (G : QkvSpec.Gain) (hG : ∀ e : Fin 128, g (ix2 0 e) = G (ix1 e))
    (b i : Fin 16) (d : Fin 128) (T : Fin 2304) (hT : T.val = t.val * 16 + i.val) :
    heads m c t g k (ix2 ⟨b.val * 16 + i.val, by omega⟩ d)
      = QkvSpec.head (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) G b T ⟨k.val * 128, by omega⟩ d := by
  have hi : (⟨(b.val * 16 + i.val) % 16, by omega⟩ : Fin 16) = i := Fin.ext (by show (b.val * 16 + i.val) % 16 = i.val; omega)
  unfold heads headOf QkvSpec.head
  rw [pay16_at, ← QkvSpec.turned_eq]
  have e1 : (fun e : Fin 128 => extractStridedSlice S256x128 ![0, k.val * 128]
      (k0_pay3 (F := Ideal) (iblk m c 0 t) (iblk m c 1 t) (iblk m c 2 t) (iblk m c 3 t) (iblk m c 4 t)) (slices k)
        (ix2 ⟨b.val * 16 + i.val, by omega⟩ e)) = fun e => QkvSpec.u (m ((c : Thread nD τ).loc main_arg0)) (m ((c : Thread nD τ).loc main_arg1))
          (m ((c : Thread nD τ).loc main_arg2)) (m ((c : Thread nD τ).loc main_arg3)) (QkvSpec.row b T) ⟨k.val * 128 + e.val, by omega⟩ :=
    funext fun e => (slice_at _ _ (by omega) _ _ _).trans (u_at m c t b i _ T hT)
  have e2 : (fun e : Fin 128 => g (ix2 0 e)) = fun e => G (ix1 e) := funext hG
  have e3 : (fun e : Fin 128 => k0_pay4 (F := Ideal) (iblk m c 5 t) (ix2 ⟨b.val * 16 + i.val, by omega⟩ e))
      = QkvSpec.here (m ((c : Thread nD τ).loc main_arg4)) T :=
    funext fun e => (pay4_at _ _ _).trans ((congrArg (fun r => iblk m c 5 t (ix2 r e)) hi).trans (c_at m c t i e T hT))
  have e4 : (fun e : Fin 128 => k0_pay4 (F := Ideal) (iblk m c 6 t) (ix2 ⟨b.val * 16 + i.val, by omega⟩ e))
      = QkvSpec.ahead (m ((c : Thread nD τ).loc main_arg5)) T :=
    funext fun e => (pay4_at _ _ _).trans ((congrArg (fun r => iblk m c 6 t (ix2 r e)) hi).trans (a_at m c t i e T hT))
  have e5 : (fun e : Fin 128 => k0_pay4 (F := Ideal) (iblk m c 7 t) (ix2 ⟨b.val * 16 + i.val, by omega⟩ e))
      = QkvSpec.behind (m ((c : Thread nD τ).loc main_arg5)) T :=
    funext fun e => (pay4_at _ _ _).trans ((congrArg (fun r => iblk m c 7 t (ix2 r e)) hi).trans (b_at m c t i e T hT))
  rw [e1, e2, e3, e4, e5]

/-- The first store at point `t` is the specification's at the block's place. -/
theorem q_at (t : Fin cfg0.N) (y : S16x16x1024.Idx) (j : S16x2304x1024.Idx) (h0 : (j 0).val = (y 0).val)
    (h1 : (j 1).val = t.val * 16 + (y 1).val) (h2 : (j 2).val = (y 2).val) :
    k0_pay25 (F := Ideal) (heads m c t (iblk m c 8 t) 0) (heads m c t (iblk m c 8 t) 1) (heads m c t (iblk m c 8 t) 2)
        (heads m c t (iblk m c 8 t) 3) (heads m c t (iblk m c 8 t) 4) (heads m c t (iblk m c 8 t) 5) (heads m c t (iblk m c 8 t) 6)
        (heads m c t (iblk m c 8 t) 7) y
      = QkvSpec.q (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) j := by
  rw [eq_ix3 y]
  refine (pay25_at (fun k : Fin 8 => heads m c t (iblk m c 8 t) ⟨k.val, by omega⟩) _ _ _).trans ?_
  refine (heads_at m c t _ _ _ (gq_at m c t) _ _ _ (j 1) h1).trans ?_
  unfold QkvSpec.q
  have b0 : y 0 = j 0 := Fin.ext h0.symm
  have b1 : (⟨(y 2).val / 128 * 128, by have : (y 2).val < 1024 := (y 2).isLt; omega⟩ : Fin 1409) = ⟨(j 2).val / 128 * 128, by have : (j 2).val < 1024 := (j 2).isLt; omega⟩ :=
    Fin.ext (by show (y 2).val / 128 * 128 = (j 2).val / 128 * 128; rw [h2])
  have b2 : (⟨(y 2).val % 128, by omega⟩ : Fin 128) = ⟨(j 2).val % 128, by omega⟩ := Fin.ext (by show (y 2).val % 128 = (j 2).val % 128; rw [h2])
  exact congr (congrArg₂ (fun b o => QkvSpec.head _ _ _ _ _ _ _ b (j 1) o) b0 b1) b2

/-- So is the second. -/
theorem k_at (t : Fin cfg0.N) (y : S16x16x256.Idx) (j : S16x2304x256.Idx) (h0 : (j 0).val = (y 0).val)
    (h1 : (j 1).val = t.val * 16 + (y 1).val) (h2 : (j 2).val = (y 2).val) :
    k0_pay1 (F := Ideal) (heads m c t (iblk m c 9 t) 8) (heads m c t (iblk m c 9 t) 9) y
      = QkvSpec.k (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg7)) j := by
  rw [eq_ix3 y]
  refine (pay1_at (fun k : Fin 2 => heads m c t (iblk m c 9 t) ⟨8 + k.val, by omega⟩) _ _ _).trans ?_
  refine (heads_at m c t _ _ _ (gk_at m c t) _ _ _ (j 1) h1).trans ?_
  unfold QkvSpec.k
  have b0 : y 0 = j 0 := Fin.ext h0.symm
  have b1 : (⟨(8 + (y 2).val / 128) * 128, by have : (y 2).val < 256 := (y 2).isLt; omega⟩ : Fin 1409)
      = ⟨1024 + (j 2).val / 128 * 128, by have : (j 2).val < 256 := (j 2).isLt; omega⟩ :=
    Fin.ext (by show (8 + (y 2).val / 128) * 128 = 1024 + (j 2).val / 128 * 128; rw [h2]; omega)
  have b2 : (⟨(y 2).val % 128, by omega⟩ : Fin 128) = ⟨(j 2).val % 128, by omega⟩ := Fin.ext (by show (y 2).val % 128 = (j 2).val % 128; rw [h2])
  exact congr (congrArg₂ (fun b o => QkvSpec.head _ _ _ _ _ _ _ b (j 1) o) b0 b1) b2

/-- So is the third. -/
theorem v_at (t : Fin cfg0.N) (y : S16x16x256.Idx) (j : S16x2304x256.Idx) (h0 : (j 0).val = (y 0).val)
    (h1 : (j 1).val = t.val * 16 + (y 1).val) (h2 : (j 2).val = (y 2).val) :
    k0_pay2 (F := Ideal) (k0_pay3 (F := Ideal) (iblk m c 0 t) (iblk m c 1 t) (iblk m c 2 t) (iblk m c 3 t) (iblk m c 4 t)) y
      = QkvSpec.v (m ((c : Thread nD τ).loc main_arg0)) (m ((c : Thread nD τ).loc main_arg1))
          (m ((c : Thread nD τ).loc main_arg2)) (m ((c : Thread nD τ).loc main_arg3)) j := by
  rw [eq_ix3 y]
  refine (pay2_at _ _ _ _).trans ((u_at m c t _ _ _ (j 1) h1).trans ?_)
  unfold QkvSpec.v
  exact congrArg₂ (fun b e => QkvSpec.u _ _ _ _ (QkvSpec.row b (j 1)) e) (Fin.ext h0.symm) (Fin.ext (congrArg (1280 + ·) h2.symm))

end Cert.QkvIdeal.Qkv
end
-- ==== Proof.QkvFinal.lean ====
/- The attention layer's projections: the kernel's result arrays, after its run, are the specification's. -/
module

public import proofs.«01_k».proof.Proof.QkvKernel

@[expose] public section

set_option maxRecDepth 16384

noncomputable section

open Idealize.ShloMosaic Idealize.ShloMosaic.TcCoe Idealize.SL.Sem

namespace Cert.QkvIdeal.Qkv

open Cert.QkvIdeal Cert.QkvIdeal.Gen

variable (m : (ℓ : Loc nD τ sig) → Buf (Elt Ideal) ℓ) (c : Dev nD)

set_option maxHeartbeats 400000

/-- The values after the run. -/
theorem final12 : (dats m 0 c).arrAt 12 cfg0.N = QkvSpec.v (m ((c : Thread nD τ).loc main_arg0)) (m ((c : Thread nD τ).loc main_arg1))
    (m ((c : Thread nD τ).loc main_arg2)) (m ((c : Thread nD τ).loc main_arg3)) := by
  refine (dats m 0 c).arrAt_eq_of_covers 12 _ (by decide +kernel) fun t _ y => ?_
  blk_simp
  rw [after0_12]
  unfold_out out0_12
  frame_out
  refine v_at m c t y _ ?_ ?_ ?_ <;> blk_simp [idx t]

/-- The keys after the run. -/
theorem final11 : (dats m 0 c).arrAt 11 cfg0.N = QkvSpec.k (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg7)) := by
  refine (dats m 0 c).arrAt_eq_of_covers 11 _ (by decide +kernel) fun t _ y => ?_
  blk_simp
  rw [after0_11]
  unfold_out out0_11
  frame_out
  rw [head8, head9]
  refine k_at m c t y _ ?_ ?_ ?_ <;> blk_simp [idx t]

/-- The queries after the run. -/
theorem final10 : (dats m 0 c).arrAt 10 cfg0.N = QkvSpec.q (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 10 _ (by decide +kernel) fun t _ y => ?_
  blk_simp
  rw [after0_10]
  unfold_out out0_10
  frame_out
  rw [head0, head1, head2, head3, head4, head5, head6, head7]
  refine q_at m c t y _ ?_ ?_ ?_ <;> blk_simp [idx t]
/-- The run: the three results are the specification's, the arguments stay. -/
theorem run (ρ : Dev nD → PrngReg) :
    θ_run defs (onTc (τ := τ) (main (F := Ideal))) ⟨m, fun _ => 0, ρ⟩ fun r => ∀ c : Dev nD,
      r.2.mem ((c : Thread nD τ).loc main_v30_0) = QkvSpec.q (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_v30_1) = QkvSpec.k (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg7))
      ∧ r.2.mem ((c : Thread nD τ).loc main_v30_2) = QkvSpec.v (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  run_from Gen.run_main m ρ
  · exact final10 m _
  · exact final11 m _
  · exact final12 m _
  · exact V_main_arg3 m _
  · exact V_main_arg4 m _
  · exact V_main_arg5 m _
  · exact V_main_arg6 m _
  · exact V_main_arg7 m _

end Cert.QkvIdeal.Qkv
end
-- ==== Proof.QkvRefQ.lean ====
/- The attention layer's projections: the reference's queries. -/
module

public import proofs.«01_k».proof.Proof.Gen.QkvReferenceIdeal
public import proofs.«01_k».proof.Proof.QkvSpec

@[expose] public section

set_option maxRecDepth 16384

noncomputable section

open Idealize.ShloMosaic Idealize.ShloMosaic.TcCoe Idealize.SL.Sem

namespace Cert.QkvReferenceIdeal.Qkv

open Cert.QkvReferenceIdeal Cert.QkvReferenceIdeal.Gen

set_option maxHeartbeats 800000

/-- The projection's first columns as heads. -/
def heads8 (u : FVec Ideal S16x2304x1536 .f32) : FVec Ideal S16x2304x8x128 .f32 :=
  shapeCast S16x2304x8x128 (extractStridedSlice S16x2304x1024 ![0, 0, 0] u slices_S16x2304x1536_S16x2304x1024_0_0_0)
    shapeCasts_S16x2304x1024_S16x2304x8x128

theorem heads8_at (u : FVec Ideal S16x2304x1536 .f32) (b : Fin 16) (t : Fin 2304) (h : Fin 8) (d : Fin 128) :
    heads8 u (ix4 b t h d) = u (ix3 b t ⟨h.val * 128 + d.val, by omega⟩) := by
  pointwise [heads8]

/-- Each head by its root mean square, times the gain. -/
def norm8 (z : FVec Ideal S16x2304x8x128 .f32) (g : FVec Ideal S128 .f32) : FVec Ideal S16x2304x8x128 .f32 :=
  mulf (mulf z (broadcastInDim S16x2304x8x128 ![0, 1, 2, 3] bcast_S16x2304x8x1_S16x2304x8x128_0_1_2_3 (Host.rsqrt (addf
      (Host.divf (broadcastInDim S16x2304x8x1 ![0, 1, 2] bcast_S16x2304x8_S16x2304x8x1_0_1_2
          (Host.reduceAdd (mulf z z) (constant S_ .f32 0x00000000#32) reducesTo_S16x2304x8x128_S16x2304x8_d3 h_S_))
        (broadcastInDim S16x2304x8x1 ![] bcast_S_S16x2304x8x1 (constant S_ .f32 0x43000000#32)))
      (broadcastInDim S16x2304x8x1 ![] bcast_S_S16x2304x8x1 (constant S_ .f32 0x358637BD#32))))))
    (broadcastInDim S16x2304x8x128 ![0, 1, 2, 3] bcast_S1x1x1x128_S16x2304x8x128_0_1_2_3
      (broadcastInDim S1x1x1x128 ![3] bcast_S128_S1x1x1x128_3 g))

theorem norm8_at (z : FVec Ideal S16x2304x8x128 .f32) (g : FVec Ideal S128 .f32) (b : Fin 16) (t : Fin 2304) (h : Fin 8) (d : Fin 128) :
    norm8 z g (ix4 b t h d) = QkvSpec.norm (fun e => z (ix4 b t h e)) (fun e => g (ix1 e)) d := by
  unfold QkvSpec.norm
  pointwise [norm8]

/-- The latent tokens' heads as two planes of two halves. -/
def planes8 (z : FVec Ideal S16x2304x8x128 .f32) : FVec Ideal S16x2048x8x2x2x32 .f32 :=
  shapeCast S16x2048x8x2x2x32 (extractStridedSlice S16x2048x8x128 ![0, 0, 0, 0] z slices_S16x2304x8x128_S16x2048x8x128_0_0_0_0)
    shapeCasts_S16x2048x8x128_S16x2048x8x2x2x32

/-- The first halves, and the second. -/
def first8 (z : FVec Ideal S16x2048x8x2x2x32 .f32) : FVec Ideal S16x2048x8x2x32 .f32 :=
  shapeCast S16x2048x8x2x32 (extractStridedSlice S16x2048x8x2x1x32 ![0, 0, 0, 0, 0, 0] z
    slices_S16x2048x8x2x2x32_S16x2048x8x2x1x32_0_0_0_0_0_0) shapeCasts_S16x2048x8x2x1x32_S16x2048x8x2x32
def second8 (z : FVec Ideal S16x2048x8x2x2x32 .f32) : FVec Ideal S16x2048x8x2x32 .f32 :=
  shapeCast S16x2048x8x2x32 (extractStridedSlice S16x2048x8x2x1x32 ![0, 0, 0, 0, 1, 0] z
    slices_S16x2048x8x2x2x32_S16x2048x8x2x1x32_0_0_0_0_1_0) shapeCasts_S16x2048x8x2x1x32_S16x2048x8x2x32

theorem first8_at (z : FVec Ideal S16x2304x8x128 .f32) (b : Fin 16) (t : Fin 2048) (h : Fin 8) (p : Fin 2) (e : Fin 32) :
    first8 (planes8 z) (ix5 b t h p e) = z (ix4 b ⟨t.val, by omega⟩ h ⟨p.val * 64 + e.val, by omega⟩) := by
  pointwise [first8, planes8]

theorem second8_at (z : FVec Ideal S16x2304x8x128 .f32) (b : Fin 16) (t : Fin 2048) (h : Fin 8) (p : Fin 2) (e : Fin 32) :
    second8 (planes8 z) (ix5 b t h p e) = z (ix4 b ⟨t.val, by omega⟩ h ⟨p.val * 64 + 32 + e.val, by omega⟩) := by
  pointwise [second8, planes8]

/-- An angle's cosine or sine, for every sequence and head. -/
def angle8 (a : FVec Ideal S2048x2x32 .f32) : FVec Ideal S16x2048x8x2x32 .f32 :=
  broadcastInDim S16x2048x8x2x32 ![0, 1, 2, 3, 4] bcast_S1x2048x1x2x32_S16x2048x8x2x32_0_1_2_3_4
    (broadcastInDim S1x2048x1x2x32 ![1, 3, 4] bcast_S2048x2x32_S1x2048x1x2x32_1_3_4 a)

theorem angle8_at (a : FVec Ideal S2048x2x32 .f32) (b : Fin 16) (t : Fin 2048) (h : Fin 8) (p : Fin 2) (e : Fin 32) :
    angle8 a (ix5 b t h p e) = a (ix3 t p e) := by
  pointwise [angle8]

/-- The two halves side by side, as heads. -/
def join8 (x y : FVec Ideal S16x2048x8x2x32 .f32) : FVec Ideal S16x2048x8x128 .f32 :=
  shapeCast S16x2048x8x128 (concatenate S16x2048x8x2x2x32 4
    [⟨S16x2048x8x2x1x32, broadcastInDim S16x2048x8x2x1x32 ![0, 1, 2, 3, 5] bcast_S16x2048x8x2x32_S16x2048x8x2x1x32_0_1_2_3_5 x⟩,
     ⟨S16x2048x8x2x1x32, broadcastInDim S16x2048x8x2x1x32 ![0, 1, 2, 3, 5] bcast_S16x2048x8x2x32_S16x2048x8x2x1x32_0_1_2_3_5 y⟩]
    concatenates_S16x2048x8x2x1x32_S16x2048x8x2x1x32_S16x2048x8x2x2x32_d4) shapeCasts_S16x2048x8x2x2x32_S16x2048x8x128

theorem join8_at (x y : FVec Ideal S16x2048x8x2x32 .f32) (b : Fin 16) (t : Fin 2048) (h : Fin 8) (d : Fin 128) :
    join8 x y (ix4 b t h d) = if d.val % 64 < 32 then x (ix5 b t h ⟨d.val / 64, by omega⟩ ⟨d.val % 32, by omega⟩)
      else y (ix5 b t h ⟨d.val / 64, by omega⟩ ⟨d.val % 32, by omega⟩) := by
  pointwise [join8]
  by_cases hd : d.val % 64 < 32
  · rw [dif_pos (by omega), if_pos hd]
  · rw [dif_neg (by omega), if_neg hd]

/-- The result: the latent tokens' heads turned, the context tokens' as they are. -/
def out8 (l : FVec Ideal S16x2048x8x128 .f32) (z : FVec Ideal S16x2304x8x128 .f32) : FVec Ideal S16x2304x1024 .bf16 :=
  truncf .bf16 (shapeCast S16x2304x1024 (concatenate S16x2304x8x128 1 [⟨S16x2048x8x128, l⟩,
    ⟨S16x256x8x128, extractStridedSlice S16x256x8x128 ![0, 2048, 0, 0] z slices_S16x2304x8x128_S16x256x8x128_0_2048_0_0⟩]
    concatenates_S16x2048x8x128_S16x256x8x128_S16x2304x8x128_d1) shapeCasts_S16x2304x8x128_S16x2304x1024) bitsLt_bf16_f32

theorem out8_at (l : FVec Ideal S16x2048x8x128 .f32) (z : FVec Ideal S16x2304x8x128 .f32) (b : Fin 16) (t : Fin 2304) (j : Fin 1024) :
    out8 l z (ix3 b t j) = if ht : t.val < 2048 then l (ix4 b ⟨t.val, ht⟩ ⟨j.val / 128, by omega⟩ ⟨j.val % 128, by omega⟩)
      else z (ix4 b t ⟨j.val / 128, by omega⟩ ⟨j.val % 128, by omega⟩) := by
  pointwise [out8]
  refine dite_congr rfl (fun _ => rfl) fun ht => congrArg (fun s => z (ix4 b s _ _)) (Fin.ext ?_)
  have ht' : ¬ t.val < 2048 := ht
  show 2048 + (t.val - 2048) = t.val
  omega

/-- The whole from the projection. -/
def turn8 (z : FVec Ideal S16x2304x8x128 .f32) (cos sin : FVec Ideal S2048x2x32 .f32) : FVec Ideal S16x2304x1024 .bf16 :=
  out8 (join8
    (subf (mulf (first8 (planes8 z)) (angle8 cos)) (mulf (second8 (planes8 z)) (angle8 sin)))
    (addf (mulf (second8 (planes8 z)) (angle8 cos)) (mulf (first8 (planes8 z)) (angle8 sin)))) z

theorem turn8_at (z : FVec Ideal S16x2304x8x128 .f32) (cos sin : FVec Ideal S2048x2x32 .f32) (b : Fin 16) (t : Fin 2304) (j : Fin 1024) :
    turn8 z cos sin (ix3 b t j) =
      QkvSpec.turn (fun e => z (ix4 b t ⟨j.val / 128, by omega⟩ e)) cos sin t ⟨j.val % 128, by omega⟩ := by
  unfold turn8
  rw [out8_at]
  unfold QkvSpec.turn
  by_cases ht : t.val < 2048
  · simp only [dif_pos ht]
    rw [join8_at]
    by_cases hd : j.val % 128 % 64 < 32
    · simp only [if_pos hd, dif_pos hd]
      show first8 (planes8 z) _ * angle8 cos _ - second8 (planes8 z) _ * angle8 sin _ = _
      rw [first8_at, second8_at, angle8_at, angle8_at]
      refine congrArg₂ (fun a c : EReal => a * _ - c * _) (congrArg (fun e => z (ix4 b _ _ e)) (Fin.ext ?_))
        (congrArg (fun e => z (ix4 b _ _ e)) (Fin.ext ?_)) <;> dsimp only <;> omega
    · simp only [if_neg hd, dif_neg hd]
      show second8 (planes8 z) _ * angle8 cos _ + first8 (planes8 z) _ * angle8 sin _ = _
      rw [first8_at, second8_at, angle8_at, angle8_at]
      refine congrArg₂ (fun a c : EReal => a * _ + c * _) (congrArg (fun e => z (ix4 b _ _ e)) (Fin.ext ?_))
        (congrArg (fun e => z (ix4 b _ _ e)) (Fin.ext ?_)) <;> dsimp only <;> omega
  · simp only [dif_neg ht]

/-- It is the specification's turned head of the normalised projection. -/
theorem head8_at (u : FVec Ideal S16x2304x1536 .f32) (g : FVec Ideal S128 .f32) (cos sin : FVec Ideal S2048x2x32 .f32)
    (b : Fin 16) (t : Fin 2304) (j : Fin 1024) :
    turn8 (norm8 (heads8 u) g) cos sin (ix3 b t j) =
      QkvSpec.turn (QkvSpec.norm (fun e => u (ix3 b t ⟨j.val / 128 * 128 + e.val, by omega⟩)) fun e => g (ix1 e)) cos sin t
        ⟨j.val % 128, by omega⟩ := by
  rw [turn8_at]
  refine congrArg (fun v => QkvSpec.turn v cos sin t _) (funext fun d => ?_)
  rw [norm8_at]
  exact congrArg (fun v => QkvSpec.norm v _ d) (funext fun e => heads8_at u b t _ e)

end Cert.QkvReferenceIdeal.Qkv
end
-- ==== Proof.QkvRefK.lean ====
/- The attention layer's projections: the reference's keys. -/
module

public import proofs.«01_k».proof.Proof.Gen.QkvReferenceIdeal
public import proofs.«01_k».proof.Proof.QkvSpec

@[expose] public section

set_option maxRecDepth 16384

noncomputable section

open Idealize.ShloMosaic Idealize.ShloMosaic.TcCoe Idealize.SL.Sem

namespace Cert.QkvReferenceIdeal.Qkv

open Cert.QkvReferenceIdeal Cert.QkvReferenceIdeal.Gen

set_option maxHeartbeats 800000

/-- The projection's next 256 columns as heads. -/
def heads2 (u : FVec Ideal S16x2304x1536 .f32) : FVec Ideal S16x2304x2x128 .f32 :=
  shapeCast S16x2304x2x128 (extractStridedSlice S16x2304x256 ![0, 0, 1024] u slices_S16x2304x1536_S16x2304x256_0_0_1024)
    shapeCasts_S16x2304x256_S16x2304x2x128

theorem heads2_at (u : FVec Ideal S16x2304x1536 .f32) (b : Fin 16) (t : Fin 2304) (h : Fin 2) (d : Fin 128) :
    heads2 u (ix4 b t h d) = u (ix3 b t ⟨1024 + (h.val * 128 + d.val), by omega⟩) := by
  pointwise [heads2]

/-- Each head by its root mean square, times the gain. -/
def norm2 (z : FVec Ideal S16x2304x2x128 .f32) (g : FVec Ideal S128 .f32) : FVec Ideal S16x2304x2x128 .f32 :=
  mulf (mulf z (broadcastInDim S16x2304x2x128 ![0, 1, 2, 3] bcast_S16x2304x2x1_S16x2304x2x128_0_1_2_3 (Host.rsqrt (addf
      (Host.divf (broadcastInDim S16x2304x2x1 ![0, 1, 2] bcast_S16x2304x2_S16x2304x2x1_0_1_2
          (Host.reduceAdd (mulf z z) (constant S_ .f32 0x00000000#32) reducesTo_S16x2304x2x128_S16x2304x2_d3 h_S_))
        (broadcastInDim S16x2304x2x1 ![] bcast_S_S16x2304x2x1 (constant S_ .f32 0x43000000#32)))
      (broadcastInDim S16x2304x2x1 ![] bcast_S_S16x2304x2x1 (constant S_ .f32 0x358637BD#32))))))
    (broadcastInDim S16x2304x2x128 ![0, 1, 2, 3] bcast_S1x1x1x128_S16x2304x2x128_0_1_2_3
      (broadcastInDim S1x1x1x128 ![3] bcast_S128_S1x1x1x128_3 g))

theorem norm2_at (z : FVec Ideal S16x2304x2x128 .f32) (g : FVec Ideal S128 .f32) (b : Fin 16) (t : Fin 2304) (h : Fin 2) (d : Fin 128) :
    norm2 z g (ix4 b t h d) = QkvSpec.norm (fun e => z (ix4 b t h e)) (fun e => g (ix1 e)) d := by
  unfold QkvSpec.norm
  pointwise [norm2]

/-- The latent tokens' heads as two planes of two halves. -/
def planes2 (z : FVec Ideal S16x2304x2x128 .f32) : FVec Ideal S16x2048x2x2x2x32 .f32 :=
  shapeCast S16x2048x2x2x2x32 (extractStridedSlice S16x2048x2x128 ![0, 0, 0, 0] z slices_S16x2304x2x128_S16x2048x2x128_0_0_0_0)
    shapeCasts_S16x2048x2x128_S16x2048x2x2x2x32

/-- The first halves, and the second. -/
def first2 (z : FVec Ideal S16x2048x2x2x2x32 .f32) : FVec Ideal S16x2048x2x2x32 .f32 :=
  shapeCast S16x2048x2x2x32 (extractStridedSlice S16x2048x2x2x1x32 ![0, 0, 0, 0, 0, 0] z
    slices_S16x2048x2x2x2x32_S16x2048x2x2x1x32_0_0_0_0_0_0) shapeCasts_S16x2048x2x2x1x32_S16x2048x2x2x32
def second2 (z : FVec Ideal S16x2048x2x2x2x32 .f32) : FVec Ideal S16x2048x2x2x32 .f32 :=
  shapeCast S16x2048x2x2x32 (extractStridedSlice S16x2048x2x2x1x32 ![0, 0, 0, 0, 1, 0] z
    slices_S16x2048x2x2x2x32_S16x2048x2x2x1x32_0_0_0_0_1_0) shapeCasts_S16x2048x2x2x1x32_S16x2048x2x2x32

theorem first2_at (z : FVec Ideal S16x2304x2x128 .f32) (b : Fin 16) (t : Fin 2048) (h : Fin 2) (p : Fin 2) (e : Fin 32) :
    first2 (planes2 z) (ix5 b t h p e) = z (ix4 b ⟨t.val, by omega⟩ h ⟨p.val * 64 + e.val, by omega⟩) := by
  pointwise [first2, planes2]

theorem second2_at (z : FVec Ideal S16x2304x2x128 .f32) (b : Fin 16) (t : Fin 2048) (h : Fin 2) (p : Fin 2) (e : Fin 32) :
    second2 (planes2 z) (ix5 b t h p e) = z (ix4 b ⟨t.val, by omega⟩ h ⟨p.val * 64 + 32 + e.val, by omega⟩) := by
  pointwise [second2, planes2]

/-- An angle's cosine or sine, for every sequence and head. -/
def angle2 (a : FVec Ideal S2048x2x32 .f32) : FVec Ideal S16x2048x2x2x32 .f32 :=
  broadcastInDim S16x2048x2x2x32 ![0, 1, 2, 3, 4] bcast_S1x2048x1x2x32_S16x2048x2x2x32_0_1_2_3_4
    (broadcastInDim S1x2048x1x2x32 ![1, 3, 4] bcast_S2048x2x32_S1x2048x1x2x32_1_3_4 a)

theorem angle2_at (a : FVec Ideal S2048x2x32 .f32) (b : Fin 16) (t : Fin 2048) (h : Fin 2) (p : Fin 2) (e : Fin 32) :
    angle2 a (ix5 b t h p e) = a (ix3 t p e) := by
  pointwise [angle2]

/-- The two halves side by side, as heads. -/
def join2 (x y : FVec Ideal S16x2048x2x2x32 .f32) : FVec Ideal S16x2048x2x128 .f32 :=
  shapeCast S16x2048x2x128 (concatenate S16x2048x2x2x2x32 4
    [⟨S16x2048x2x2x1x32, broadcastInDim S16x2048x2x2x1x32 ![0, 1, 2, 3, 5] bcast_S16x2048x2x2x32_S16x2048x2x2x1x32_0_1_2_3_5 x⟩,
     ⟨S16x2048x2x2x1x32, broadcastInDim S16x2048x2x2x1x32 ![0, 1, 2, 3, 5] bcast_S16x2048x2x2x32_S16x2048x2x2x1x32_0_1_2_3_5 y⟩]
    concatenates_S16x2048x2x2x1x32_S16x2048x2x2x1x32_S16x2048x2x2x2x32_d4) shapeCasts_S16x2048x2x2x2x32_S16x2048x2x128

theorem join2_at (x y : FVec Ideal S16x2048x2x2x32 .f32) (b : Fin 16) (t : Fin 2048) (h : Fin 2) (d : Fin 128) :
    join2 x y (ix4 b t h d) = if d.val % 64 < 32 then x (ix5 b t h ⟨d.val / 64, by omega⟩ ⟨d.val % 32, by omega⟩)
      else y (ix5 b t h ⟨d.val / 64, by omega⟩ ⟨d.val % 32, by omega⟩) := by
  pointwise [join2]
  by_cases hd : d.val % 64 < 32
  · rw [dif_pos (by omega), if_pos hd]
  · rw [dif_neg (by omega), if_neg hd]

/-- The result: the latent tokens' heads turned, the context tokens' as they are. -/
def out2 (l : FVec Ideal S16x2048x2x128 .f32) (z : FVec Ideal S16x2304x2x128 .f32) : FVec Ideal S16x2304x256 .bf16 :=
  truncf .bf16 (shapeCast S16x2304x256 (concatenate S16x2304x2x128 1 [⟨S16x2048x2x128, l⟩,
    ⟨S16x256x2x128, extractStridedSlice S16x256x2x128 ![0, 2048, 0, 0] z slices_S16x2304x2x128_S16x256x2x128_0_2048_0_0⟩]
    concatenates_S16x2048x2x128_S16x256x2x128_S16x2304x2x128_d1) shapeCasts_S16x2304x2x128_S16x2304x256) bitsLt_bf16_f32

theorem out2_at (l : FVec Ideal S16x2048x2x128 .f32) (z : FVec Ideal S16x2304x2x128 .f32) (b : Fin 16) (t : Fin 2304) (j : Fin 256) :
    out2 l z (ix3 b t j) = if ht : t.val < 2048 then l (ix4 b ⟨t.val, ht⟩ ⟨j.val / 128, by omega⟩ ⟨j.val % 128, by omega⟩)
      else z (ix4 b t ⟨j.val / 128, by omega⟩ ⟨j.val % 128, by omega⟩) := by
  pointwise [out2]
  refine dite_congr rfl (fun _ => rfl) fun ht => congrArg (fun s => z (ix4 b s _ _)) (Fin.ext ?_)
  have ht' : ¬ t.val < 2048 := ht
  show 2048 + (t.val - 2048) = t.val
  omega

/-- The whole from the projection. -/
def turn2 (z : FVec Ideal S16x2304x2x128 .f32) (cos sin : FVec Ideal S2048x2x32 .f32) : FVec Ideal S16x2304x256 .bf16 :=
  out2 (join2
    (subf (mulf (first2 (planes2 z)) (angle2 cos)) (mulf (second2 (planes2 z)) (angle2 sin)))
    (addf (mulf (second2 (planes2 z)) (angle2 cos)) (mulf (first2 (planes2 z)) (angle2 sin)))) z

theorem turn2_at (z : FVec Ideal S16x2304x2x128 .f32) (cos sin : FVec Ideal S2048x2x32 .f32) (b : Fin 16) (t : Fin 2304) (j : Fin 256) :
    turn2 z cos sin (ix3 b t j) =
      QkvSpec.turn (fun e => z (ix4 b t ⟨j.val / 128, by omega⟩ e)) cos sin t ⟨j.val % 128, by omega⟩ := by
  unfold turn2
  rw [out2_at]
  unfold QkvSpec.turn
  by_cases ht : t.val < 2048
  · simp only [dif_pos ht]
    rw [join2_at]
    by_cases hd : j.val % 128 % 64 < 32
    · simp only [if_pos hd, dif_pos hd]
      show first2 (planes2 z) _ * angle2 cos _ - second2 (planes2 z) _ * angle2 sin _ = _
      rw [first2_at, second2_at, angle2_at, angle2_at]
      refine congrArg₂ (fun a c : EReal => a * _ - c * _) (congrArg (fun e => z (ix4 b _ _ e)) (Fin.ext ?_))
        (congrArg (fun e => z (ix4 b _ _ e)) (Fin.ext ?_)) <;> dsimp only <;> omega
    · simp only [if_neg hd, dif_neg hd]
      show second2 (planes2 z) _ * angle2 cos _ + first2 (planes2 z) _ * angle2 sin _ = _
      rw [first2_at, second2_at, angle2_at, angle2_at]
      refine congrArg₂ (fun a c : EReal => a * _ + c * _) (congrArg (fun e => z (ix4 b _ _ e)) (Fin.ext ?_))
        (congrArg (fun e => z (ix4 b _ _ e)) (Fin.ext ?_)) <;> dsimp only <;> omega
  · simp only [dif_neg ht]

/-- It is the specification's turned head of the normalised projection. -/
theorem head2_at (u : FVec Ideal S16x2304x1536 .f32) (g : FVec Ideal S128 .f32) (cos sin : FVec Ideal S2048x2x32 .f32)
    (b : Fin 16) (t : Fin 2304) (j : Fin 256) :
    turn2 (norm2 (heads2 u) g) cos sin (ix3 b t j) =
      QkvSpec.turn (QkvSpec.norm (fun e => u (ix3 b t ⟨1024 + (j.val / 128 * 128 + e.val), by omega⟩)) fun e => g (ix1 e)) cos sin t
        ⟨j.val % 128, by omega⟩ := by
  rw [turn2_at]
  refine congrArg (fun v => QkvSpec.turn v cos sin t _) (funext fun d => ?_)
  rw [norm2_at]
  exact congrArg (fun v => QkvSpec.norm v _ d) (funext fun e => heads2_at u b t _ e)

end Cert.QkvReferenceIdeal.Qkv
end
-- ==== Proof.QkvRef.lean ====
/- The attention layer's projections: the reference's results are the specification's. -/
module

public import proofs.«01_k».proof.Proof.Gen.QkvReferenceIdeal.Run
public import proofs.«01_k».proof.Proof.ModRef
public import proofs.«01_k».proof.Proof.QkvRefQ
public import proofs.«01_k».proof.Proof.QkvRefK

@[expose] public section

set_option maxRecDepth 16384

noncomputable section

open Idealize.ShloMosaic Idealize.ShloMosaic.TcCoe Idealize.SL.Sem

namespace Cert.QkvReferenceIdeal.Qkv

open Cert.QkvReferenceIdeal Cert.QkvReferenceIdeal.Gen

set_option maxHeartbeats 800000

/-- The projection, sequence first. -/
def proj (h : FVec Ideal S2304x16x1024 .f32) (w : FVec Ideal S1024x1536 .f32) : FVec Ideal S16x2304x1536 .f32 :=
  Host.dotGeneral dot_S16x2304x1024_S1024x1536_S16x2304x1536_2_0_01_1_n_n none
    (transpose S16x2304x1024 [1, 0, 2] h transposes_S2304x16x1024_S16x2304x1024_1_0_2) w

theorem proj_at (h : FVec Ideal S2304x16x1024 .f32) (w : FVec Ideal S1024x1536 .f32) (b : Fin 16) (t : Fin 2304) (j : Fin 1536) :
    proj h w (ix3 b t j) = ∑ d : Fin 1024, h (ix3 t b d) * w (ix2 d j) := by
  pointwise [proj]

/-- It is the specification's. -/
theorem u_at (x : FVec Ideal S36864x1024 .f32) (sc sh : FVec Ideal S2x16x1024 .f32) (w : FVec Ideal S1024x1536 .f32)
    (b : Fin 16) (t : Fin 2304) (j : Fin 1536) :
    proj (LruInReferenceIdeal.Lru.modulated x sc sh) w (ix3 b t j) = QkvSpec.u x sc sh w (QkvSpec.row b t) j := by
  rw [proj_at]
  exact Finset.sum_congr rfl fun d _ => congrArg (· * _) (LruInReferenceIdeal.Lru.modulated_at x sc sh t b d _ rfl)

/-- The three results. -/
theorem q_eq (x : FVec Ideal S36864x1024 .f32) (sc sh : FVec Ideal S2x16x1024 .f32) (w : FVec Ideal S1024x1536 .f32)
    (cos sin : FVec Ideal S2048x2x32 .f32) (g : FVec Ideal S128 .f32) :
    turn8 (norm8 (heads8 (proj (LruInReferenceIdeal.Lru.modulated x sc sh) w)) g) cos sin = QkvSpec.q x sc sh w cos sin g := by
  funext i
  obtain ⟨b, t, j, rfl⟩ : ∃ b t j, i = ix3 b t j := ⟨i 0, i 1, i 2, by funext d; fin_cases d <;> rfl⟩
  rw [head8_at]
  exact congrArg (fun v => QkvSpec.turn (QkvSpec.norm v _) cos sin t _) (funext fun e => u_at x sc sh w b t _)

theorem k_eq (x : FVec Ideal S36864x1024 .f32) (sc sh : FVec Ideal S2x16x1024 .f32) (w : FVec Ideal S1024x1536 .f32)
    (cos sin : FVec Ideal S2048x2x32 .f32) (g : FVec Ideal S128 .f32) :
    turn2 (norm2 (heads2 (proj (LruInReferenceIdeal.Lru.modulated x sc sh) w)) g) cos sin = QkvSpec.k x sc sh w cos sin g := by
  funext i
  obtain ⟨b, t, j, rfl⟩ : ∃ b t j, i = ix3 b t j := ⟨i 0, i 1, i 2, by funext d; fin_cases d <;> rfl⟩
  rw [head2_at]
  exact congrArg (fun v => QkvSpec.turn (QkvSpec.norm v _) cos sin t _) (funext fun e =>
    (u_at x sc sh w b t _).trans (congrArg (QkvSpec.u x sc sh w _) (Fin.ext (Nat.add_assoc 1024 _ _).symm)))

/-- The values' columns. -/
def vals (u : FVec Ideal S16x2304x1536 .f32) : FVec Ideal S16x2304x256 .bf16 :=
  truncf .bf16 (extractStridedSlice S16x2304x256 ![0, 0, 1280] u slices_S16x2304x1536_S16x2304x256_0_0_1280) bitsLt_bf16_f32

theorem vals_at (u : FVec Ideal S16x2304x1536 .f32) (b : Fin 16) (t : Fin 2304) (j : Fin 256) :
    vals u (ix3 b t j) = u (ix3 b t ⟨1280 + j.val, by omega⟩) := by
  pointwise [vals]

theorem v_eq (x : FVec Ideal S36864x1024 .f32) (sc sh : FVec Ideal S2x16x1024 .f32) (w : FVec Ideal S1024x1536 .f32) :
    vals (proj (LruInReferenceIdeal.Lru.modulated x sc sh) w) = QkvSpec.v x sc sh w := by
  funext i
  obtain ⟨b, t, j, rfl⟩ : ∃ b t j, i = ix3 b t j := ⟨i 0, i 1, i 2, by funext d; fin_cases d <;> rfl⟩
  rw [vals_at]
  exact u_at x sc sh w b t _

/-- The reference's run: its results are the specification's arrays, its arguments are left alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110) = QkvSpec.q (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v112) = QkvSpec.k (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_v113) = QkvSpec.v (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (q_eq _ _ _ _ _ _ _), (h c).2.1.trans (k_eq _ _ _ _ _ _ _),
    (h c).2.2.1.trans (v_eq _ _ _ _), (h c).2.2.2⟩) (Value.run m ρ)

end Cert.QkvReferenceIdeal.Qkv
end
-- ==== Proof.AttnOutSpec.lean ====
/- What the attention layer's output projection computes, at an index: a row's residual sum, normalised. -/
module

public import proofs.«01_k».proof.Proof.ModSpec

@[expose] public section

set_option maxRecDepth 16384

noncomputable section

open Idealize.ShloMosaic Idealize.ShloMosaic.TcCoe Idealize.SL.Sem

namespace Cert.AttnOutSpec

open Cert.ModSpec

/-- The attention's result, the weights' array, and the normalisation's gain and bias. -/
abbrev Heads : Type := (⟨3, ![16, 2304, 1024]⟩ : Shape).Idx → EReal
abbrev Weights : Type := (⟨2, ![1024, 1024]⟩ : Shape).Idx → EReal
abbrev Vecs : Type := (⟨1, ![1024]⟩ : Shape).Idx → EReal

/-- A row's token. -/
def tok (R : Fin 36864) : Fin 2304 := ⟨R.val / 16, by omega⟩

/-- The projection of the attention's result at a row's sequence and token. -/
def y (o : Heads) (w : Weights) (R : Fin 36864) (j : Fin 1024) : EReal :=
  ∑ d : Fin 1024, o (ix3 (seq R) (tok R) d) * w (ix2 d j)

/-- The row times the residual's factor, plus its gated projection. -/
def res (o : Heads) (x : Rows) (g1 : Mods) (w : Weights) (R : Fin 36864) (j : Fin 1024) : EReal :=
  Ideal.ofBits .f32 0x3FD744FD#32 * x (ix2 R j) + g1 (ix3 (group R) (seq R) j) * y o w R j

/-- A row's mean. -/
def mean (v : Fin 1024 → EReal) : EReal := Ideal.div (∑ e : Fin 1024, v e) (Ideal.ofBits .f32 0x44800000#32)

/-- The row less its mean. -/
def centred (v : Fin 1024 → EReal) (j : Fin 1024) : EReal := v j - mean v

/-- A row less its mean, by its standard deviation, times the gain, plus the bias. -/
def layerNorm (v g b : Fin 1024 → EReal) (j : Fin 1024) : EReal :=
  centred v j * Ideal.rsqrt (mean (fun e => centred v e * centred v e) + Ideal.ofBits .f32 0x358637BD#32) * g j + b j

/-- The result. -/
def G (o : Heads) (x : Rows) (g1 : Mods) (w : Weights) (lg lb : Vecs) : Rows := fun i =>
  layerNorm (res o x g1 w (i 0)) (fun e => lg (ix1 e)) (fun e => lb (ix1 e)) (i 1)

end Cert.AttnOutSpec
end
-- ==== Proof.AttnOutKernel.lean ====
/- The attention layer's output projection: the kernel's result array is the specification's. -/
module

public import proofs.«01_k».proof.Proof.Gen.AttnOutIdeal.Value
public import proofs.«01_k».proof.Proof.AttnOutSpec
public import proofs.«01_k».proof.Proof.Perm
public import Idealize.ShloMosaic.Lib.Pipeline.ValueKit

@[expose] public section

set_option maxRecDepth 16384

noncomputable section

open Idealize.ShloMosaic Idealize.ShloMosaic.TcCoe Idealize.SL.Sem

namespace Cert.AttnOutIdeal.Out

open Cert.AttnOutIdeal Cert.AttnOutIdeal.Gen

set_option maxHeartbeats 1600000

/-! ## The body at an index -/

/-- A block's residual sum at an index: its row is a reordered row of the block. -/
def inner (o : FVec Ideal S16x16x1024 .bf16) (p : FVec Ideal S256x256 .bf16) (w : FVec Ideal S1024x1024 .bf16)
    (x : FVec Ideal S256x1024 .f32) (g : FVec Ideal S1x16x1024 .f32) (r : Fin 256) (j : Fin 1024) : EReal :=
  Ideal.ofBits .f32 0x3FD744FD#32 * x (ix2 r j)
    + (∑ d : Fin 1024, (∑ s : Fin 256, p (ix2 r s) * o (ix3 ⟨s.val / 16, by omega⟩ ⟨s.val % 16, by omega⟩ d)) * w (ix2 d j))
      * g (ix3 0 ⟨r.val % 16, by omega⟩ j)

theorem pay4_at (o : FVec Ideal S16x16x1024 .bf16) (p : FVec Ideal S256x256 .bf16) (w : FVec Ideal S1024x1024 .bf16)
    (x : FVec Ideal S256x1024 .f32) (g : FVec Ideal S1x16x1024 .f32) (r : Fin 256) (j : Fin 1024) :
    k0_pay4 (F := Ideal) o p w x g (ix2 r j) = AttnOutSpec.centred (inner o p w x g r) j := by
  unfold AttnOutSpec.centred AttnOutSpec.mean inner
  pointwise [k0_pay4]

theorem pay5_at (o : FVec Ideal S16x16x1024 .bf16) (p : FVec Ideal S256x256 .bf16) (w : FVec Ideal S1024x1024 .bf16)
    (x : FVec Ideal S256x1024 .f32) (g : FVec Ideal S1x16x1024 .f32) (r : Fin 256) :
    k0_pay5 (F := Ideal) o p w x g (ix2 r 0) = AttnOutSpec.mean fun e => k0_pay4 (F := Ideal) o p w x g (ix2 r e) * k0_pay4 (F := Ideal) o p w x g (ix2 r e) := by
  unfold AttnOutSpec.mean
  pointwise [k0_pay5]

theorem pay1_at (g b : FVec Ideal S1x1024 .f32) (z : FVec Ideal S256x1024 .f32) (v : FVec Ideal S256x1 .f32) (e : Ideal .f32)
    (r : Fin 256) (j : Fin 1024) :
    k0_pay1 (F := Ideal) g b z v e (ix2 r j) = z (ix2 r j) * Ideal.rsqrt (v (ix2 r 0) + e) * g (ix2 0 j) + b (ix2 0 j) := by
  pointwise [k0_pay1]

theorem pay2_at (g : FVec Ideal S1x1024 .f32) (j : Fin 1024) : k0_pay2 (F := Ideal) g (ix2 0 j) = g (ix2 0 j) := by
  pointwise [k0_pay2]

theorem pay3_at (g : FVec Ideal S1x1024 .f32) (j : Fin 1024) : k0_pay3 (F := Ideal) g (ix2 0 j) = g (ix2 0 j) := by
  pointwise [k0_pay3]

/-- The store at an index: the layer norm of the residual sum's row. -/
theorem store_at (o : FVec Ideal S16x16x1024 .bf16) (p : FVec Ideal S256x256 .bf16) (w : FVec Ideal S1024x1024 .bf16)
    (x : FVec Ideal S256x1024 .f32) (g : FVec Ideal S1x16x1024 .f32) (lg lb : FVec Ideal S1x1024 .f32) (r : Fin 256) (j : Fin 1024) :
    k0_pay1 (F := Ideal) (k0_pay2 (F := Ideal) lg) (k0_pay3 (F := Ideal) lb) (k0_pay4 (F := Ideal) o p w x g)
        (k0_pay5 (F := Ideal) o p w x g) (Scalar.ofBits (F := Ideal) .f32 0x358637BD#32) (ix2 r j)
      = AttnOutSpec.layerNorm (inner o p w x g r) (fun e => lg (ix2 0 e)) (fun e => lb (ix2 0 e)) j := by
  rw [pay1_at, pay2_at, pay3_at, pay4_at, pay5_at]
  simp only [pay4_at]
  rfl

/-! ## What the host computes before the kernel, and the blocks -/

/-- Point `t` reads every sequence's token block `t`, row block `t`, the gate of its group (the first 128 blocks are
    latent), the reordering matrix, all weights, the gain and the bias. -/
theorem idx : ∀ t : Fin cfg0.N, win0_0.index t = ![0, t.val, 0] ∧ win0_1.index t = ![t.val, 0]
    ∧ win0_2.index t = ![t.val / 128, 0, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

variable (m : (ℓ : Loc nD τ sig) → Buf (Elt Ideal) ℓ) (c : Dev nD)

/-- The place in the block's new order of row `r` of its own. -/
theorem place_at (r : Fin 256) : (V m c main_v8 : IVec S256 32) (ix1 r) = BitVec.ofNat 32 (r.val % 16 * 16 + r.val / 16) := by
  unfold V
  simp only [hostOps0, hostOps0_1, hostOps0_2, hostOps0_3, hostOps0_4, List.flatten_cons, List.flatten_nil, List.append_nil,
    List.cons_append, List.nil_append]
  after_results_simp
  simp only [StableHlo.TRef.ofBuf, StableHlo.TRef.toBuf, eqRec_eq_cast, cast_eq, id]
  pointwise
  change (_ : BitVec 32) = _
  revert r
  decide +kernel

/-- The reordering matrix, from the places. -/
theorem perm_eq : (V m c main_v16 : FVec Ideal S256x256 .bf16) = transpose S256x256 [1, 0] (uitofp .bf16 (cmpi .eq
    (broadcastInDim S256x256 ![0, 1] bcast_S256x1_S256x256_0_1 (broadcastInDim S256x1 ![0] bcast_S256_S256x1_0 (V m c main_v8 : IVec S256 32)))
    (broadcastInDim S256x256 ![0, 1] bcast_S1x256_S256x256_0_1 (broadcastInDim S1x256 ![1] bcast_S256_S1x256_1 (iotaInDim S256 32 0)))) :
      FVec Ideal S256x256 .bf16) transposes_S256x256_S256x256_1_0 := by
  unfold V
  simp only [hostOps0, hostOps0_1, hostOps0_2, hostOps0_3, hostOps0_4, List.flatten_cons, List.flatten_nil, List.append_nil,
    List.cons_append, List.nil_append]
  after_results_simp
  all_goals rfl

/-- The reordering matrix at an index: row `r` has its one at the row that goes to `r`. -/
theorem perm_at (r s : Fin 256) :
    V m c main_v16 (ix2 r s) = (if s.val = r.val % 16 * 16 + r.val / 16 then 1 else 0 : EReal) := by
  rw [perm_eq]
  pointwise
  rw [place_at]
  refine (Perm.bit _ _ (by omega) r.isLt).trans ?_
  have e : (r.val = s.val % 16 * 16 + s.val / 16) = (s.val = r.val % 16 * 16 + r.val / 16) := propext (by omega)
  simp only [e]

/-- The weights as the kernel takes them are the argument's. -/
theorem weights_at (d j : Fin 1024) : V m c main_v0 (ix2 d j) = m ((c : Thread nD τ).loc main_arg3) (ix2 d j) := by
  unfold V
  simp only [hostOps0, hostOps0_1, hostOps0_2, hostOps0_3, hostOps0_4, List.flatten_cons, List.flatten_nil, List.append_nil,
    List.cons_append, List.nil_append]
  after_results_simp
  pointwise

/-- So is the gain. -/
theorem gain_at (d : Fin 1024) : V m c main_v1 (ix2 0 d) = m ((c : Thread nD τ).loc main_arg4) (ix1 d) := by
  unfold V
  simp only [hostOps0, hostOps0_1, hostOps0_2, hostOps0_3, hostOps0_4, List.flatten_cons, List.flatten_nil, List.append_nil,
    List.cons_append, List.nil_append]
  after_results_simp
  pointwise

/-- So is the bias. -/
theorem bias_at (d : Fin 1024) : V m c main_v2 (ix2 0 d) = m ((c : Thread nD τ).loc main_arg5) (ix1 d) := by
  unfold V
  simp only [hostOps0, hostOps0_1, hostOps0_2, hostOps0_3, hostOps0_4, List.flatten_cons, List.flatten_nil, List.append_nil,
    List.cons_append, List.nil_append]
  after_results_simp
  pointwise

/-- The blocks at point `t`: the attention's result, -/
theorem o_at (t : Fin cfg0.N) (b i : Fin 16) (d : Fin 1024) (T : Fin 2304) (hT : T.val = t.val * 16 + i.val) :
    iblk m c 0 t (ix3 b i d) = m ((c : Thread nD τ).loc main_arg0) (ix3 b T d) := by
  blk_point [iblk, V_main_arg0, idx t]

/-- the rows, -/
theorem x_at (t : Fin cfg0.N) (r : Fin 256) (d : Fin 1024) (R : Fin 36864) (hR : R.val = t.val * 256 + r.val) :
    iblk m c 1 t (ix2 r d) = m ((c : Thread nD τ).loc main_arg1) (ix2 R d) := by
  blk_point [iblk, V_main_arg1, idx t]

/-- the gate, -/
theorem g_at (t : Fin cfg0.N) (b : Fin 16) (d : Fin 1024) (g : Fin 2) (hg : g.val = t.val / 128) :
    iblk m c 2 t (ix3 0 b d) = m ((c : Thread nD τ).loc main_arg2) (ix3 g b d) := by
  blk_point [iblk, V_main_arg2, idx t]

/-- the reordering matrix, -/
theorem p_at (t : Fin cfg0.N) (r s : Fin 256) :
    iblk m c 3 t (ix2 r s) = (if s.val = r.val % 16 * 16 + r.val / 16 then 1 else 0 : EReal) := by
  refine Eq.trans ?_ (perm_at m c r s)
  blk_point [iblk, idx t]

/-- the weights, -/
theorem w_at (t : Fin cfg0.N) (d j : Fin 1024) : iblk m c 4 t (ix2 d j) = m ((c : Thread nD τ).loc main_arg3) (ix2 d j) := by
  refine Eq.trans ?_ (weights_at m c d j)
  blk_point [iblk, idx t]

/-- the gain -/
theorem lg_at (t : Fin cfg0.N) (d : Fin 1024) : iblk m c 5 t (ix2 0 d) = m ((c : Thread nD τ).loc main_arg4) (ix1 d) := by
  refine Eq.trans ?_ (gain_at m c d)
  blk_point [iblk, idx t]

/-- and the bias. -/
theorem lb_at (t : Fin cfg0.N) (d : Fin 1024) : iblk m c 6 t (ix2 0 d) = m ((c : Thread nD τ).loc main_arg5) (ix1 d) := by
  refine Eq.trans ?_ (bias_at m c d)
  blk_point [iblk, idx t]

/-! ## What a grid point stores -/

/-- The residual sum at point `t` is the specification's. -/
theorem inner_at (t : Fin cfg0.N) (r : Fin 256) (j : Fin 1024) (R : Fin 36864) (hR : R.val = t.val * 256 + r.val) :
    inner (iblk m c 0 t) (iblk m c 3 t) (iblk m c 4 t) (iblk m c 1 t) (iblk m c 2 t) r j
      = AttnOutSpec.res (m ((c : Thread nD τ).loc main_arg0)) (m ((c : Thread nD τ).loc main_arg1))
          (m ((c : Thread nD τ).loc main_arg2)) (m ((c : Thread nD τ).loc main_arg3)) R j := by
  have hb : ModSpec.seq R = ⟨r.val % 16, by omega⟩ := Fin.ext (by show R.val % 16 = r.val % 16; omega)
  have hg : (ModSpec.group R).val = t.val / 128 := by show R.val / 32768 = t.val / 128; omega
  unfold inner AttnOutSpec.res AttnOutSpec.y
  rw [hb]
  refine congrArg₂ (· + ·) (congrArg (_ * ·) (x_at m c t r j R hR)) ((mul_comm _ _).trans
    (congrArg₂ (· * ·) (g_at m c t _ j _ hg) (Finset.sum_congr rfl fun d _ => congrArg₂ (· * ·) ?_ (w_at m c t d j))))
  refine (Finset.sum_congr rfl fun s _ => congrArg (fun z : EReal => z * _) (p_at m c t _ s)).trans ((Perm.sum _ (by omega) _).trans ?_)
  have hs : (⟨(r.val % 16 * 16 + r.val / 16) / 16, by omega⟩ : Fin 16) = ⟨r.val % 16, by omega⟩ :=
    Fin.ext (by show (r.val % 16 * 16 + r.val / 16) / 16 = r.val % 16; omega)
  refine (congrArg (fun e => iblk m c 0 t (ix3 e _ d)) hs).trans (o_at m c t _ _ d (AttnOutSpec.tok R) ?_)
  have e1 : (r.val % 16 * 16 + r.val / 16) % 16 = r.val / 16 := by omega
  have e2 : R.val / 16 = t.val * 16 + r.val / 16 := by omega
  exact e2.trans (congrArg (t.val * 16 + ·) e1.symm)

/-- The store at point `t` is the specification's at the block's place. -/
theorem at_place (t : Fin cfg0.N) (y : S256x1024.Idx) (j : S36864x1024.Idx) (h0 : (j 0).val = t.val * 256 + (y 0).val)
    (h1 : (j 1).val = (y 1).val) :
    k0_pay1 (F := Ideal) (k0_pay2 (F := Ideal) (iblk m c 5 t)) (k0_pay3 (F := Ideal) (iblk m c 6 t))
        (k0_pay4 (F := Ideal) (iblk m c 0 t) (iblk m c 3 t) (iblk m c 4 t) (iblk m c 1 t) (iblk m c 2 t))
        (k0_pay5 (F := Ideal) (iblk m c 0 t) (iblk m c 3 t) (iblk m c 4 t) (iblk m c 1 t) (iblk m c 2 t))
        (Scalar.ofBits (F := Ideal) .f32 0x358637BD#32) y
      = AttnOutSpec.G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) j := by
  rw [eq_ix2 y]
  refine (store_at _ _ _ _ _ _ _ _ _).trans ?_
  unfold AttnOutSpec.G
  have e1 : inner (iblk m c 0 t) (iblk m c 3 t) (iblk m c 4 t) (iblk m c 1 t) (iblk m c 2 t) (y 0) = AttnOutSpec.res
      (m ((c : Thread nD τ).loc main_arg0)) (m ((c : Thread nD τ).loc main_arg1)) (m ((c : Thread nD τ).loc main_arg2))
      (m ((c : Thread nD τ).loc main_arg3)) (j 0) := funext fun e => inner_at m c t (y 0) e (j 0) h0
  have e2 : (fun e : Fin 1024 => (iblk m c 5 t (ix2 0 e) : EReal)) = fun e => m ((c : Thread nD τ).loc main_arg4) (ix1 e) :=
    funext fun e => lg_at m c t e
  have e3 : (fun e : Fin 1024 => (iblk m c 6 t (ix2 0 e) : EReal)) = fun e => m ((c : Thread nD τ).loc main_arg5) (ix1 e) :=
    funext fun e => lb_at m c t e
  have e4 : y 1 = j 1 := Fin.ext h1.symm
  exact congr (congr (congr (congrArg AttnOutSpec.layerNorm e1) e2) e3) e4

/-- The result array after the run. -/
theorem final : (dats m 0 c).arrAt 7 cfg0.N = AttnOutSpec.G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 7 _ (by decide +kernel) fun t _ y => ?_
  blk_simp
  rw [after0_7]
  frame_out
  refine at_place m c t y _ ?_ ?_ <;> blk_simp [idx t]

end Cert.AttnOutIdeal.Out
end
-- ==== Proof.AttnOutRef.lean ====
/- The attention layer's output projection: the reference's result is the specification's. -/
module

public import proofs.«01_k».proof.Proof.Gen.AttnOutReferenceIdeal.Run
public import proofs.«01_k».proof.Proof.AttnOutSpec

@[expose] public section

set_option maxRecDepth 16384

noncomputable section

open Idealize.ShloMosaic Idealize.ShloMosaic.TcCoe Idealize.SL.Sem

namespace Cert.AttnOutReferenceIdeal.Out

open Cert.AttnOutReferenceIdeal Cert.AttnOutReferenceIdeal.Gen

set_option maxHeartbeats 800000

/-- The projection, token first. -/
def proj (o : FVec Ideal S16x2304x1024 .bf16) (w : FVec Ideal S1024x1024 .f32) : FVec Ideal S2304x16x1024 .f32 :=
  transpose S2304x16x1024 [1, 0, 2] (Host.dotGeneral dot_S16x2304x1024_S1024x1024_S16x2304x1024_2_0_01_1_n_n none
    (extf .f32 o bitsLt_bf16_f32) w) transposes_S16x2304x1024_S2304x16x1024_1_0_2

/-- The latent tokens' projection, gated. -/
def latent (g1 : FVec Ideal S2x16x1024 .f32) (y : FVec Ideal S2304x16x1024 .f32) : FVec Ideal S2048x16x1024 .f32 :=
  mulf (broadcastInDim S2048x16x1024 ![0, 1, 2] bcast_S1x16x1024_S2048x16x1024_0_1_2
      (broadcastInDim S1x16x1024 ![1, 2] bcast_S16x1024_S1x16x1024_1_2
        (shapeCast S16x1024 (extractStridedSlice S1x16x1024 ![0, 0, 0] g1 slices_S2x16x1024_S1x16x1024_0_0_0)
          shapeCasts_S1x16x1024_S16x1024)))
    (extractStridedSlice S2048x16x1024 ![0, 0, 0] y slices_S2304x16x1024_S2048x16x1024_0_0_0)

/-- The context tokens'. -/
def context (g1 : FVec Ideal S2x16x1024 .f32) (y : FVec Ideal S2304x16x1024 .f32) : FVec Ideal S256x16x1024 .f32 :=
  mulf (broadcastInDim S256x16x1024 ![0, 1, 2] bcast_S1x16x1024_S256x16x1024_0_1_2
      (broadcastInDim S1x16x1024 ![1, 2] bcast_S16x1024_S1x16x1024_1_2
        (shapeCast S16x1024 (extractStridedSlice S1x16x1024 ![1, 0, 0] g1 slices_S2x16x1024_S1x16x1024_1_0_0)
          shapeCasts_S1x16x1024_S16x1024)))
    (extractStridedSlice S256x16x1024 ![2048, 0, 0] y slices_S2304x16x1024_S256x16x1024_2048_0_0)

/-- Both, as rows. -/
def gated (g1 : FVec Ideal S2x16x1024 .f32) (y : FVec Ideal S2304x16x1024 .f32) : FVec Ideal S36864x1024 .f32 :=
  shapeCast S36864x1024 (concatenate S2304x16x1024 0 [⟨S2048x16x1024, latent g1 y⟩, ⟨S256x16x1024, context g1 y⟩]
    concatenates_S2048x16x1024_S256x16x1024_S2304x16x1024_d0) shapeCasts_S2304x16x1024_S36864x1024

/-- The residual sum. -/
def resid (x : FVec Ideal S36864x1024 .f32) (z : FVec Ideal S36864x1024 .f32) : FVec Ideal S36864x1024 .f32 :=
  addf (mulf (broadcastInDim S36864x1024 ![] bcast_S_S36864x1024 (constant S_ .f32 0x3FD744FD#32)) x) z

/-- Each row's mean. -/
def mean (v : FVec Ideal S36864x1024 .f32) : FVec Ideal S36864x1 .f32 :=
  Host.divf (broadcastInDim S36864x1 ![0] bcast_S36864_S36864x1_0
      (Host.reduceAdd v (constant S_ .f32 0x00000000#32) reducesTo_S36864x1024_S36864_d1 h_S_))
    (broadcastInDim S36864x1 ![] bcast_S_S36864x1 (constant S_ .f32 0x44800000#32))

/-- The rows less their means. -/
def centred (v : FVec Ideal S36864x1024 .f32) : FVec Ideal S36864x1024 .f32 :=
  subf v (broadcastInDim S36864x1024 ![0, 1] bcast_S36864x1_S36864x1024_0_1 (mean v))

/-- The rows, normalised. -/
def layerNorm (v : FVec Ideal S36864x1024 .f32) (lg lb : FVec Ideal S1024 .f32) : FVec Ideal S36864x1024 .f32 :=
  addf (mulf (mulf (centred v) (broadcastInDim S36864x1024 ![0, 1] bcast_S36864x1_S36864x1024_0_1
        (Host.rsqrt (addf (mean (mulf (centred v) (centred v))) (broadcastInDim S36864x1 ![] bcast_S_S36864x1 (constant S_ .f32 0x358637BD#32))))))
      (broadcastInDim S36864x1024 ![0, 1] bcast_S1x1024_S36864x1024_0_1 (broadcastInDim S1x1024 ![1] bcast_S1024_S1x1024_1 lg)))
    (broadcastInDim S36864x1024 ![0, 1] bcast_S1x1024_S36864x1024_0_1 (broadcastInDim S1x1024 ![1] bcast_S1024_S1x1024_1 lb))

theorem proj_at (o : FVec Ideal S16x2304x1024 .bf16) (w : FVec Ideal S1024x1024 .f32) (t : Fin 2304) (b : Fin 16) (j : Fin 1024) :
    proj o w (ix3 t b j) = ∑ d : Fin 1024, o (ix3 b t d) * w (ix2 d j) := by
  pointwise [proj]

theorem latent_at (g1 : FVec Ideal S2x16x1024 .f32) (y : FVec Ideal S2304x16x1024 .f32) (t : Fin 2048) (b : Fin 16) (j : Fin 1024) :
    latent g1 y (ix3 t b j) = g1 (ix3 0 b j) * y (ix3 ⟨t.val, by omega⟩ b j) := by
  pointwise [latent]

theorem context_at (g1 : FVec Ideal S2x16x1024 .f32) (y : FVec Ideal S2304x16x1024 .f32) (t : Fin 256) (b : Fin 16) (j : Fin 1024) :
    context g1 y (ix3 t b j) = g1 (ix3 1 b j) * y (ix3 ⟨2048 + t.val, by omega⟩ b j) := by
  pointwise [context]

/-- A row is gated by its group's gate. -/
theorem gated_at (g1 : FVec Ideal S2x16x1024 .f32) (y : FVec Ideal S2304x16x1024 .f32) (R : Fin 36864) (j : Fin 1024) :
    gated g1 y (ix2 R j) = g1 (ix3 (ModSpec.group R) (ModSpec.seq R) j) * y (ix3 (AttnOutSpec.tok R) (ModSpec.seq R) j) := by
  pointwise [gated]
  by_cases h : R.val / 16 < 2048
  · have hg : ModSpec.group R = 0 := Fin.ext (by show R.val / 32768 = 0; omega)
    rw [dif_pos h, hg, latent_at]
    rfl
  · have hg : ModSpec.group R = 1 := Fin.ext (by show R.val / 32768 = 1; omega)
    have ht : (⟨2048 + (R.val / 16 - 2048), by omega⟩ : Fin 2304) = AttnOutSpec.tok R :=
      Fin.ext (by show 2048 + (R.val / 16 - 2048) = R.val / 16; omega)
    rw [dif_neg h, hg, context_at, ht]
    rfl

theorem resid_at (x z : FVec Ideal S36864x1024 .f32) (R : Fin 36864) (j : Fin 1024) :
    resid x z (ix2 R j) = Ideal.ofBits .f32 0x3FD744FD#32 * x (ix2 R j) + z (ix2 R j) := by
  pointwise [resid]

theorem mean_at (v : FVec Ideal S36864x1024 .f32) (R : Fin 36864) : mean v (ix2 R 0) = AttnOutSpec.mean fun e => v (ix2 R e) := by
  unfold AttnOutSpec.mean
  pointwise [mean]

theorem centred_at (v : FVec Ideal S36864x1024 .f32) (R : Fin 36864) (j : Fin 1024) :
    centred v (ix2 R j) = AttnOutSpec.centred (fun e => v (ix2 R e)) j := by
  unfold AttnOutSpec.centred
  rw [← mean_at]
  pointwise [centred]

theorem layerNorm_at (v : FVec Ideal S36864x1024 .f32) (lg lb : FVec Ideal S1024 .f32) (R : Fin 36864) (j : Fin 1024) :
    layerNorm v lg lb (ix2 R j)
      = AttnOutSpec.layerNorm (fun e => v (ix2 R e)) (fun e => lg (ix1 e)) (fun e => lb (ix1 e)) j := by
  have e : mean (mulf (centred v) (centred v)) (ix2 R 0) = AttnOutSpec.mean fun e =>
      AttnOutSpec.centred (fun e => v (ix2 R e)) e * AttnOutSpec.centred (fun e => v (ix2 R e)) e := by
    rw [mean_at]
    exact congrArg AttnOutSpec.mean (funext fun e => congrArg₂ (· * ·) (centred_at v R e) (centred_at v R e))
  unfold AttnOutSpec.layerNorm
  rw [← e, ← centred_at]
  pointwise [layerNorm]

/-- The reference's result is the specification's. -/
theorem out_eq (o : FVec Ideal S16x2304x1024 .bf16) (x : FVec Ideal S36864x1024 .f32) (g1 : FVec Ideal S2x16x1024 .f32)
    (w : FVec Ideal S1024x1024 .f32) (lg lb : FVec Ideal S1024 .f32) :
    layerNorm (resid x (gated g1 (proj o w))) lg lb = AttnOutSpec.G o x g1 w lg lb := by
  funext i
  rw [eq_ix2 i]
  refine (layerNorm_at _ _ _ _ _).trans (congrArg (fun v => AttnOutSpec.layerNorm v _ _ (i 1)) (funext fun e => ?_))
  exact (resid_at _ _ _ _).trans (congrArg (_ + ·) ((gated_at _ _ _ _).trans (congrArg (_ * ·) (proj_at _ _ _ _ _))))

/-- The reference's run: its result is the specification's array, its arguments are left alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = AttnOutSpec.G (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out_eq _ _ _ _ _ _), (h c).2⟩) (Value.run m ρ)

end Cert.AttnOutReferenceIdeal.Out
end
-- ==== Proof.OutLastSpec.lean ====
/- What the last layer's output projection computes, at an index: a latent row's residual sum, normalised. -/
module

public import proofs.«01_k».proof.Proof.AttnOutSpec

@[expose] public section

set_option maxRecDepth 16384

noncomputable section

open Idealize.ShloMosaic Idealize.ShloMosaic.TcCoe Idealize.SL.Sem
namespace Cert.OutLastSpec

open Cert.ModSpec Cert.AttnOutSpec

/-- The latent tokens' attention, and their rows. -/
abbrev Heads : Type := (⟨3, ![16, 2048, 1024]⟩ : Shape).Idx → EReal
abbrev Latent : Type := (⟨2, ![32768, 1024]⟩ : Shape).Idx → EReal

/-- A latent row's sequence, its token, and its place among all rows. -/
def seq (R : Fin 32768) : Fin 16 := ⟨R.val % 16, by omega⟩
def tok (R : Fin 32768) : Fin 2048 := ⟨R.val / 16, by omega⟩
def row (R : Fin 32768) : Fin 36864 := ⟨R.val, by omega⟩

/-- The row times the residual's factor, plus the gated projection of the attention's result at its sequence and token. -/
def res (o : Heads) (x : Rows) (g1 : Mods) (w : Weights) (R : Fin 32768) (j : Fin 1024) : EReal :=
  Ideal.ofBits .f32 0x3FD744FD#32 * x (ix2 (row R) j)
    + g1 (ix3 0 (seq R) j) * ∑ d : Fin 1024, o (ix3 (seq R) (tok R) d) * w (ix2 d j)

/-- The result. -/
def G (o : Heads) (x : Rows) (g1 : Mods) (w : Weights) (lg lb : Vecs) : Latent := fun i =>
  layerNorm (res o x g1 w (i 0)) (fun e => lg (ix1 e)) (fun e => lb (ix1 e)) (i 1)

end Cert.OutLastSpec
end
-- ==== Proof.OutLastKernel.lean ====
/- The last layer's output projection: the kernel's result array is the specification's. -/
module

public import proofs.«01_k».proof.Proof.Gen.OutLastIdeal.Value
public import proofs.«01_k».proof.Proof.OutLastSpec
public import proofs.«01_k».proof.Proof.AttnOutKernel

@[expose] public section

set_option maxRecDepth 16384

noncomputable section

open Idealize.ShloMosaic Idealize.ShloMosaic.TcCoe Idealize.SL.Sem
namespace Cert.OutLastIdeal.Out

open Cert.OutLastIdeal Cert.OutLastIdeal.Gen

set_option maxHeartbeats 1600000

/-! ## What the host computes before the kernel, and the blocks -/

/-- Point `t` reads every sequence's token block `t`, row block `t`, the latent rows' gate, and the reordering matrix,
    the weights, the gain and the bias whole; it writes row block `t`. -/
theorem idx : ∀ t : Fin cfg0.N, win0_0.index t = ![0, t.val, 0] ∧ win0_1.index t = ![t.val, 0]
    ∧ win0_2.index t = ![0, 0, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

variable (m : (ℓ : Loc nD τ sig) → Buf (Elt Ideal) ℓ) (c : Dev nD)

/-- The place in the block's new order of row `r` of its own. -/
theorem place_at (r : Fin 256) : (V m c main_v8 : IVec S256 32) (ix1 r) = BitVec.ofNat 32 (r.val % 16 * 16 + r.val / 16) := by
  unfold V
  simp only [hostOps0, hostOps0_1, hostOps0_2, hostOps0_3, hostOps0_4, List.flatten_cons, List.flatten_nil, List.append_nil,
    List.cons_append, List.nil_append]
  after_results_simp
  simp only [StableHlo.TRef.ofBuf, StableHlo.TRef.toBuf, eqRec_eq_cast, cast_eq, id]
  pointwise
  change (_ : BitVec 32) = _
  revert r
  decide +kernel

/-- The reordering matrix, from the places. -/
theorem perm_eq : (V m c main_v16 : FVec Ideal S256x256 .bf16) = transpose S256x256 [1, 0] (uitofp .bf16 (cmpi .eq
    (broadcastInDim S256x256 ![0, 1] bcast_S256x1_S256x256_0_1 (broadcastInDim S256x1 ![0] bcast_S256_S256x1_0 (V m c main_v8 : IVec S256 32)))
    (broadcastInDim S256x256 ![0, 1] bcast_S1x256_S256x256_0_1 (broadcastInDim S1x256 ![1] bcast_S256_S1x256_1 (iotaInDim S256 32 0)))) :
      FVec Ideal S256x256 .bf16) transposes_S256x256_S256x256_1_0 := by
  unfold V
  simp only [hostOps0, hostOps0_1, hostOps0_2, hostOps0_3, hostOps0_4, List.flatten_cons, List.flatten_nil, List.append_nil,
    List.cons_append, List.nil_append]
  after_results_simp
  all_goals rfl

/-- The reordering matrix at an index: row `r` has its one at the row that goes to `r`. -/
theorem perm_at (r s : Fin 256) :
    V m c main_v16 (ix2 r s) = (if s.val = r.val % 16 * 16 + r.val / 16 then 1 else 0 : EReal) := by
  rw [perm_eq]
  pointwise
  rw [place_at]
  refine (Perm.bit _ _ (by omega) r.isLt).trans ?_
  have e : (r.val = s.val % 16 * 16 + s.val / 16) = (s.val = r.val % 16 * 16 + r.val / 16) := propext (by omega)
  simp only [e]

/-- The weights, the gain and the bias as the kernel takes them are the arguments'. -/
theorem params_at (d j : Fin 1024) : V m c main_v0 (ix2 d j) = m ((c : Thread nD τ).loc main_arg3) (ix2 d j)
    ∧ V m c main_v1 (ix2 0 d) = m ((c : Thread nD τ).loc main_arg4) (ix1 d)
    ∧ V m c main_v2 (ix2 0 d) = m ((c : Thread nD τ).loc main_arg5) (ix1 d) := by
  unfold V
  simp only [hostOps0, hostOps0_1, hostOps0_2, hostOps0_3, hostOps0_4, List.flatten_cons, List.flatten_nil, List.append_nil,
    List.cons_append, List.nil_append]
  refine ⟨?_, ?_, ?_⟩ <;> (after_results_simp; pointwise)

/-- The blocks at point `t`: the attention's result, -/
theorem o_at (t : Fin cfg0.N) (b i : Fin 16) (d : Fin 1024) (T : Fin 2048) (hT : T.val = t.val * 16 + i.val) :
    iblk m c 0 t (ix3 b i d) = m ((c : Thread nD τ).loc main_arg0) (ix3 b T d) := by
  blk_point [iblk, V_main_arg0, idx t]

/-- the rows, -/
theorem x_at (t : Fin cfg0.N) (r : Fin 256) (d : Fin 1024) (R : Fin 36864) (hR : R.val = t.val * 256 + r.val) :
    iblk m c 1 t (ix2 r d) = m ((c : Thread nD τ).loc main_arg1) (ix2 R d) := by
  blk_point [iblk, V_main_arg1, idx t]

/-- the gate, -/
theorem g_at (t : Fin cfg0.N) (b : Fin 16) (d : Fin 1024) :
    iblk m c 2 t (ix3 0 b d) = m ((c : Thread nD τ).loc main_arg2) (ix3 0 b d) := by
  blk_point [iblk, V_main_arg2, idx t]

/-- the reordering matrix, -/
theorem p_at (t : Fin cfg0.N) (r s : Fin 256) :
    iblk m c 3 t (ix2 r s) = (if s.val = r.val % 16 * 16 + r.val / 16 then 1 else 0 : EReal) := by
  refine Eq.trans ?_ (perm_at m c r s)
  blk_point [iblk, idx t]

/-- the weights, -/
theorem w_at (t : Fin cfg0.N) (d j : Fin 1024) : iblk m c 4 t (ix2 d j) = m ((c : Thread nD τ).loc main_arg3) (ix2 d j) := by
  refine Eq.trans ?_ (params_at m c d j).1
  blk_point [iblk, idx t]

/-- the gain -/
theorem lg_at (t : Fin cfg0.N) (d : Fin 1024) : iblk m c 5 t (ix2 0 d) = m ((c : Thread nD τ).loc main_arg4) (ix1 d) := by
  refine Eq.trans ?_ (params_at m c d d).2.1
  blk_point [iblk, idx t]

/-- and the bias. -/
theorem lb_at (t : Fin cfg0.N) (d : Fin 1024) : iblk m c 6 t (ix2 0 d) = m ((c : Thread nD τ).loc main_arg5) (ix1 d) := by
  refine Eq.trans ?_ (params_at m c d d).2.2
  blk_point [iblk, idx t]

/-! ## What a grid point stores -/

/-- The residual sum at point `t` is the specification's. -/
theorem inner_at (t : Fin cfg0.N) (r : Fin 256) (j : Fin 1024) (R : Fin 32768) (hR : R.val = t.val * 256 + r.val) :
    AttnOutIdeal.Out.inner (iblk m c 0 t) (iblk m c 3 t) (iblk m c 4 t) (iblk m c 1 t) (iblk m c 2 t) r j
      = OutLastSpec.res (m ((c : Thread nD τ).loc main_arg0)) (m ((c : Thread nD τ).loc main_arg1))
          (m ((c : Thread nD τ).loc main_arg2)) (m ((c : Thread nD τ).loc main_arg3)) R j := by
  have hb : OutLastSpec.seq R = ⟨r.val % 16, by omega⟩ := Fin.ext (by show R.val % 16 = r.val % 16; omega)
  unfold AttnOutIdeal.Out.inner OutLastSpec.res
  rw [hb]
  refine congrArg₂ (· + ·) (congrArg (_ * ·) (x_at m c t r j (OutLastSpec.row R) hR)) ((mul_comm _ _).trans
    (congrArg₂ (· * ·) (g_at m c t _ j) (Finset.sum_congr rfl fun d _ => congrArg₂ (· * ·) ?_ (w_at m c t d j))))
  refine (Finset.sum_congr rfl fun s _ => congrArg (fun z : EReal => z * _) (p_at m c t _ s)).trans ((Perm.sum _ (by omega) _).trans ?_)
  have hs : (⟨(r.val % 16 * 16 + r.val / 16) / 16, by omega⟩ : Fin 16) = ⟨r.val % 16, by omega⟩ :=
    Fin.ext (by show (r.val % 16 * 16 + r.val / 16) / 16 = r.val % 16; omega)
  refine (congrArg (fun e => iblk m c 0 t (ix3 e _ d)) hs).trans (o_at m c t _ _ d (OutLastSpec.tok R) ?_)
  have e1 : (r.val % 16 * 16 + r.val / 16) % 16 = r.val / 16 := by omega
  have e2 : R.val / 16 = t.val * 16 + r.val / 16 := by omega
  exact e2.trans (congrArg (t.val * 16 + ·) e1.symm)

/-- The store at point `t` is the specification's at the block's place. -/
theorem at_place (t : Fin cfg0.N) (y : S256x1024.Idx) (j : S32768x1024.Idx) (h0 : (j 0).val = t.val * 256 + (y 0).val)
    (h1 : (j 1).val = (y 1).val) :
    k0_pay1 (F := Ideal) (k0_pay2 (F := Ideal) (iblk m c 5 t)) (k0_pay3 (F := Ideal) (iblk m c 6 t))
        (k0_pay4 (F := Ideal) (iblk m c 0 t) (iblk m c 3 t) (iblk m c 4 t) (iblk m c 1 t) (iblk m c 2 t))
        (k0_pay5 (F := Ideal) (iblk m c 0 t) (iblk m c 3 t) (iblk m c 4 t) (iblk m c 1 t) (iblk m c 2 t))
        (Scalar.ofBits (F := Ideal) .f32 0x358637BD#32) y
      = OutLastSpec.G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) j := by
  rw [eq_ix2 y]
  refine (AttnOutIdeal.Out.store_at _ _ _ _ _ _ _ _ _).trans ?_
  unfold OutLastSpec.G
  have e1 : AttnOutIdeal.Out.inner (iblk m c 0 t) (iblk m c 3 t) (iblk m c 4 t) (iblk m c 1 t) (iblk m c 2 t) (y 0) = OutLastSpec.res
      (m ((c : Thread nD τ).loc main_arg0)) (m ((c : Thread nD τ).loc main_arg1)) (m ((c : Thread nD τ).loc main_arg2))
      (m ((c : Thread nD τ).loc main_arg3)) (j 0) := funext fun e => inner_at m c t (y 0) e (j 0) h0
  have e2 : (fun e : Fin 1024 => (iblk m c 5 t (ix2 0 e) : EReal)) = fun e => m ((c : Thread nD τ).loc main_arg4) (ix1 e) :=
    funext fun e => lg_at m c t e
  have e3 : (fun e : Fin 1024 => (iblk m c 6 t (ix2 0 e) : EReal)) = fun e => m ((c : Thread nD τ).loc main_arg5) (ix1 e) :=
    funext fun e => lb_at m c t e
  have e4 : y 1 = j 1 := Fin.ext h1.symm
  exact congr (congr (congr (congrArg AttnOutSpec.layerNorm e1) e2) e3) e4

/-- The result array after the run. -/
theorem final : (dats m 0 c).arrAt 7 cfg0.N = OutLastSpec.G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 7 _ (by decide +kernel) fun t _ y => ?_
  blk_simp
  rw [after0_7]
  frame_out
  refine at_place m c t y _ ?_ ?_ <;> blk_simp [idx t]

end Cert.OutLastIdeal.Out
end
-- ==== Proof.OutLastRef.lean ====
/- The last layer's output projection: the reference's result is the specification's. -/
module

public import proofs.«01_k».proof.Proof.Gen.OutLastReferenceIdeal.Run
public import proofs.«01_k».proof.Proof.OutLastSpec

@[expose] public section

set_option maxRecDepth 16384

noncomputable section

open Idealize.ShloMosaic Idealize.ShloMosaic.TcCoe Idealize.SL.Sem
namespace Cert.OutLastReferenceIdeal.Out

open Cert.OutLastReferenceIdeal Cert.OutLastReferenceIdeal.Gen

set_option maxHeartbeats 800000

/-- The projection, token first, gated, as rows. -/
def gated (o : FVec Ideal S16x2048x1024 .bf16) (g1 : FVec Ideal S2x16x1024 .f32) (w : FVec Ideal S1024x1024 .f32) :
    FVec Ideal S32768x1024 .f32 :=
  shapeCast S32768x1024 (mulf (broadcastInDim S2048x16x1024 ![0, 1, 2] bcast_S1x16x1024_S2048x16x1024_0_1_2
      (broadcastInDim S1x16x1024 ![1, 2] bcast_S16x1024_S1x16x1024_1_2
        (shapeCast S16x1024 (extractStridedSlice S1x16x1024 ![0, 0, 0] g1 slices_S2x16x1024_S1x16x1024_0_0_0)
          shapeCasts_S1x16x1024_S16x1024)))
    (transpose S2048x16x1024 [1, 0, 2] (Host.dotGeneral dot_S16x2048x1024_S1024x1024_S16x2048x1024_2_0_01_1_n_n none
      (extf .f32 o bitsLt_bf16_f32) w) transposes_S16x2048x1024_S2048x16x1024_1_0_2)) shapeCasts_S2048x16x1024_S32768x1024

/-- The residual sum of the latent rows. -/
def resid (x : FVec Ideal S36864x1024 .f32) (z : FVec Ideal S32768x1024 .f32) : FVec Ideal S32768x1024 .f32 :=
  addf (mulf (broadcastInDim S32768x1024 ![] bcast_S_S32768x1024 (constant S_ .f32 0x3FD744FD#32))
    (extractStridedSlice S32768x1024 ![0, 0] x slices_S36864x1024_S32768x1024_0_0)) z

/-- Each row's mean. -/
def mean (v : FVec Ideal S32768x1024 .f32) : FVec Ideal S32768x1 .f32 :=
  Host.divf (broadcastInDim S32768x1 ![0] bcast_S32768_S32768x1_0
      (Host.reduceAdd v (constant S_ .f32 0x00000000#32) reducesTo_S32768x1024_S32768_d1 h_S_))
    (broadcastInDim S32768x1 ![] bcast_S_S32768x1 (constant S_ .f32 0x44800000#32))

/-- The rows less their means. -/
def centred (v : FVec Ideal S32768x1024 .f32) : FVec Ideal S32768x1024 .f32 :=
  subf v (broadcastInDim S32768x1024 ![0, 1] bcast_S32768x1_S32768x1024_0_1 (mean v))

/-- The rows, normalised. -/
def layerNorm (v : FVec Ideal S32768x1024 .f32) (lg lb : FVec Ideal S1024 .f32) : FVec Ideal S32768x1024 .f32 :=
  addf (mulf (mulf (centred v) (broadcastInDim S32768x1024 ![0, 1] bcast_S32768x1_S32768x1024_0_1
        (Host.rsqrt (addf (mean (mulf (centred v) (centred v))) (broadcastInDim S32768x1 ![] bcast_S_S32768x1 (constant S_ .f32 0x358637BD#32))))))
      (broadcastInDim S32768x1024 ![0, 1] bcast_S1x1024_S32768x1024_0_1 (broadcastInDim S1x1024 ![1] bcast_S1024_S1x1024_1 lg)))
    (broadcastInDim S32768x1024 ![0, 1] bcast_S1x1024_S32768x1024_0_1 (broadcastInDim S1x1024 ![1] bcast_S1024_S1x1024_1 lb))

/-- A row's gated projection. -/
theorem gated_at (o : FVec Ideal S16x2048x1024 .bf16) (g1 : FVec Ideal S2x16x1024 .f32) (w : FVec Ideal S1024x1024 .f32)
    (R : Fin 32768) (j : Fin 1024) : gated o g1 w (ix2 R j)
      = g1 (ix3 0 (OutLastSpec.seq R) j) * ∑ d : Fin 1024, o (ix3 (OutLastSpec.seq R) (OutLastSpec.tok R) d) * w (ix2 d j) := by
  unfold OutLastSpec.seq OutLastSpec.tok
  pointwise [gated]

theorem resid_at (x : FVec Ideal S36864x1024 .f32) (z : FVec Ideal S32768x1024 .f32) (R : Fin 32768) (j : Fin 1024) :
    resid x z (ix2 R j) = Ideal.ofBits .f32 0x3FD744FD#32 * x (ix2 (OutLastSpec.row R) j) + z (ix2 R j) := by
  unfold OutLastSpec.row
  pointwise [resid]

theorem mean_at (v : FVec Ideal S32768x1024 .f32) (R : Fin 32768) : mean v (ix2 R 0) = AttnOutSpec.mean fun e => v (ix2 R e) := by
  unfold AttnOutSpec.mean
  pointwise [mean]

theorem centred_at (v : FVec Ideal S32768x1024 .f32) (R : Fin 32768) (j : Fin 1024) :
    centred v (ix2 R j) = AttnOutSpec.centred (fun e => v (ix2 R e)) j := by
  unfold AttnOutSpec.centred
  rw [← mean_at]
  pointwise [centred]

theorem layerNorm_at (v : FVec Ideal S32768x1024 .f32) (lg lb : FVec Ideal S1024 .f32) (R : Fin 32768) (j : Fin 1024) :
    layerNorm v lg lb (ix2 R j)
      = AttnOutSpec.layerNorm (fun e => v (ix2 R e)) (fun e => lg (ix1 e)) (fun e => lb (ix1 e)) j := by
  have e : mean (mulf (centred v) (centred v)) (ix2 R 0) = AttnOutSpec.mean fun e =>
      AttnOutSpec.centred (fun e => v (ix2 R e)) e * AttnOutSpec.centred (fun e => v (ix2 R e)) e := by
    rw [mean_at]
    exact congrArg AttnOutSpec.mean (funext fun e => congrArg₂ (· * ·) (centred_at v R e) (centred_at v R e))
  unfold AttnOutSpec.layerNorm
  rw [← e, ← centred_at]
  pointwise [layerNorm]

/-- The reference's result is the specification's. -/
theorem out_eq (o : FVec Ideal S16x2048x1024 .bf16) (x : FVec Ideal S36864x1024 .f32) (g1 : FVec Ideal S2x16x1024 .f32)
    (w : FVec Ideal S1024x1024 .f32) (lg lb : FVec Ideal S1024 .f32) :
    layerNorm (resid x (gated o g1 w)) lg lb = OutLastSpec.G o x g1 w lg lb := by
  funext i
  rw [eq_ix2 i]
  refine (layerNorm_at _ _ _ _ _).trans (congrArg (fun v => AttnOutSpec.layerNorm v _ _ (i 1)) (funext fun e => ?_))
  exact (resid_at _ _ _ _).trans (congrArg (_ + ·) (gated_at _ _ _ _ _))

/-- The reference's run: its result is the specification's array, its arguments are left alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
        = OutLastSpec.G (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out_eq _ _ _ _ _ _), (h c).2⟩) (Value.run m ρ)

end Cert.OutLastReferenceIdeal.Out
end
-- ==== Proof.LruBwdSpec.lean ====
/- The backward recurrence and the output projection: what they compute, at an index. -/
module

public import proofs.«01_k».proof.Proof.AttnOutSpec

@[expose] public section

set_option maxRecDepth 16384

noncomputable section

open Idealize.ShloMosaic Idealize.ShloMosaic.TcCoe Idealize.SL.Sem
namespace Cert.LruBwdSpec

open Cert.ModSpec Cert.AttnOutSpec

/-- The rows of the recurrence's channels, the gates' block weights and biases, the decay's scale, the projection. -/
abbrev Chans : Type := (⟨2, ![36864, 1280]⟩ : Shape).Idx → EReal
abbrev GateW : Type := (⟨3, ![16, 80, 160]⟩ : Shape).Idx → EReal
abbrev GateB : Type := (⟨2, ![16, 160]⟩ : Shape).Idx → EReal
abbrev Scale : Type := (⟨1, ![1280]⟩ : Shape).Idx → EReal
abbrev Out : Type := (⟨2, ![1280, 1024]⟩ : Shape).Idx → EReal

/-- A channel's gate block, and its place in it. -/
def blk (ch : Fin 1280) : Fin 16 := ⟨ch.val / 80, by omega⟩
def sub (ch : Fin 1280) : Fin 80 := ⟨ch.val % 80, by omega⟩

/-- Channel `d` of a block. -/
def chan (n : Fin 16) (d : Fin 80) : Fin 1280 := ⟨n.val * 80 + d.val, by omega⟩

/-- The row of a token and a sequence. -/
def row (T : Fin 2304) (b : Fin 16) : Fin 36864 := ⟨T.val * 16 + b.val, by omega⟩

/-- Output `e` of a row's gate block: the block's channels times its weights, plus its bias, through the sigmoid. -/
def gate (xc : Chans) (gw : GateW) (gb : GateB) (R : Fin 36864) (n : Fin 16) (e : Fin 160) : EReal :=
  Ideal.logistic ((∑ d : Fin 80, xc (ix2 R (chan n d)) * gw (ix3 n d e)) + gb (ix2 n e))

/-- The recurrence gate is the first half of a block's outputs, the input gate the second. -/
def rgate (xc : Chans) (gw : GateW) (gb : GateB) (R : Fin 36864) (ch : Fin 1280) : EReal :=
  gate xc gw gb R (blk ch) ⟨(sub ch).val, by have := (sub ch).isLt; omega⟩
def igate (xc : Chans) (gw : GateW) (gb : GateB) (R : Fin 36864) (ch : Fin 1280) : EReal :=
  gate xc gw gb R (blk ch) ⟨80 + (sub ch).val, by have := (sub ch).isLt; omega⟩

/-- The logarithm of the decay. -/
def logA (xc : Chans) (gw : GateW) (gb : GateB) (sp : Scale) (R : Fin 36864) (ch : Fin 1280) : EReal :=
  Ideal.ofBits .f32 0xC1000000#32 * rgate xc gw gb R ch * sp (ix1 ch)

/-- The decay. -/
def decay (xc : Chans) (gw : GateW) (gb : GateB) (sp : Scale) (R : Fin 36864) (ch : Fin 1280) : EReal :=
  Ideal.exp (logA xc gw gb sp R ch)

/-- The input: the channel times its gate and the square root of one less the decay's square. -/
def input (xc : Chans) (gw : GateW) (gb : GateB) (sp : Scale) (R : Fin 36864) (ch : Fin 1280) : EReal :=
  Ideal.sqrt (-Ideal.expm1 (Ideal.ofBits .f32 0x40000000#32 * logA xc gw gb sp R ch)) * igate xc gw gb R ch * xc (ix2 R ch)

/-- Token `k` from the last. -/
def back (k : ℕ) : Fin 2304 := ⟨2303 - k, by omega⟩

/-- The state after `k` tokens, from the last one backwards: the decay times the state before, plus the input. -/
def state (xc : Chans) (gw : GateW) (gb : GateB) (sp : Scale) (b : Fin 16) (ch : Fin 1280) : ℕ → EReal
  | 0 => 0
  | k + 1 => decay xc gw gb sp (row (back k) b) ch * state xc gw gb sp b ch k + input xc gw gb sp (row (back k) b) ch

/-- The state at a row. -/
def hb (xc : Chans) (gw : GateW) (gb : GateB) (sp : Scale) (R : Fin 36864) (ch : Fin 1280) : EReal :=
  state xc gw gb sp (seq R) ch (2304 - R.val / 16)

/-- The projection of the two directions' sum, gated. -/
def y (xc hf gt : Chans) (gw : GateW) (gb : GateB) (sp : Scale) (w : Out) (R : Fin 36864) (j : Fin 1024) : EReal :=
  ∑ ch : Fin 1280, (hf (ix2 R ch) + hb xc gw gb sp R ch) * gt (ix2 R ch) * w (ix2 ch j)

/-- The row times the residual's factor, plus its gated projection. -/
def res (xc hf gt : Chans) (x : Rows) (g1 : Mods) (gw : GateW) (gb : GateB) (sp : Scale) (w : Out) (R : Fin 36864)
    (j : Fin 1024) : EReal :=
  Ideal.ofBits .f32 0x3FD744FD#32 * x (ix2 R j) + g1 (ix3 (group R) (seq R) j) * y xc hf gt gw gb sp w R j

/-- The result. -/
def G (xc hf gt : Chans) (x : Rows) (g1 : Mods) (gw : GateW) (gb : GateB) (sp : Scale) (w : Out) (lg lb : Vecs) : Rows := fun i =>
  layerNorm (res xc hf gt x g1 gw gb sp w (i 0)) (fun e => lg (ix1 e)) (fun e => lb (ix1 e)) (i 1)

end Cert.LruBwdSpec
end
-- ==== Proof.LruBwdHost.lean ====
/- The backward recurrence: what the host computes before the kernel, and the kernel's blocks. -/
module

public import proofs.«01_k».proof.Proof.Gen.LruBwdIdeal.Value
public import proofs.«01_k».proof.Proof.LruBwdSpec
public import Idealize.ShloMosaic.Lib.Pipeline.ValueKit

@[expose] public section

set_option maxRecDepth 16384

noncomputable section

open Idealize.ShloMosaic Idealize.ShloMosaic.TcCoe Idealize.SL.Sem
namespace Cert.LruBwdIdeal.Out

open Cert.LruBwdIdeal Cert.LruBwdIdeal.Gen

set_option maxHeartbeats 1600000

/-- Point `t` reads and writes row block `143 - t` of the row arrays, the context rows' gate at the first sixteen points
    and the latent rows' at the others, and the weights and vectors whole. -/
theorem idx : ∀ t : Fin cfg0.N, win0_0.index t = ![143 - t.val, 0] ∧ win0_1.index t = ![143 - t.val, 0]
    ∧ win0_2.index t = ![143 - t.val, 0] ∧ win0_3.index t = ![143 - t.val, 0]
    ∧ win0_4.index t = ![if t.val < 16 then 1 else 0, 0, 0] ∧ win0_5.index t = ![0, 0, 0] ∧ win0_6.index t = ![0, 0]
    ∧ win0_7.index t = ![0, 0] ∧ win0_8.index t = ![0, 0] ∧ win0_9.index t = ![0, 0] ∧ win0_10.index t = ![0, 0]
    ∧ win0_11.index t = ![143 - t.val, 0] :=
  (by decide +kernel : ∀ t : Fin grid0.N, _)

variable (m : (ℓ : Loc nD τ sig) → Buf (Elt Ideal) ℓ) (c : Dev nD)

/-- The unit matrix's bits. -/
theorem eye_at (n k : Fin 8) : (V m c main_v4 : IVec S8x8 1) (ix2 n k) = if n = k then 1#1 else 0#1 := by
  unfold V
  simp only [hostOps0]
  after_results_simp
  pointwise
  change (_ : BitVec 1) = _
  revert n k
  decide +kernel

theorem v5_eq : (V m c main_v5 : FVec Ideal S8x8 .f32) =
    (uitofp .f32 (V m c main_v4 : IVec S8x8 1) : FVec Ideal S8x8 .f32) := by
  unfold V
  simp only [hostOps0]
  after_results_simp
  all_goals rfl

theorem v5_at (n k : Fin 8) : (V m c main_v5 : FVec Ideal S8x8 .f32) (ix2 n k) = if n = k then (1 : EReal) else 0 := by
  rw [v5_eq]
  pointwise
  rw [eye_at]
  show (((if n = k then 1#1 else 0#1 : BitVec 1).toNat : ℝ) : EReal) = _
  by_cases h : n = k <;> simp [h]

/-- The recurrence gate's weights times the unit matrix, and the input gate's. -/
theorem v13_at (g : Fin 2) (n : Fin 8) (d : Fin 80) (k : Fin 8) (e : Fin 80) :
    (V m c main_v13 : FVec Ideal S2x8x80x8x80 .f32) (ix5 g n d k e)
      = @HMul.hMul EReal EReal EReal _ (m ((c : Thread nD τ).loc main_arg5) (ix3 ⟨g.val * 8 + n.val, by omega⟩ d ⟨e.val, by omega⟩)) (V m c main_v5 (ix2 n k)) := by
  unfold V
  simp only [hostOps0]
  after_results_simp
  pointwise

theorem v21_at (g : Fin 2) (n : Fin 8) (d : Fin 80) (k : Fin 8) (e : Fin 80) :
    (V m c main_v21 : FVec Ideal S2x8x80x8x80 .f32) (ix5 g n d k e)
      = @HMul.hMul EReal EReal EReal _ (m ((c : Thread nD τ).loc main_arg5) (ix3 ⟨g.val * 8 + n.val, by omega⟩ d ⟨80 + e.val, by omega⟩)) (V m c main_v5 (ix2 n k)) := by
  unfold V
  simp only [hostOps0]
  after_results_simp
  pointwise

/-- The weights as the kernel takes them, from those. -/
theorem v24_eq : (V m c main_v24 : FVec Ideal S2x640x1280 .bf16) = (truncf .bf16 (concatenate S2x640x1280 2
    [⟨S2x640x640, (shapeCast S2x640x640 (V m c main_v13 : FVec Ideal S2x8x80x8x80 .f32) shapeCasts_S2x8x80x8x80_S2x640x640 : FVec Ideal S2x640x640 .f32)⟩,
      ⟨S2x640x640, (shapeCast S2x640x640 (V m c main_v21 : FVec Ideal S2x8x80x8x80 .f32) shapeCasts_S2x8x80x8x80_S2x640x640 : FVec Ideal S2x640x640 .f32)⟩]
      concatenates_S2x640x640_S2x640x640_S2x640x1280_d2) bitsLt_bf16_f32 : FVec Ideal S2x640x1280 .bf16) := by
  unfold V
  simp only [hostOps0]
  after_results_simp
  all_goals rfl

/-- Their reshape at an index. -/
theorem block_at (X : FVec Ideal S2x8x80x8x80 .f32) (g : Fin 2) (s : Fin 640) (j : Fin 640) :
    (shapeCast S2x640x640 X shapeCasts_S2x8x80x8x80_S2x640x640 : FVec Ideal S2x640x640 .f32) (ix3 g s j)
      = X (ix5 g ⟨s.val / 80, by omega⟩ ⟨s.val % 80, by omega⟩ ⟨j.val / 80, by omega⟩ ⟨j.val % 80, by omega⟩) := by
  refine shapeCast_apply _ _ _ _ ?_
  rw [Shape.rowMajor_val_five, Shape.rowMajor_val_three]
  show (((g.val * 8 + s.val / 80) * 80 + s.val % 80) * 8 + j.val / 80) * 80 + j.val % 80 = (g.val * 640 + s.val) * 640 + j.val
  omega

theorem v24_at (g : Fin 2) (s : Fin 640) (j : Fin 1280) : (V m c main_v24 : FVec Ideal S2x640x1280 .bf16) (ix3 g s j)
    = if j.val < 640 then (V m c main_v13 (ix5 g ⟨s.val / 80, by omega⟩ ⟨s.val % 80, by omega⟩ ⟨j.val / 80 % 8, by omega⟩ ⟨j.val % 80, by omega⟩) : EReal)
      else V m c main_v21 (ix5 g ⟨s.val / 80, by omega⟩ ⟨s.val % 80, by omega⟩ ⟨j.val / 80 % 8, by omega⟩ ⟨j.val % 80, by omega⟩) := by
  rw [v24_eq]
  generalize (V m c main_v13 : FVec Ideal S2x8x80x8x80 .f32) = X
  generalize (V m c main_v21 : FVec Ideal S2x8x80x8x80 .f32) = Y
  have hX := block_at X g s
  have hY := block_at Y g s
  generalize (shapeCast S2x640x640 X shapeCasts_S2x8x80x8x80_S2x640x640 : FVec Ideal S2x640x640 .f32) = X' at *
  generalize (shapeCast S2x640x640 Y shapeCasts_S2x8x80x8x80_S2x640x640 : FVec Ideal S2x640x640 .f32) = Y' at *
  pointwise
  by_cases h : j.val < 640
  · rw [dif_pos h, if_pos h, hX]
    refine congrArg X (congrArg₂ (fun a b => ix5 g _ _ a b) (Fin.ext ?_) rfl)
    show j.val / 80 = j.val / 80 % 8
    omega
  · rw [dif_neg h, if_neg h, hY]
    refine congrArg Y (congrArg₂ (fun a b => ix5 g _ _ a b) (Fin.ext ?_) (Fin.ext ?_))
    · show (j.val - 640) / 80 = j.val / 80 % 8
      omega
    · show (j.val - 640) % 80 = j.val % 80
      omega

/-- The biases. -/
theorem v29_at (j : Fin 2560) : (V m c main_v29 : FVec Ideal S1x2560 .f32) (ix2 0 j)
    = (m ((c : Thread nD τ).loc main_arg6) (ix2 ⟨j.val % 1280 / 80, by omega⟩ ⟨j.val / 1280 * 80 + j.val % 80, by omega⟩) : EReal) := by
  unfold V
  simp only [hostOps0]
  after_results_simp
  pointwise
  by_cases h : j.val < 1280
  · rw [dif_pos h]
    refine congrArg (m _) (congrArg₂ ix2 (Fin.ext ?_) (Fin.ext ?_)) <;> simp only [] <;> omega
  · rw [dif_neg h]
    refine congrArg (m _) (congrArg₂ ix2 (Fin.ext ?_) (Fin.ext ?_)) <;> simp only [] <;> omega

theorem params_at (d : Fin 1280) (j : Fin 1024) : V m c main_v30 (ix2 0 d) = m ((c : Thread nD τ).loc main_arg7) (ix1 d)
    ∧ V m c main_v31 (ix2 d j) = m ((c : Thread nD τ).loc main_arg8) (ix2 d j)
    ∧ V m c main_v32 (ix2 0 j) = m ((c : Thread nD τ).loc main_arg9) (ix1 j)
    ∧ V m c main_v33 (ix2 0 j) = m ((c : Thread nD τ).loc main_arg10) (ix1 j) := by
  unfold V
  simp only [hostOps0]
  refine ⟨?_, ?_, ?_, ?_⟩ <;> (after_results_simp; pointwise)

end Cert.LruBwdIdeal.Out
end
-- ==== Proof.LruBwdPay.lean ====
/- The backward recurrence's kernel body, at an index. -/
module

public import proofs.«01_k».proof.Proof.Gen.LruBwdIdeal.Value
public import proofs.«01_k».proof.Proof.AttnOutSpec
public import Idealize.ShloMosaic.Lib.Pipeline.ValueKit

@[expose] public section

set_option maxRecDepth 16384

noncomputable section

open Idealize.ShloMosaic Idealize.ShloMosaic.TcCoe Idealize.SL.Sem
namespace Cert.LruBwdIdeal.Out

open Cert.LruBwdIdeal Cert.LruBwdIdeal.Gen

set_option maxHeartbeats 1600000

/-! ## The coefficients -/

/-- A gate's input at a row and a channel: the row's half against the block-diagonal weights' column. -/
theorem pay4_at (xc : FVec Ideal S256x1280 .f32) (w : FVec Ideal S1x640x1280 .bf16) (r : Fin 256) (j : Fin 1280) :
    k0_pay4 (F := Ideal) xc w (ix2 r j) = ∑ s : Fin 640, xc (ix2 r ⟨s.val, by omega⟩) * w (ix3 0 s j) := by
  pointwise [k0_pay4, k0_pay3]

theorem pay5_at (xc : FVec Ideal S256x1280 .f32) (w : FVec Ideal S1x640x1280 .bf16) (r : Fin 256) (j : Fin 1280) :
    k0_pay5 (F := Ideal) xc w (ix2 r j) = ∑ s : Fin 640, xc (ix2 r ⟨640 + s.val, by omega⟩) * w (ix3 0 s j) := by
  pointwise [k0_pay5, k0_pay3]

/-- Column `o` on of the two halves side by side. -/
def both (o : ℕ) (ho : o ≤ 640) (u v : FVec Ideal S256x1280 .f32) (r : Fin 256) (ch : Fin 1280) : EReal :=
  if h : ch.val < 640 then u (ix2 r ⟨o + ch.val, by omega⟩) else v (ix2 r ⟨o + (ch.val - 640), by omega⟩)

theorem pay6_at (xc : FVec Ideal S256x1280 .f32) (w0 w1 : FVec Ideal S1x640x1280 .bf16) (gb : FVec Ideal S1x1280 .f32)
    (r : Fin 256) (ch : Fin 1280) : k0_pay6 (F := Ideal) xc w0 w1 gb (ix2 r ch)
      = Ideal.logistic (both 640 le_rfl (k0_pay4 (F := Ideal) xc w0) (k0_pay5 (F := Ideal) xc w1) r ch + gb (ix2 0 ch)) := by
  unfold both
  pointwise [k0_pay6]

theorem pay7_at (xc : FVec Ideal S256x1280 .f32) (w0 w1 : FVec Ideal S1x640x1280 .bf16) (gb sp : FVec Ideal S1x1280 .f32)
    (r : Fin 256) (ch : Fin 1280) : k0_pay7 (F := Ideal) xc w0 w1 gb sp (ix2 r ch)
      = Ideal.ofBits .f32 0xC1000000#32 * Ideal.logistic (both 0 (Nat.zero_le _) (k0_pay4 (F := Ideal) xc w0) (k0_pay5 (F := Ideal) xc w1) r ch + gb (ix2 0 ch))
          * sp (ix2 0 ch) := by
  unfold both
  pointwise [k0_pay7]

theorem pay9_at (v : FVec Ideal S256x1280 .f32) (i) : k0_pay9 (F := Ideal) v i = v i := by
  rw [eq_ix2 i]
  pointwise [k0_pay9]

theorem pay10_at (xc v l a : FVec Ideal S256x1280 .f32) (r : Fin 256) (ch : Fin 1280) : k0_pay10 (F := Ideal) xc v l a (ix2 r ch)
      = Ideal.sqrt ((0 - (a (ix2 r ch) * a (ix2 r ch) + 1)) * Ideal.tanh (l (ix2 r ch))) * v (ix2 r ch) * xc (ix2 r ch) := by
  pointwise [k0_pay10]

/-! ## The projection and the normalisation -/

/-- A block's residual sum at an index. -/
def inner (hf hb gt : FVec Ideal S256x1280 .f32) (w : FVec Ideal S1280x1024 .bf16)
    (x : FVec Ideal S256x1024 .f32) (g : FVec Ideal S1x16x1024 .f32) (r : Fin 256) (j : Fin 1024) : EReal :=
  Ideal.ofBits .f32 0x3FD744FD#32 * x (ix2 r j)
    + (∑ d : Fin 1280, (hf (ix2 r d) + hb (ix2 r d)) * gt (ix2 r d) * w (ix2 d j)) * g (ix3 0 ⟨r.val % 16, by omega⟩ j)

theorem pay47_at (hf hb gt : FVec Ideal S256x1280 .f32) (w : FVec Ideal S1280x1024 .bf16)
    (x : FVec Ideal S256x1024 .f32) (g : FVec Ideal S1x16x1024 .f32) (r : Fin 256) (j : Fin 1024) :
    k0_pay47 (F := Ideal) hf hb gt w x g (ix2 r j) = inner hf hb gt w x g r j := by
  unfold inner
  pointwise [k0_pay47]

/-- The store at an index: the layer norm of the residual sum's row. -/
theorem store_at (hf hb gt : FVec Ideal S256x1280 .f32) (w : FVec Ideal S1280x1024 .bf16)
    (x : FVec Ideal S256x1024 .f32) (g : FVec Ideal S1x16x1024 .f32) (lg lb : FVec Ideal S1x1024 .f32) (r : Fin 256) (j : Fin 1024) :
    k0_pay1 (F := Ideal) (k0_pay45 (F := Ideal) lg) (k0_pay46 (F := Ideal) lb) (k0_pay47 (F := Ideal) hf hb gt w x g)
        (k0_pay48 (F := Ideal) hf hb gt w x g) (ix2 r j)
      = AttnOutSpec.layerNorm (inner hf hb gt w x g r) (fun e => lg (ix2 0 e)) (fun e => lb (ix2 0 e)) j := by
  unfold AttnOutSpec.layerNorm AttnOutSpec.centred AttnOutSpec.mean
  simp only [← pay47_at]
  pointwise [k0_pay1, k0_pay45, k0_pay46, k0_pay48]

end Cert.LruBwdIdeal.Out
end
-- ==== Proof.LruBwdChain.lean ====
/- The backward recurrence's kernel: what a grid point carries on and what it projects, as a recurrence over its sixteen tokens. -/
module

public import proofs.«01_k».proof.Proof.LruBwdPay
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
namespace Cert.LruBwdIdeal.Out

open Cert.LruBwdIdeal Cert.LruBwdIdeal.Gen

set_option maxHeartbeats 3200000

variable (m : (ℓ : Loc nD τ sig) → Buf (Elt Ideal) ℓ) (c : Dev nD)

/-- The decays of a block's rows. -/
def coefA (t : Fin cfg0.N) : Vec Ideal S256x1280 .f32 :=
  k0_pay9 (F := Ideal) (k0_pay8 (F := Ideal) (iblk m c 0 t)
    (View.ld (iblk m c 5 t) (Rect.unit ![0, 0, 0] ![1, 640, 1280] inb_S2x640x1280_S1x640x1280_0_0_0))
    (View.ld (iblk m c 5 t) (Rect.unit ![1, 0, 0] ![1, 640, 1280] inb_S2x640x1280_S1x640x1280_1_0_0))
    (View.ld (iblk m c 6 t) (Rect.unit ![0, 0] ![1, 1280] inb_S1x2560_S1x1280_0_0)) (iblk m c 7 t))

/-- The inputs of a block's rows. -/
def coefB (t : Fin cfg0.N) : Vec Ideal S256x1280 .f32 :=
  k0_pay10 (F := Ideal) (iblk m c 0 t)
    (k0_pay6 (F := Ideal) (iblk m c 0 t)
      (View.ld (iblk m c 5 t) (Rect.unit ![0, 0, 0] ![1, 640, 1280] inb_S2x640x1280_S1x640x1280_0_0_0))
      (View.ld (iblk m c 5 t) (Rect.unit ![1, 0, 0] ![1, 640, 1280] inb_S2x640x1280_S1x640x1280_1_0_0))
      (View.ld (iblk m c 6 t) (Rect.unit ![0, 1280] ![1, 1280] inb_S1x2560_S1x1280_0_1280)))
    (k0_pay7 (F := Ideal) (iblk m c 0 t)
      (View.ld (iblk m c 5 t) (Rect.unit ![0, 0, 0] ![1, 640, 1280] inb_S2x640x1280_S1x640x1280_0_0_0))
      (View.ld (iblk m c 5 t) (Rect.unit ![1, 0, 0] ![1, 640, 1280] inb_S2x640x1280_S1x640x1280_1_0_0))
      (View.ld (iblk m c 6 t) (Rect.unit ![0, 0] ![1, 1280] inb_S1x2560_S1x1280_0_0)) (iblk m c 7 t))
    (k0_pay8 (F := Ideal) (iblk m c 0 t)
      (View.ld (iblk m c 5 t) (Rect.unit ![0, 0, 0] ![1, 640, 1280] inb_S2x640x1280_S1x640x1280_0_0_0))
      (View.ld (iblk m c 5 t) (Rect.unit ![1, 0, 0] ![1, 640, 1280] inb_S2x640x1280_S1x640x1280_1_0_0))
      (View.ld (iblk m c 6 t) (Rect.unit ![0, 0] ![1, 1280] inb_S1x2560_S1x1280_0_0)) (iblk m c 7 t))

/-- The row of sequence `b` at the block's token `k` from its last. -/
def at_ (k : ℕ) (b : Fin 16) : Fin 256 := ⟨16 * (15 - k) + b.val, by omega⟩

/-- The state of sequence `b` after `k` of the block's tokens, from the last one backwards. -/
def run (A B : Vec Ideal S256x1280 .f32) (h : FVec Ideal S16x1280 .f32) (b : Fin 16) (ch : Fin 1280) : ℕ → EReal
  | 0 => h (ix2 b ch)
  | k + 1 => A (ix2 (at_ k b) ch) * run A B h b ch k + B (ix2 (at_ k b) ch)

/-- A read of sixteen rows of a scratch buffer filled once. -/
theorem scr0_at (A : Vec Ideal S256x1280 .f32) (o : ℕ) (inb inb') (b : Fin 16) (ch : Fin 1280) :
    (View.whole cc0_scratch0).readCov [⟨Rect.unit (s := S256x1280) ![0, 0] ![256, 1280] inb, A⟩]
      (Rect.unit (s := S256x1280) ![o, 0] ![16, 1280] inb').toLoadRect (ix2 b ch)
      = A (ix2 ⟨o + b.val, by have h : o + 16 ≤ 256 := inb' 0; omega⟩ ch) := by
  refine (congrFun (View.readCov_fill (View.whole cc0_scratch0) inb A [] (Rect.unit (s := S256x1280) ![o, 0] ![16, 1280] inb')
    (fun a => by fin_cases a <;> rfl)) (ix2 b ch)).trans ?_
  refine congrArg A (Shape.idx_ext₂ ?_ ?_) <;> simp [Rect.unit, LoadRect.idx]

theorem scr1_at (A : Vec Ideal S256x1280 .f32) (o : ℕ) (inb inb') (b : Fin 16) (ch : Fin 1280) :
    (View.whole cc0_scratch1).readCov [⟨Rect.unit (s := S256x1280) ![0, 0] ![256, 1280] inb, A⟩]
      (Rect.unit (s := S256x1280) ![o, 0] ![16, 1280] inb').toLoadRect (ix2 b ch)
      = A (ix2 ⟨o + b.val, by have h : o + 16 ≤ 256 := inb' 0; omega⟩ ch) := by
  refine (congrFun (View.readCov_fill (View.whole cc0_scratch1) inb A [] (Rect.unit (s := S256x1280) ![o, 0] ![16, 1280] inb')
    (fun a => by fin_cases a <;> rfl)) (ix2 b ch)).trans ?_
  refine congrArg A (Shape.idx_ext₂ ?_ ?_) <;> simp [Rect.unit, LoadRect.idx]

/-- One token of the body. -/
theorem step {A B : Vec Ideal S256x1280 .f32} {h Z : FVec Ideal S16x1280 .f32} {o : ℕ} {i0 i1 i2 i3} {b : Fin 16} {ch : Fin 1280} {k : ℕ}
    (ho : o = 16 * (15 - k)) (hz : Z (ix2 b ch) = run A B h b ch k) :
    (addf (mulf ((View.whole cc0_scratch0).readCov [⟨Rect.unit (s := S256x1280) ![0, 0] ![256, 1280] i0, A⟩]
        (Rect.unit (s := S256x1280) ![o, 0] ![16, 1280] i1).toLoadRect) Z)
      ((View.whole cc0_scratch1).readCov [⟨Rect.unit (s := S256x1280) ![0, 0] ![256, 1280] i2, B⟩]
        (Rect.unit (s := S256x1280) ![o, 0] ![16, 1280] i3).toLoadRect) : FVec Ideal S16x1280 .f32) (ix2 b ch)
      = run A B h b ch (k + 1) := by
  subst ho
  exact congrArg₂ (· + ·) (congrArg₂ (· * ·) (scr0_at A _ i0 i1 b ch) hz) (scr1_at B _ i2 i3 b ch)

/-- A stored state is the state. -/
theorem stored (Z : FVec Ideal S16x1280 .f32) (hc) (b : Fin 16) (ch : Fin 1280) (z : EReal) (hz : Z (ix2 b ch) = z) :
    (shapeCast S16x1280 Z hc : FVec Ideal S16x1280 .f32) (ix2 b ch) = z := by
  subst hz
  pointwise

/-- What a point after the first carries on. -/
theorem carried_B (t : Fin cfg0.N) (h0 : ¬ t.val % 144 = 0) (b : Fin 16) (ch : Fin 1280) :
    (outsAt0 m c t.val t.isLt).2 (ix2 b ch)
      = run (coefA m c t) (coefB m c t) (outsAt0 m c (t.val - 1) (Nat.lt_of_le_of_lt (Nat.sub_le _ _) t.isLt)).2 b ch 16 := by
  rw [outsAt0_B m c t h0]
  dsimp only
  frame_out
  dsimp only [k0_pay44, k0_pay42, k0_pay41, k0_pay39, k0_pay37, k0_pay35, k0_pay33, k0_pay31, k0_pay29, k0_pay27, k0_pay25,
    k0_pay24, k0_pay23, k0_pay21, k0_pay19, k0_pay17, k0_pay16, k0_pay15, k0_pay13, k0_pay11]
  unfold coefA coefB
  generalize k0_pay9 (F := Ideal) _ = A
  generalize k0_pay10 (F := Ideal) _ _ _ _ = B
  generalize (outsAt0 m c (t.val - 1) _).2 = h
  refine stored _ _ _ _ _ ?_
  iterate 16 refine step rfl ?_
  exact congrFun ((Memref.isWhole_whole cc0_scratch3).read_unread h) _

/-- What the first point carries on. -/
theorem carried_A (t : Fin cfg0.N) (h0 : t.val % 144 = 0) (b : Fin 16) (ch : Fin 1280) :
    (outsAt0 m c t.val t.isLt).2 (ix2 b ch) = run (coefA m c t) (coefB m c t) (k0_pay2 (F := Ideal)) b ch 16 := by
  rw [outsAt0_A m c t h0]
  dsimp only
  frame_out
  dsimp only [k0_pay44, k0_pay42, k0_pay41, k0_pay39, k0_pay37, k0_pay35, k0_pay33, k0_pay31, k0_pay29, k0_pay27, k0_pay25,
    k0_pay24, k0_pay23, k0_pay21, k0_pay19, k0_pay17, k0_pay16, k0_pay15, k0_pay13, k0_pay11]
  unfold coefA coefB
  generalize k0_pay9 (F := Ideal) _ = A
  generalize k0_pay10 (F := Ideal) _ _ _ _ = B
  generalize k0_pay2 (F := Ideal) = h
  refine stored _ _ _ _ _ ?_
  iterate 16 refine step rfl ?_
  rfl

/-- The states of all the block's rows. -/
def runs (A B : Vec Ideal S256x1280 .f32) (h : FVec Ideal S16x1280 .f32) : Vec Ideal S256x1280 .f32 := fun j =>
  run A B h ⟨(j 0).val % 16, by omega⟩ (j 1) (16 - (j 0).val / 16)

/-- Sixteen rows stored are those states. -/
theorem piece {A B : Vec Ideal S256x1280 .f32} {h Z : FVec Ideal S16x1280 .f32} {hc} {o k : ℕ} {inb} (ho : o = 16 * (16 - k)) (hk : k ≤ 16)
    (hz : ∀ b ch, Z (ix2 b ch) = run A B h b ch k) (x : S16x1280.Idx) :
    (shapeCast S16x1280 Z hc : FVec Ideal S16x1280 .f32) x = runs A B h ((Rect.unit (s := S256x1280) ![o, 0] ![16, 1280] inb).emb x) := by
  subst ho
  rw [eq_ix2 x]
  refine stored _ _ _ _ _ ((hz _ _).trans ?_)
  have hb : (x 0).val < 16 := (x 0).isLt
  have e0 : ((Rect.unit (s := S256x1280) ![16 * (16 - k), 0] ![16, 1280] inb).emb (ix2 (x 0) (x 1)) 0).val = 16 * (16 - k) + (x 0).val := by
    rw [Rect.emb_apply]
    show 16 * (16 - k) + 1 * (x 0).val = _
    omega
  have e1 : (Rect.unit (s := S256x1280) ![16 * (16 - k), 0] ![16, 1280] inb).emb (ix2 (x 0) (x 1)) 1 = x 1 := by
    refine Fin.ext ?_
    rw [Rect.emb_apply]
    show 0 + 1 * (x 1).val = _
    omega
  unfold runs
  have e2 : (⟨((Rect.unit (s := S256x1280) ![16 * (16 - k), 0] ![16, 1280] inb).emb (ix2 (x 0) (x 1)) 0).val % 16, by omega⟩ : Fin 16) = x 0 :=
    Fin.ext (by show ((Rect.unit (s := S256x1280) ![16 * (16 - k), 0] ![16, 1280] inb).emb (ix2 (x 0) (x 1)) 0).val % 16 = _; rw [e0]; omega)
  have e3 : 16 - ((Rect.unit (s := S256x1280) ![16 * (16 - k), 0] ![16, 1280] inb).emb (ix2 (x 0) (x 1)) 0).val / 16 = k := by
    rw [e0]; omega
  rw [e1, e2, e3]

/-- Which rows sixteen rows' store covers. -/
theorem mem_rows {o : ℕ} {inb} (y : S256x1280.Idx) :
    y ∈ (Rect.unit (s := S256x1280) ![o, 0] ![16, 1280] inb).set ↔ o ≤ (y 0).val ∧ (y 0).val < o + 16 := by
  refine Rect.mem_set_unit.trans ⟨fun h => h 0, fun h a => ?_⟩
  fin_cases a
  · exact h
  · exact ⟨Nat.zero_le _, by have := (y 1).isLt; simpa using this⟩

end Cert.LruBwdIdeal.Out
end
-- ==== Proof.LruBwdMath.lean ====
/- The recurrence's input factor in the kernel's spelling, and sums over block-diagonal weights. -/
module

public import proofs.«01_k».proof.Proof.LruBwdSpec

@[expose] public section

set_option maxRecDepth 16384

noncomputable section

open Idealize.ShloMosaic Idealize.ShloMosaic.TcCoe Idealize.SL.Sem
namespace Cert.LruBwdMath

/-- One less the decay's square, by the hyperbolic tangent: over the reals, the kernel's spelling. -/
theorem factor_real (r : ℝ) : -(Real.exp (2 * r) - 1) = (0 - (Real.exp r * Real.exp r + 1)) * Real.tanh r := by
  rw [Real.tanh_eq_sinh_div_cosh, Real.sinh_eq, Real.cosh_eq, two_mul, Real.exp_add, Real.exp_neg]
  have h := Real.exp_pos r
  field_simp
  ring

/-- The same for every value. -/
theorem factor (L : EReal) : (0 - (Ideal.exp L * Ideal.exp L + 1)) * Ideal.tanh L = -Ideal.expm1 (2 * L) := by
  induction L with
  | bot =>
    rw [EReal.mul_bot_of_pos (by norm_num)]
    simp [Ideal.expm1]
  | coe r =>
    have h := congrArg (fun z : ℝ => (z : EReal)) (factor_real r)
    simp only [Ideal.expm1]
    rw [show (2 : EReal) * (r : EReal) = ((2 * r : ℝ) : EReal) by rw [EReal.coe_mul]; rfl, Ideal.exp_coe, Ideal.exp_coe, Ideal.tanh_coe]
    exact_mod_cast h.symm
  | top =>
    rw [EReal.mul_top_of_pos (by norm_num)]
    simp [Ideal.expm1]
    rfl

/-- A sum over eight blocks of 80 whose terms vanish outside one of them is that one's. -/
theorem block_sum (F : Fin 640 → EReal) (n : ℕ) (hn : n < 8) (h : ∀ s : Fin 640, s.val / 80 ≠ n → F s = 0) :
    ∑ s : Fin 640, F s = ∑ d : Fin 80, F ⟨n * 80 + d.val, by omega⟩ := by
  refine (Finset.sum_of_injOn (fun d : Fin 80 => (⟨n * 80 + d.val, by omega⟩ : Fin 640)) ?_ (fun _ _ => Finset.mem_coe.mpr (Finset.mem_univ _)) ?_
    (fun _ _ => rfl)).symm
  · intro a _ b _ e
    have e' := Fin.mk.inj e
    exact Fin.ext (by omega)
  · intro s _ hs
    refine h s fun e => hs ⟨⟨s.val - n * 80, by omega⟩, Finset.mem_coe.mpr (Finset.mem_univ _), Fin.ext ?_⟩
    show n * 80 + (s.val - n * 80) = s.val
    omega

end Cert.LruBwdMath
end
-- ==== Proof.LruBwdCoef.lean ====
/- The backward recurrence's kernel: a block's coefficients are the specification's. -/
module

public import proofs.«01_k».proof.Proof.LruBwdHost
public import proofs.«01_k».proof.Proof.LruBwdChain
public import proofs.«01_k».proof.Proof.LruBwdMath
public import Idealize.ShloMosaic.Lib.Pipeline.ValueKit

@[expose] public section

set_option maxRecDepth 16384

noncomputable section

open Idealize.ShloMosaic Idealize.ShloMosaic.TcCoe Idealize.SL.Sem
namespace Cert.LruBwdIdeal.Out

open Cert.LruBwdIdeal Cert.LruBwdIdeal.Gen

set_option maxHeartbeats 1600000

variable (m : (ℓ : Loc nD τ sig) → Buf (Elt Ideal) ℓ) (c : Dev nD)

/-- The blocks at point `t`: the channels, -/
theorem xc_at (t : Fin cfg0.N) (r : Fin 256) (d : Fin 1280) (R : Fin 36864) (hR : R.val = (143 - t.val) * 256 + r.val) :
    iblk m c 0 t (ix2 r d) = m ((c : Thread nD τ).loc main_arg0) (ix2 R d) := by
  blk_point [iblk, V_main_arg0, idx t]

/-- the forward states, -/
theorem hf_at (t : Fin cfg0.N) (r : Fin 256) (d : Fin 1280) (R : Fin 36864) (hR : R.val = (143 - t.val) * 256 + r.val) :
    iblk m c 1 t (ix2 r d) = m ((c : Thread nD τ).loc main_arg1) (ix2 R d) := by
  blk_point [iblk, V_main_arg1, idx t]

/-- the gating branch, -/
theorem gt_at (t : Fin cfg0.N) (r : Fin 256) (d : Fin 1280) (R : Fin 36864) (hR : R.val = (143 - t.val) * 256 + r.val) :
    iblk m c 2 t (ix2 r d) = m ((c : Thread nD τ).loc main_arg2) (ix2 R d) := by
  blk_point [iblk, V_main_arg2, idx t]

/-- the rows, -/
theorem x_at (t : Fin cfg0.N) (r : Fin 256) (d : Fin 1024) (R : Fin 36864) (hR : R.val = (143 - t.val) * 256 + r.val) :
    iblk m c 3 t (ix2 r d) = m ((c : Thread nD τ).loc main_arg3) (ix2 R d) := by
  blk_point [iblk, V_main_arg3, idx t]

/-- the gate of the rows' group, -/
theorem g_at (t : Fin cfg0.N) (b : Fin 16) (d : Fin 1024) (g : Fin 2) (hg : g.val = if t.val < 16 then 1 else 0) :
    iblk m c 4 t (ix3 0 b d) = m ((c : Thread nD τ).loc main_arg4) (ix3 g b d) := by
  blk_point [iblk, V_main_arg4, idx t]

/-- half `g` of the gates' weights, -/
theorem w_at (t : Fin cfg0.N) (g : Fin 2) (s : Fin 640) (j : Fin 1280) : iblk m c 5 t (ix3 g s j) = V m c main_v24 (ix3 g s j) := by
  generalize hv : V m c main_v24 (ix3 g s j) = v
  refine Eq.trans ?_ hv
  blk_point [iblk, idx t]

theorem w0_at (t : Fin cfg0.N) (s : Fin 640) (j : Fin 1280) :
    View.ld (iblk m c 5 t) (Rect.unit ![0, 0, 0] ![1, 640, 1280] inb_S2x640x1280_S1x640x1280_0_0_0) (ix3 0 s j) = V m c main_v24 (ix3 0 s j) := by
  refine Eq.trans (congrArg (iblk m c 5 t) (funext fun a => Fin.ext ?_)) (w_at m c t 0 s j)
  fin_cases a <;> simp [Rect.unit, LoadRect.idx]

theorem w1_at (t : Fin cfg0.N) (s : Fin 640) (j : Fin 1280) :
    View.ld (iblk m c 5 t) (Rect.unit ![1, 0, 0] ![1, 640, 1280] inb_S2x640x1280_S1x640x1280_1_0_0) (ix3 0 s j) = V m c main_v24 (ix3 1 s j) := by
  refine Eq.trans (congrArg (iblk m c 5 t) (funext fun a => Fin.ext ?_)) (w_at m c t 1 s j)
  fin_cases a <;> simp [Rect.unit, LoadRect.idx]

/-- the biases, -/
theorem gb_at (t : Fin cfg0.N) (j : Fin 2560) : iblk m c 6 t (ix2 0 j) = V m c main_v29 (ix2 0 j) := by
  generalize hv : V m c main_v29 (ix2 0 j) = v
  refine Eq.trans ?_ hv
  blk_point [iblk, idx t]

theorem b0_at (t : Fin cfg0.N) (j : Fin 1280) :
    View.ld (iblk m c 6 t) (Rect.unit ![0, 0] ![1, 1280] inb_S1x2560_S1x1280_0_0) (ix2 0 j) = V m c main_v29 (ix2 0 ⟨j.val, by omega⟩) := by
  refine Eq.trans (congrArg (iblk m c 6 t) (funext fun a => Fin.ext ?_)) (gb_at m c t _)
  fin_cases a <;> simp [Rect.unit, LoadRect.idx]

theorem b1_at (t : Fin cfg0.N) (j : Fin 1280) :
    View.ld (iblk m c 6 t) (Rect.unit ![0, 1280] ![1, 1280] inb_S1x2560_S1x1280_0_1280) (ix2 0 j) = V m c main_v29 (ix2 0 ⟨1280 + j.val, by omega⟩) := by
  refine Eq.trans (congrArg (iblk m c 6 t) (funext fun a => Fin.ext ?_)) (gb_at m c t _)
  fin_cases a <;> simp [Rect.unit, LoadRect.idx]

/-- the decay's scale, the projection, the gain and the bias. -/
theorem sp_at (t : Fin cfg0.N) (d : Fin 1280) : iblk m c 7 t (ix2 0 d) = m ((c : Thread nD τ).loc main_arg7) (ix1 d) := by
  refine Eq.trans ?_ (params_at m c d 0).1
  blk_point [iblk, idx t]

theorem wo_at (t : Fin cfg0.N) (d : Fin 1280) (j : Fin 1024) : iblk m c 8 t (ix2 d j) = m ((c : Thread nD τ).loc main_arg8) (ix2 d j) := by
  refine Eq.trans ?_ (params_at m c d j).2.1
  blk_point [iblk, idx t]

theorem lg_at (t : Fin cfg0.N) (j : Fin 1024) : iblk m c 9 t (ix2 0 j) = m ((c : Thread nD τ).loc main_arg9) (ix1 j) := by
  refine Eq.trans ?_ (params_at m c 0 j).2.2.1
  blk_point [iblk, idx t]

theorem lb_at (t : Fin cfg0.N) (j : Fin 1024) : iblk m c 10 t (ix2 0 j) = m ((c : Thread nD τ).loc main_arg10) (ix1 j) := by
  refine Eq.trans ?_ (params_at m c 0 j).2.2.2
  blk_point [iblk, idx t]

/-! ## The coefficients -/

/-- A gate's input: a half's channels against a column of its block-diagonal weights are the column's block of channels
    against the block's weights. -/
theorem half_sum (xs : Fin 640 → EReal) (g : Fin 2) (j : Fin 1280) (n : Fin 8) (e : Fin 80) (o : ℕ) (ho : o ≤ 640) (hj : j.val = o + n.val * 80 + e.val) (ho' : o = 0 ∨ o = 640) :
    ∑ s : Fin 640, xs s * (V m c main_v24 (ix3 g s j) : EReal)
      = ∑ d : Fin 80, xs ⟨n.val * 80 + d.val, by omega⟩ * (m ((c : Thread nD τ).loc main_arg5) (ix3 ⟨g.val * 8 + n.val, by omega⟩ d
          ⟨(if o = 0 then 0 else 80) + e.val, by split <;> omega⟩) : EReal) := by
  have key : ∀ s : Fin 640, (V m c main_v24 (ix3 g s j) : EReal) = @HMul.hMul EReal EReal EReal _ (m ((c : Thread nD τ).loc main_arg5)
      (ix3 ⟨g.val * 8 + s.val / 80, by omega⟩ ⟨s.val % 80, by omega⟩ ⟨(if o = 0 then 0 else 80) + e.val, by split <;> omega⟩))
      (if s.val / 80 = n.val then 1 else 0) := by
    intro s
    have en : (⟨j.val / 80 % 8, by omega⟩ : Fin 8) = n := Fin.ext (by show j.val / 80 % 8 = n.val; omega)
    have ee : (⟨j.val % 80, by omega⟩ : Fin 80) = e := Fin.ext (by show j.val % 80 = e.val; omega)
    rw [v24_at, en, ee]
    have hif : ((if (⟨s.val / 80, by omega⟩ : Fin 8) = n then (1 : EReal) else 0)) = if s.val / 80 = n.val then 1 else 0 := by
      simp only [Fin.ext_iff]
    rcases ho' with h | h
    · subst h
      rw [if_pos (by omega), v13_at, v5_at, hif]
      simp
    · subst h
      rw [if_neg (by omega), v21_at, v5_at, hif]
      simp
  simp only [key]
  refine (LruBwdMath.block_sum _ n.val n.isLt fun s hs => ?_).trans (Finset.sum_congr rfl fun d _ => ?_)
  · simp only [if_neg hs, mul_zero]
  · have e1 : (n.val * 80 + d.val) / 80 = n.val := by omega
    have e2 : (n.val * 80 + d.val) % 80 = d.val := by omega
    simp only [e1, e2, if_true, mul_one]

end Cert.LruBwdIdeal.Out
end
-- ==== Proof.LruBwdStore.lean ====
/- The backward recurrence's kernel: what a grid point stores. -/
module

public import proofs.«01_k».proof.Proof.LruBwdChain
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
namespace Cert.LruBwdIdeal.Out

open Cert.LruBwdIdeal Cert.LruBwdIdeal.Gen

set_option maxHeartbeats 3200000

variable (m : (ℓ : Loc nD τ sig) → Buf (Elt Ideal) ℓ) (c : Dev nD)

/-- What a point after the first stores. -/
theorem stored_B (t : Fin cfg0.N) (h0 : ¬ t.val % 144 = 0) (y : S256x1024.Idx) :
    (outsAt0 m c t.val t.isLt).1 y
      = k0_pay1 (F := Ideal) (k0_pay45 (F := Ideal) (iblk m c 9 t)) (k0_pay46 (F := Ideal) (iblk m c 10 t))
        (k0_pay47 (F := Ideal) (iblk m c 1 t) (runs (coefA m c t) (coefB m c t) (outsAt0 m c (t.val - 1) (Nat.lt_of_le_of_lt (Nat.sub_le _ _) t.isLt)).2) (iblk m c 2 t) (iblk m c 8 t) (iblk m c 3 t) (iblk m c 4 t))
        (k0_pay48 (F := Ideal) (iblk m c 1 t) (runs (coefA m c t) (coefB m c t) (outsAt0 m c (t.val - 1) (Nat.lt_of_le_of_lt (Nat.sub_le _ _) t.isLt)).2) (iblk m c 2 t) (iblk m c 8 t) (iblk m c 3 t) (iblk m c 4 t)) y := by
  rw [outsAt0_B m c t h0]
  dsimp only
  frame_out
  dsimp only [k0_pay44, k0_pay43, k0_pay42, k0_pay41, k0_pay40, k0_pay39, k0_pay38, k0_pay37, k0_pay36, k0_pay35, k0_pay34, k0_pay33, k0_pay32,
    k0_pay31, k0_pay30, k0_pay29, k0_pay28, k0_pay27, k0_pay26, k0_pay25, k0_pay24, k0_pay23, k0_pay22, k0_pay21, k0_pay20, k0_pay19,
    k0_pay18, k0_pay17, k0_pay16, k0_pay15, k0_pay14, k0_pay13, k0_pay12, k0_pay11]
  unfold coefA coefB
  generalize k0_pay9 (F := Ideal) _ = A
  generalize k0_pay10 (F := Ideal) _ _ _ _ = B
  generalize (outsAt0 m c (t.val - 1) _).2 = h
  refine congrArg (fun Y => k0_pay1 (F := Ideal) (k0_pay45 (F := Ideal) (iblk m c 9 t)) (k0_pay46 (F := Ideal) (iblk m c 10 t))
        (k0_pay47 (F := Ideal) (iblk m c 1 t) Y (iblk m c 2 t) (iblk m c 8 t) (iblk m c 3 t) (iblk m c 4 t))
        (k0_pay48 (F := Ideal) (iblk m c 1 t) Y (iblk m c 2 t) (iblk m c 8 t) (iblk m c 3 t) (iblk m c 4 t)) y) (funext fun j => ?_)
  rw [View.readCov_eq_canon']
  refine (View.canon_apply_of_pieces (runs A B h) _ (View.PiecesOf.mem ?_) _ ?_).trans ?_
  · refine ⟨?_, ?_, ?_, ?_, ?_, ?_, ?_, ?_, ?_, ?_, ?_, ?_, ?_, ?_, ?_, ?_, trivial⟩ <;> intro x <;> dsimp only
    · refine piece (o := 0) (k := 16) rfl (by decide) (fun b ch => ?_) x
      iterate 16 refine step rfl ?_
      exact congrFun ((Memref.isWhole_whole cc0_scratch3).read_unread h) _
    · refine piece (o := 16) (k := 15) rfl (by decide) (fun b ch => ?_) x
      iterate 15 refine step rfl ?_
      exact congrFun ((Memref.isWhole_whole cc0_scratch3).read_unread h) _
    · refine piece (o := 32) (k := 14) rfl (by decide) (fun b ch => ?_) x
      iterate 14 refine step rfl ?_
      exact congrFun ((Memref.isWhole_whole cc0_scratch3).read_unread h) _
    · refine piece (o := 48) (k := 13) rfl (by decide) (fun b ch => ?_) x
      iterate 13 refine step rfl ?_
      exact congrFun ((Memref.isWhole_whole cc0_scratch3).read_unread h) _
    · refine piece (o := 64) (k := 12) rfl (by decide) (fun b ch => ?_) x
      iterate 12 refine step rfl ?_
      exact congrFun ((Memref.isWhole_whole cc0_scratch3).read_unread h) _
    · refine piece (o := 80) (k := 11) rfl (by decide) (fun b ch => ?_) x
      iterate 11 refine step rfl ?_
      exact congrFun ((Memref.isWhole_whole cc0_scratch3).read_unread h) _
    · refine piece (o := 96) (k := 10) rfl (by decide) (fun b ch => ?_) x
      iterate 10 refine step rfl ?_
      exact congrFun ((Memref.isWhole_whole cc0_scratch3).read_unread h) _
    · refine piece (o := 112) (k := 9) rfl (by decide) (fun b ch => ?_) x
      iterate 9 refine step rfl ?_
      exact congrFun ((Memref.isWhole_whole cc0_scratch3).read_unread h) _
    · refine piece (o := 128) (k := 8) rfl (by decide) (fun b ch => ?_) x
      iterate 8 refine step rfl ?_
      exact congrFun ((Memref.isWhole_whole cc0_scratch3).read_unread h) _
    · refine piece (o := 144) (k := 7) rfl (by decide) (fun b ch => ?_) x
      iterate 7 refine step rfl ?_
      exact congrFun ((Memref.isWhole_whole cc0_scratch3).read_unread h) _
    · refine piece (o := 160) (k := 6) rfl (by decide) (fun b ch => ?_) x
      iterate 6 refine step rfl ?_
      exact congrFun ((Memref.isWhole_whole cc0_scratch3).read_unread h) _
    · refine piece (o := 176) (k := 5) rfl (by decide) (fun b ch => ?_) x
      iterate 5 refine step rfl ?_
      exact congrFun ((Memref.isWhole_whole cc0_scratch3).read_unread h) _
    · refine piece (o := 192) (k := 4) rfl (by decide) (fun b ch => ?_) x
      iterate 4 refine step rfl ?_
      exact congrFun ((Memref.isWhole_whole cc0_scratch3).read_unread h) _
    · refine piece (o := 208) (k := 3) rfl (by decide) (fun b ch => ?_) x
      iterate 3 refine step rfl ?_
      exact congrFun ((Memref.isWhole_whole cc0_scratch3).read_unread h) _
    · refine piece (o := 224) (k := 2) rfl (by decide) (fun b ch => ?_) x
      iterate 2 refine step rfl ?_
      exact congrFun ((Memref.isWhole_whole cc0_scratch3).read_unread h) _
    · refine piece (o := 240) (k := 1) rfl (by decide) (fun b ch => ?_) x
      iterate 1 refine step rfl ?_
      exact congrFun ((Memref.isWhole_whole cc0_scratch3).read_unread h) _
  · simp only [List.exists_mem_cons_iff, mem_rows]
    have hj : ((Rect.unit (s := S256x1280) ![0, 0] ![256, 1280] inb_S256x1280_S256x1280_0_0).toLoadRect.idx j 0).val < 256 :=
      ((Rect.unit (s := S256x1280) ![0, 0] ![256, 1280] inb_S256x1280_S256x1280_0_0).toLoadRect.idx j 0).isLt
    omega
  · exact congrArg (runs A B h) (Shape.idx_ext₂ (by simp [Rect.unit, LoadRect.idx]) (by simp [Rect.unit, LoadRect.idx]))

/-- What the first point stores. -/
theorem stored_A (t : Fin cfg0.N) (h0 : t.val % 144 = 0) (y : S256x1024.Idx) :
    (outsAt0 m c t.val t.isLt).1 y
      = k0_pay1 (F := Ideal) (k0_pay45 (F := Ideal) (iblk m c 9 t)) (k0_pay46 (F := Ideal) (iblk m c 10 t))
        (k0_pay47 (F := Ideal) (iblk m c 1 t) (runs (coefA m c t) (coefB m c t) (k0_pay2 (F := Ideal))) (iblk m c 2 t) (iblk m c 8 t) (iblk m c 3 t) (iblk m c 4 t))
        (k0_pay48 (F := Ideal) (iblk m c 1 t) (runs (coefA m c t) (coefB m c t) (k0_pay2 (F := Ideal))) (iblk m c 2 t) (iblk m c 8 t) (iblk m c 3 t) (iblk m c 4 t)) y := by
  rw [outsAt0_A m c t h0]
  dsimp only
  frame_out
  dsimp only [k0_pay44, k0_pay43, k0_pay42, k0_pay41, k0_pay40, k0_pay39, k0_pay38, k0_pay37, k0_pay36, k0_pay35, k0_pay34, k0_pay33, k0_pay32,
    k0_pay31, k0_pay30, k0_pay29, k0_pay28, k0_pay27, k0_pay26, k0_pay25, k0_pay24, k0_pay23, k0_pay22, k0_pay21, k0_pay20, k0_pay19,
    k0_pay18, k0_pay17, k0_pay16, k0_pay15, k0_pay14, k0_pay13, k0_pay12, k0_pay11]
  unfold coefA coefB
  generalize k0_pay9 (F := Ideal) _ = A
  generalize k0_pay10 (F := Ideal) _ _ _ _ = B
  generalize k0_pay2 (F := Ideal) = h
  refine congrArg (fun Y => k0_pay1 (F := Ideal) (k0_pay45 (F := Ideal) (iblk m c 9 t)) (k0_pay46 (F := Ideal) (iblk m c 10 t))
        (k0_pay47 (F := Ideal) (iblk m c 1 t) Y (iblk m c 2 t) (iblk m c 8 t) (iblk m c 3 t) (iblk m c 4 t))
        (k0_pay48 (F := Ideal) (iblk m c 1 t) Y (iblk m c 2 t) (iblk m c 8 t) (iblk m c 3 t) (iblk m c 4 t)) y) (funext fun j => ?_)
  rw [View.readCov_eq_canon']
  refine (View.canon_apply_of_pieces (runs A B h) _ (View.PiecesOf.mem ?_) _ ?_).trans ?_
  · refine ⟨?_, ?_, ?_, ?_, ?_, ?_, ?_, ?_, ?_, ?_, ?_, ?_, ?_, ?_, ?_, ?_, trivial⟩ <;> intro x <;> dsimp only
    · refine piece (o := 0) (k := 16) rfl (by decide) (fun b ch => ?_) x
      iterate 16 refine step rfl ?_
      rfl
    · refine piece (o := 16) (k := 15) rfl (by decide) (fun b ch => ?_) x
      iterate 15 refine step rfl ?_
      rfl
    · refine piece (o := 32) (k := 14) rfl (by decide) (fun b ch => ?_) x
      iterate 14 refine step rfl ?_
      rfl
    · refine piece (o := 48) (k := 13) rfl (by decide) (fun b ch => ?_) x
      iterate 13 refine step rfl ?_
      rfl
    · refine piece (o := 64) (k := 12) rfl (by decide) (fun b ch => ?_) x
      iterate 12 refine step rfl ?_
      rfl
    · refine piece (o := 80) (k := 11) rfl (by decide) (fun b ch => ?_) x
      iterate 11 refine step rfl ?_
      rfl
    · refine piece (o := 96) (k := 10) rfl (by decide) (fun b ch => ?_) x
      iterate 10 refine step rfl ?_
      rfl
    · refine piece (o := 112) (k := 9) rfl (by decide) (fun b ch => ?_) x
      iterate 9 refine step rfl ?_
      rfl
    · refine piece (o := 128) (k := 8) rfl (by decide) (fun b ch => ?_) x
      iterate 8 refine step rfl ?_
      rfl
    · refine piece (o := 144) (k := 7) rfl (by decide) (fun b ch => ?_) x
      iterate 7 refine step rfl ?_
      rfl
    · refine piece (o := 160) (k := 6) rfl (by decide) (fun b ch => ?_) x
      iterate 6 refine step rfl ?_
      rfl
    · refine piece (o := 176) (k := 5) rfl (by decide) (fun b ch => ?_) x
      iterate 5 refine step rfl ?_
      rfl
    · refine piece (o := 192) (k := 4) rfl (by decide) (fun b ch => ?_) x
      iterate 4 refine step rfl ?_
      rfl
    · refine piece (o := 208) (k := 3) rfl (by decide) (fun b ch => ?_) x
      iterate 3 refine step rfl ?_
      rfl
    · refine piece (o := 224) (k := 2) rfl (by decide) (fun b ch => ?_) x
      iterate 2 refine step rfl ?_
      rfl
    · refine piece (o := 240) (k := 1) rfl (by decide) (fun b ch => ?_) x
      iterate 1 refine step rfl ?_
      rfl
  · simp only [List.exists_mem_cons_iff, mem_rows]
    have hj : ((Rect.unit (s := S256x1280) ![0, 0] ![256, 1280] inb_S256x1280_S256x1280_0_0).toLoadRect.idx j 0).val < 256 :=
      ((Rect.unit (s := S256x1280) ![0, 0] ![256, 1280] inb_S256x1280_S256x1280_0_0).toLoadRect.idx j 0).isLt
    omega
  · exact congrArg (runs A B h) (Shape.idx_ext₂ (by simp [Rect.unit, LoadRect.idx]) (by simp [Rect.unit, LoadRect.idx]))

end Cert.LruBwdIdeal.Out
end
-- ==== Proof.LruBwdKernel.lean ====
/- The backward recurrence: the kernel's result array is the specification's. -/
module

public import proofs.«01_k».proof.Proof.LruBwdCoef
public import proofs.«01_k».proof.Proof.LruBwdStore
public import Idealize.ShloMosaic.Lib.Pipeline.ValueKit

@[expose] public section

set_option maxRecDepth 16384

noncomputable section

open Idealize.ShloMosaic Idealize.ShloMosaic.TcCoe Idealize.SL.Sem
namespace Cert.LruBwdIdeal.Out

open Cert.LruBwdIdeal Cert.LruBwdIdeal.Gen

set_option maxHeartbeats 1600000

variable (m : (ℓ : Loc nD τ sig) → Buf (Elt Ideal) ℓ) (c : Dev nD)

/-- A gate's input at a block's row: the specification's sum. -/
theorem pre_at (t : Fin cfg0.N) (r : Fin 256) (ch : Fin 1280) (R : Fin 36864) (hR : R.val = (143 - t.val) * 256 + r.val) (o : ℕ) (ho : o ≤ 640)
    (ho' : o = 0 ∨ o = 640) :
    both o ho (k0_pay4 (F := Ideal) (iblk m c 0 t) (View.ld (iblk m c 5 t) (Rect.unit ![0, 0, 0] ![1, 640, 1280] inb_S2x640x1280_S1x640x1280_0_0_0)))
        (k0_pay5 (F := Ideal) (iblk m c 0 t) (View.ld (iblk m c 5 t) (Rect.unit ![1, 0, 0] ![1, 640, 1280] inb_S2x640x1280_S1x640x1280_1_0_0))) r ch
      = ∑ d : Fin 80, @HMul.hMul EReal EReal EReal _ (m ((c : Thread nD τ).loc main_arg0) (ix2 R (LruBwdSpec.chan (LruBwdSpec.blk ch) d)))
          (m ((c : Thread nD τ).loc main_arg5) (ix3 (LruBwdSpec.blk ch) d ⟨(if o = 0 then 0 else 80) + (LruBwdSpec.sub ch).val, by have := (LruBwdSpec.sub ch).isLt; split <;> omega⟩)) := by
  have hch := ch.isLt
  unfold both
  by_cases h : ch.val < 640
  · rw [dif_pos h, pay4_at]
    simp only [w0_at]
    refine (half_sum m c (fun s => iblk m c 0 t (ix2 r ⟨s.val, by omega⟩)) 0 _ ⟨ch.val / 80, by omega⟩ ⟨ch.val % 80, by omega⟩ o ho
      (by show o + ch.val = o + ch.val / 80 * 80 + ch.val % 80; omega) ho').trans ?_
    refine Finset.sum_congr rfl fun d _ => congrArg₂ (fun a b : EReal => a * b) (xc_at m c t r _ R hR) ?_
    refine congrArg (m _) (congrArg (fun n => ix3 n d _) (Fin.ext ?_))
    show 0 * 8 + ch.val / 80 = ch.val / 80
    omega
  · rw [dif_neg h, pay5_at]
    simp only [w1_at]
    refine (half_sum m c (fun s => iblk m c 0 t (ix2 r ⟨640 + s.val, by omega⟩)) 1 _ ⟨(ch.val - 640) / 80, by omega⟩ ⟨ch.val % 80, by omega⟩ o ho
      (by show o + (ch.val - 640) = o + (ch.val - 640) / 80 * 80 + ch.val % 80; omega) ho').trans ?_
    refine Finset.sum_congr rfl fun d _ => congrArg₂ (fun a b : EReal => a * b) ((xc_at m c t r _ R hR).trans ?_) ?_
    · refine congrArg (m _) (congrArg (fun n => ix2 R n) (Fin.ext ?_))
      show 640 + ((ch.val - 640) / 80 * 80 + d.val) = ch.val / 80 * 80 + d.val
      omega
    · refine congrArg (m _) (congrArg (fun n => ix3 n d _) (Fin.ext ?_))
      show 1 * 8 + (ch.val - 640) / 80 = ch.val / 80
      omega

/-- The logarithm of the decay, the decay and the input are the specification's. -/
theorem logA_at (t : Fin cfg0.N) (r : Fin 256) (ch : Fin 1280) (R : Fin 36864) (hR : R.val = (143 - t.val) * 256 + r.val) :
    k0_pay7 (F := Ideal) (iblk m c 0 t)
      (View.ld (iblk m c 5 t) (Rect.unit ![0, 0, 0] ![1, 640, 1280] inb_S2x640x1280_S1x640x1280_0_0_0))
      (View.ld (iblk m c 5 t) (Rect.unit ![1, 0, 0] ![1, 640, 1280] inb_S2x640x1280_S1x640x1280_1_0_0))
      (View.ld (iblk m c 6 t) (Rect.unit ![0, 0] ![1, 1280] inb_S1x2560_S1x1280_0_0)) (iblk m c 7 t) (ix2 r ch)
      = LruBwdSpec.logA (m ((c : Thread nD τ).loc main_arg0)) (m ((c : Thread nD τ).loc main_arg5)) (m ((c : Thread nD τ).loc main_arg6))
          (m ((c : Thread nD τ).loc main_arg7)) R ch := by
  have hch := ch.isLt
  rw [pay7_at, pre_at m c t r ch R hR 0 _ (Or.inl rfl), b0_at, v29_at, sp_at]
  unfold LruBwdSpec.logA LruBwdSpec.rgate LruBwdSpec.gate
  refine congrArg (fun z : EReal => Ideal.ofBits .f32 0xC1000000#32 * Ideal.logistic z * _) (congrArg₂ (fun a b : EReal => a + b)
    (Finset.sum_congr rfl fun d _ => congrArg (fun z : EReal => _ * z) (congrArg (m _) (congrArg (fun e => ix3 _ d e) (Fin.ext ?_))))
    (congrArg (m _) (congrArg₂ ix2 (Fin.ext ?_) (Fin.ext ?_))))
  · show 0 + ch.val % 80 = ch.val % 80
    omega
  · show ch.val % 1280 / 80 = ch.val / 80
    omega
  · show ch.val / 1280 * 80 + ch.val % 80 = ch.val % 80
    omega

theorem igate_at (t : Fin cfg0.N) (r : Fin 256) (ch : Fin 1280) (R : Fin 36864) (hR : R.val = (143 - t.val) * 256 + r.val) :
    k0_pay6 (F := Ideal) (iblk m c 0 t)
      (View.ld (iblk m c 5 t) (Rect.unit ![0, 0, 0] ![1, 640, 1280] inb_S2x640x1280_S1x640x1280_0_0_0))
      (View.ld (iblk m c 5 t) (Rect.unit ![1, 0, 0] ![1, 640, 1280] inb_S2x640x1280_S1x640x1280_1_0_0))
      (View.ld (iblk m c 6 t) (Rect.unit ![0, 1280] ![1, 1280] inb_S1x2560_S1x1280_0_1280)) (ix2 r ch)
      = LruBwdSpec.igate (m ((c : Thread nD τ).loc main_arg0)) (m ((c : Thread nD τ).loc main_arg5)) (m ((c : Thread nD τ).loc main_arg6)) R ch := by
  have hch := ch.isLt
  rw [pay6_at, pre_at m c t r ch R hR 640 _ (Or.inr rfl), b1_at, v29_at]
  unfold LruBwdSpec.igate LruBwdSpec.gate
  refine congrArg Ideal.logistic (congrArg₂ (fun a b : EReal => a + b)
    (Finset.sum_congr rfl fun d _ => congrArg (fun z : EReal => _ * z) (congrArg (m _) (congrArg (fun e => ix3 _ d e) (Fin.ext ?_))))
    (congrArg (m _) (congrArg₂ ix2 (Fin.ext ?_) (Fin.ext ?_))))
  · rfl
  · show (1280 + ch.val) % 1280 / 80 = ch.val / 80
    omega
  · show (1280 + ch.val) / 1280 * 80 + (1280 + ch.val) % 80 = 80 + ch.val % 80
    omega

theorem coefA_at (t : Fin cfg0.N) (r : Fin 256) (ch : Fin 1280) (R : Fin 36864) (hR : R.val = (143 - t.val) * 256 + r.val) :
    coefA m c t (ix2 r ch)
      = LruBwdSpec.decay (m ((c : Thread nD τ).loc main_arg0)) (m ((c : Thread nD τ).loc main_arg5)) (m ((c : Thread nD τ).loc main_arg6))
          (m ((c : Thread nD τ).loc main_arg7)) R ch := by
  unfold coefA LruBwdSpec.decay
  rw [pay9_at]
  exact congrArg Ideal.exp (logA_at m c t r ch R hR)

theorem coefB_at (t : Fin cfg0.N) (r : Fin 256) (ch : Fin 1280) (R : Fin 36864) (hR : R.val = (143 - t.val) * 256 + r.val) :
    coefB m c t (ix2 r ch)
      = LruBwdSpec.input (m ((c : Thread nD τ).loc main_arg0)) (m ((c : Thread nD τ).loc main_arg5)) (m ((c : Thread nD τ).loc main_arg6))
          (m ((c : Thread nD τ).loc main_arg7)) R ch := by
  unfold coefB LruBwdSpec.input
  rw [pay10_at]
  refine congrArg₂ (fun a b : EReal => a * b) (congrArg₂ (fun a b : EReal => a * b) (congrArg Ideal.sqrt ?_) (igate_at m c t r ch R hR)) (xc_at m c t r ch R hR)
  have e := logA_at m c t r ch R hR
  have ea : k0_pay8 (F := Ideal) (iblk m c 0 t)
      (View.ld (iblk m c 5 t) (Rect.unit ![0, 0, 0] ![1, 640, 1280] inb_S2x640x1280_S1x640x1280_0_0_0))
      (View.ld (iblk m c 5 t) (Rect.unit ![1, 0, 0] ![1, 640, 1280] inb_S2x640x1280_S1x640x1280_1_0_0))
      (View.ld (iblk m c 6 t) (Rect.unit ![0, 0] ![1, 1280] inb_S1x2560_S1x1280_0_0)) (iblk m c 7 t) (ix2 r ch) = Ideal.exp _ := congrArg Ideal.exp e
  rw [ea, e, LruBwdMath.factor]
  refine congrArg (fun z : EReal => -Ideal.expm1 (z * _)) ?_
  simp [Ideal.ofBits, Ideal.ieee]
  rw [← EReal.coe_mul]
  norm_num
  rfl

/-- The states after a block's tokens are the recurrence's, when the ones before them are. -/
theorem run_state (t : Fin cfg0.N) (h : FVec Ideal S16x1280 .f32) (b : Fin 16) (ch : Fin 1280)
    (hh : h (ix2 b ch) = LruBwdSpec.state (m ((c : Thread nD τ).loc main_arg0)) (m ((c : Thread nD τ).loc main_arg5)) (m ((c : Thread nD τ).loc main_arg6))
      (m ((c : Thread nD τ).loc main_arg7)) b ch (16 * t.val)) :
    ∀ k ≤ 16, run (coefA m c t) (coefB m c t) h b ch k = LruBwdSpec.state (m ((c : Thread nD τ).loc main_arg0)) (m ((c : Thread nD τ).loc main_arg5))
      (m ((c : Thread nD τ).loc main_arg6)) (m ((c : Thread nD τ).loc main_arg7)) b ch (16 * t.val + k)
  | 0, _ => hh
  | k + 1, hk => by
    have ht : t.val < 144 := t.isLt
    have hR : (LruBwdSpec.row (LruBwdSpec.back (16 * t.val + k)) b).val = (143 - t.val) * 256 + (at_ k b).val := by
      show (2303 - (16 * t.val + k)) * 16 + b.val = (143 - t.val) * 256 + (16 * (15 - k) + b.val)
      omega
    show coefA m c t (ix2 (at_ k b) ch) * run (coefA m c t) (coefB m c t) h b ch k + coefB m c t (ix2 (at_ k b) ch) = _
    rw [coefA_at m c t _ _ _ hR, coefB_at m c t _ _ _ hR, run_state t h b ch hh k (by omega)]
    rfl

/-- The state before the first point is zero. -/
theorem zero_at (b : Fin 16) (ch : Fin 1280) : k0_pay2 (F := Ideal) (ix2 b ch) = (0 : EReal) := by
  pointwise [k0_pay2]

/-- What a point leaves behind is the state after its tokens. -/
theorem carried_eq (b : Fin 16) (ch : Fin 1280) : ∀ (n : ℕ) (hn : n < cfg0.N),
    (outsAt0 m c n hn).2 (ix2 b ch) = LruBwdSpec.state (m ((c : Thread nD τ).loc main_arg0)) (m ((c : Thread nD τ).loc main_arg5))
      (m ((c : Thread nD τ).loc main_arg6)) (m ((c : Thread nD τ).loc main_arg7)) b ch (16 * n + 16)
  | 0, hn => (carried_A m c ⟨0, hn⟩ rfl b ch).trans (run_state m c ⟨0, hn⟩ _ b ch (zero_at b ch) 16 le_rfl)
  | n + 1, hn => by
    have hn' : n + 1 < 144 := hn
    refine (carried_B m c ⟨n + 1, hn⟩ (by show ¬ (n + 1) % 144 = 0; omega) b ch).trans (run_state m c ⟨n + 1, hn⟩ _ b ch ?_ 16 le_rfl)
    exact (carried_eq b ch n (by omega)).trans (congrArg (LruBwdSpec.state _ _ _ _ b ch) (by show 16 * n + 16 = 16 * (n + 1); omega))

/-- A block's states are the specification's. -/
theorem runs_eq (t : Fin cfg0.N) (h : FVec Ideal S16x1280 .f32)
    (hh : ∀ b ch, h (ix2 b ch) = LruBwdSpec.state (m ((c : Thread nD τ).loc main_arg0)) (m ((c : Thread nD τ).loc main_arg5)) (m ((c : Thread nD τ).loc main_arg6))
      (m ((c : Thread nD τ).loc main_arg7)) b ch (16 * t.val))
    (r : Fin 256) (ch : Fin 1280) (R : Fin 36864) (hR : R.val = (143 - t.val) * 256 + r.val) :
    runs (coefA m c t) (coefB m c t) h (ix2 r ch) = LruBwdSpec.hb (m ((c : Thread nD τ).loc main_arg0)) (m ((c : Thread nD τ).loc main_arg5))
      (m ((c : Thread nD τ).loc main_arg6)) (m ((c : Thread nD τ).loc main_arg7)) R ch := by
  have ht : t.val < 144 := t.isLt
  have hr := r.isLt
  refine (run_state m c t h _ ch (hh _ _) (16 - r.val / 16) (by omega)).trans ?_
  unfold LruBwdSpec.hb
  have e : (⟨r.val % 16, by omega⟩ : Fin 16) = ModSpec.seq R := Fin.ext (by show r.val % 16 = R.val % 16; omega)
  have e' : 16 * t.val + (16 - r.val / 16) = 2304 - R.val / 16 := by omega
  show LruBwdSpec.state _ _ _ _ (⟨r.val % 16, by omega⟩ : Fin 16) ch _ = _
  rw [e, e']

/-- What a point stores at a row. -/
theorem block_row (t : Fin cfg0.N) (h : FVec Ideal S16x1280 .f32)
    (hh : ∀ b ch, h (ix2 b ch) = LruBwdSpec.state (m ((c : Thread nD τ).loc main_arg0)) (m ((c : Thread nD τ).loc main_arg5)) (m ((c : Thread nD τ).loc main_arg6))
      (m ((c : Thread nD τ).loc main_arg7)) b ch (16 * t.val))
    (r : Fin 256) (j : Fin 1024) (R : Fin 36864) (hR : R.val = (143 - t.val) * 256 + r.val) :
    inner (iblk m c 1 t) (runs (coefA m c t) (coefB m c t) h) (iblk m c 2 t) (iblk m c 8 t) (iblk m c 3 t) (iblk m c 4 t) r j
      = LruBwdSpec.res (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) R j := by
  have ht : t.val < 144 := t.isLt
  have hr := r.isLt
  unfold inner LruBwdSpec.res LruBwdSpec.y
  refine congrArg₂ (fun a b : EReal => a + b) (congrArg (fun z : EReal => _ * z) (x_at m c t r j R hR)) ((congrArg₂ (fun a b : EReal => a * b) ?_ ?_).trans (mul_comm _ _))
  rotate_left
  · refine (g_at m c t _ j (ModSpec.group R) ?_).trans (congrArg (fun q => m ((c : Thread nD τ).loc main_arg4) (ix3 (ModSpec.group R) q j)) (Fin.ext ?_))
    · show R.val / 32768 = if t.val < 16 then 1 else 0
      split <;> omega
    · show r.val % 16 = R.val % 16
      omega
  · refine Finset.sum_congr rfl fun ch _ => congrArg₂ (fun a b : EReal => a * b) (congrArg₂ (fun a b : EReal => a * b)
      (congrArg₂ (fun a b : EReal => a + b) (hf_at m c t r ch R hR) (runs_eq m c t h hh r ch R hR)) (gt_at m c t r ch R hR)) (wo_at m c t ch j)

/-- What a point stores, at the array's index. -/
theorem at_place (t : Fin cfg0.N) (y : S256x1024.Idx) (i : S36864x1024.Idx) (h0 : (i 0).val = (143 - t.val) * 256 + (y 0).val) (h1 : (i 1).val = (y 1).val) :
    (outsAt0 m c t.val t.isLt).1 y
      = LruBwdSpec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) i := by
  have main : ∀ h : FVec Ideal S16x1280 .f32, (∀ b ch, h (ix2 b ch) = LruBwdSpec.state (m ((c : Thread nD τ).loc main_arg0)) (m ((c : Thread nD τ).loc main_arg5))
      (m ((c : Thread nD τ).loc main_arg6)) (m ((c : Thread nD τ).loc main_arg7)) b ch (16 * t.val)) →
      k0_pay1 (F := Ideal) (k0_pay45 (F := Ideal) (iblk m c 9 t)) (k0_pay46 (F := Ideal) (iblk m c 10 t))
        (k0_pay47 (F := Ideal) (iblk m c 1 t) (runs (coefA m c t) (coefB m c t) h) (iblk m c 2 t) (iblk m c 8 t) (iblk m c 3 t) (iblk m c 4 t))
        (k0_pay48 (F := Ideal) (iblk m c 1 t) (runs (coefA m c t) (coefB m c t) h) (iblk m c 2 t) (iblk m c 8 t) (iblk m c 3 t) (iblk m c 4 t)) y
      = LruBwdSpec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) i := by
    intro h hh
    have ey : y = ix2 (y 0) (y 1) := eq_ix2 y
    rw [ey]
    refine (store_at _ _ _ _ _ _ _ _ _ _).trans ?_
    unfold LruBwdSpec.G
    refine congr (congr (congr (congrArg AttnOutSpec.layerNorm (funext fun e => block_row m c t h hh (y 0) e (i 0) h0)) (funext fun e => lg_at m c t e))
      (funext fun e => lb_at m c t e)) (Fin.ext h1.symm)
  by_cases hz : t.val % 144 = 0
  · have ht : t.val < 144 := t.isLt
    refine (stored_A m c t hz y).trans (main _ fun b ch => (zero_at b ch).trans ?_)
    have e : 16 * t.val = 0 := by omega
    rw [e]
    rfl
  · refine (stored_B m c t hz y).trans (main _ fun b ch => (carried_eq m c b ch (t.val - 1) _).trans (congrArg (LruBwdSpec.state _ _ _ _ b ch) ?_))
    have : t.val ≠ 0 := fun e => hz (by rw [e])
    omega

/-- The result array after the run. -/
theorem final : (dats m 0 c).arrAt 11 cfg0.N = LruBwdSpec.G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) := by
  refine (dats m 0 c).arrAt_eq_of_covers 11 _ (by decide +kernel) fun t _ y => ?_
  blk_simp
  rw [after0_11]
  refine at_place m c t y _ ?_ ?_ <;> blk_simp [idx t]

end Cert.LruBwdIdeal.Out
end
-- ==== Proof.LruBwdLoop.lean ====
/- The backward recurrence's reference: its loop, token by token from the last. -/
module

public import proofs.«01_k».proof.Proof.Gen.LruBwdReferenceIdeal.Run
public import proofs.«01_k».proof.Proof.LruBwdSpec
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
namespace Cert.LruBwdReferenceIdeal.Out

open Cert.LruBwdReferenceIdeal Cert.LruBwdReferenceIdeal.Gen Cert.LruBwdReferenceIdeal.Value
open Idealize.ShloMosaic.StableHlo

set_option maxHeartbeats 1600000

/-- The token a trip reads and writes. -/
theorem word_at : ∀ k : Fin 2304, ((select (cmpi .slt (subi (constantI S_ 32 2303#32) (fun _ => BitVec.ofNat 32 k.val)) (constantI S_ 32 0#32))
      (addi (id (subi (constantI S_ 32 2303#32) (fun _ => BitVec.ofNat 32 k.val))) (constantI S_ 32 2304#32))
      (subi (constantI S_ 32 2303#32) (fun _ => BitVec.ofNat 32 k.val)) : IVec S_ 32) (Shape.Idx.first h_S_)).toInt = ((2303 - k.val : ℕ) : Int) := by
  decide +kernel

/-- A trip's start indices. -/
def start (V0 : Valuation τ sig (Elt Ideal)) : Fin 3 → Int :=
  fun k => (((![select (cmpi .slt (res_main_while0b_v86 V0) (constantI S_ 32 0#32)) (addi (id (res_main_while0b_v86 V0)) (constantI S_ 32 2304#32)) (res_main_while0b_v86 V0), constantI S_ 32 0#32, constantI S_ 32 0#32] : Fin 3 → (⟨S_, .i32⟩ : BufTy).Contents (Elt Ideal))) k (Shape.Idx.first h_S_)).toInt

theorem start_at (V0 : Valuation τ sig (Elt Ideal)) (k : Fin 2304) (h : V0 (Proc.devRef .tc main_v38_3) = fun _ => BitVec.ofNat 32 k.val) (a : Fin 3) :
    start V0 a = ((![2303 - k.val, 0, 0] : Fin 3 → ℕ) a : Int) := by
  have e : res_main_while0b_v86 V0 = subi (constantI S_ 32 2303#32) (fun _ => BitVec.ofNat 32 k.val) := by
    unfold res_main_while0b_v86
    rw [h]
    rfl
  have h0 := word_at k
  unfold start
  rw [e]
  generalize (select (cmpi .slt (subi (constantI S_ 32 2303#32) (fun _ => BitVec.ofNat 32 k.val)) (constantI S_ 32 0#32))
      (addi (id (subi (constantI S_ 32 2303#32) (fun _ => BitVec.ofNat 32 k.val))) (constantI S_ 32 2304#32))
      (subi (constantI S_ 32 2303#32) (fun _ => BitVec.ofNat 32 k.val)) : IVec S_ 32) = w at *
  fin_cases a
  · exact h0
  · rfl
  · rfl

theorem slices_at (k : Fin 2304) : S2304x16x1280.Slices ![2303 - k.val, 0, 0] S1x16x1280 := by
  refine ⟨rfl, fun a => ?_⟩
  fin_cases a
  · show 2303 - k.val + 1 ≤ 2304
    omega
  · exact le_rfl
  · exact le_rfl

/-- One trip's state. -/
theorem state_step (V0 : Valuation τ sig (Elt Ideal)) (k : Fin 2304) (h : V0 (Proc.devRef .tc main_v38_3) = fun _ => BitVec.ofNat 32 k.val)
    (A B : FVec Ideal S2304x16x1280 .f32) (H : FVec Ideal S16x1280 .f32)
    (hA : V0 (Proc.devRef .tc main_v38_0) = A) (hB : V0 (Proc.devRef .tc main_v38_1) = B) (hH : V0 (Proc.devRef .tc main_v38_4) = H)
    (b : Fin 16) (ch : Fin 1280) : (res_main_while0b_v90 V0 : FVec Ideal S16x1280 .f32) (ix2 b ch)
      = A (ix3 ⟨2303 - k.val, by omega⟩ b ch) * H (ix2 b ch) + B (ix3 ⟨2303 - k.val, by omega⟩ b ch) := by
  unfold res_main_while0b_v90
  rw [hA, hB, hH]
  have eA := WordCmp.dynamicSlice_eq_extract S1x16x1280 A (start V0) sliceFits_S2304x16x1280_S1x16x1280 _ (slices_at k) (start_at V0 k h)
  have eB := WordCmp.dynamicSlice_eq_extract S1x16x1280 B (start V0) sliceFits_S2304x16x1280_S1x16x1280 _ (slices_at k) (start_at V0 k h)
  refine (congrFun (congrArg₂ (fun x y => (addf (mulf (shapeCast S16x1280 x shapeCasts_S1x16x1280_S16x1280) H)
    (shapeCast S16x1280 y shapeCasts_S1x16x1280_S16x1280) : FVec Ideal S16x1280 .f32)) eA eB) (ix2 b ch)).trans ?_
  pointwise

/-- A state as one token's rows. -/
theorem rows_at (R : FVec Ideal S16x1280 .f32) (b : Fin 16) (ch : Fin 1280) :
    (broadcastInDim S1x16x1280 ![1, 2] bcast_S16x1280_S1x16x1280_1_2 R : FVec Ideal S1x16x1280 .f32) (ix3 0 b ch) = R (ix2 b ch) := by
  pointwise

/-- A store of one token's rows, at an index. -/
theorem put_at (k : Fin 2304) (Y : FVec Ideal S2304x16x1280 .f32) (R : FVec Ideal S1x16x1280 .f32) (T : Fin 2304) (b : Fin 16) (ch : Fin 1280) :
    updateSlice Y R ![2303 - k.val, 0, 0] (slices_at k) (ix3 T b ch) = if T.val = 2303 - k.val then R (ix3 0 b ch) else Y (ix3 T b ch) := by
  unfold updateSlice
  by_cases hT : T.val = 2303 - k.val
  · rw [if_pos hT, dif_pos ?_]
    · refine congrArg R (funext fun a => Fin.ext ?_)
      fin_cases a
      · show T.val - (2303 - k.val) = 0
        omega
      · rfl
      · rfl
    · intro a
      fin_cases a
      · show 2303 - k.val ≤ T.val ∧ T.val < 2303 - k.val + 1
        omega
      · exact ⟨Nat.zero_le _, by show b.val < 0 + 16; omega⟩
      · exact ⟨Nat.zero_le _, by show ch.val < 0 + 1280; omega⟩
  · rw [if_neg hT, dif_neg]
    intro h
    have h' : 2303 - k.val ≤ T.val ∧ T.val < 2303 - k.val + 1 := h 0
    omega

/-- One trip's store. -/
theorem store_step (V0 : Valuation τ sig (Elt Ideal)) (k : Fin 2304) (h : V0 (Proc.devRef .tc main_v38_3) = fun _ => BitVec.ofNat 32 k.val)
    (Y : FVec Ideal S2304x16x1280 .f32) (hY : V0 (Proc.devRef .tc main_v38_5) = Y) (T : Fin 2304) (b : Fin 16) (ch : Fin 1280) :
    (step_main_v38_5 V0 : FVec Ideal S2304x16x1280 .f32) (ix3 T b ch)
      = if T.val = 2303 - k.val then (res_main_while0b_v90 V0 : FVec Ideal S16x1280 .f32) (ix2 b ch) else Y (ix3 T b ch) := by
  unfold step_main_v38_5
  rw [hY]
  generalize res_main_while0b_v90 V0 = R
  have e := WordCmp.dynamicUpdateSlice_eq_update Y (broadcastInDim S1x16x1280 ![1, 2] bcast_S16x1280_S1x16x1280_1_2 (R : FVec Ideal S16x1280 .f32)) (start V0) updateFits_S2304x16x1280_S1x16x1280 _ (slices_at k) (start_at V0 k h)
  rw [id_eq]
  refine (congrFun e (ix3 T b ch)).trans ?_
  rw [put_at, rows_at]

end Cert.LruBwdReferenceIdeal.Out
end
-- ==== Proof.LruBwdEntry.lean ====
/- The backward recurrence's reference: its loop's entry. -/
module

public import proofs.«01_k».proof.Proof.Gen.LruBwdReferenceIdeal.Run
public import proofs.«01_k».proof.Proof.LruBwdSpec
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
namespace Cert.LruBwdReferenceIdeal.Out

open Cert.LruBwdReferenceIdeal Cert.LruBwdReferenceIdeal.Gen Cert.LruBwdReferenceIdeal.Value
open Idealize.ShloMosaic.StableHlo

set_option maxHeartbeats 1600000

variable (m : (ℓ : Loc nD τ sig) → Buf (Elt Ideal) ℓ) (c : Dev nD)

theorem iter_0 : ∀ k, (STEP^[k] (entryContents preI m c)) (Proc.devRef .tc main_v38_0) = entryContents preI m c (Proc.devRef .tc main_v38_0)
  | 0 => rfl
  | k + 1 => by rw [Function.iterate_succ_apply', STEP_main_v38_0, iter_0 k]

theorem iter_1 : ∀ k, (STEP^[k] (entryContents preI m c)) (Proc.devRef .tc main_v38_1) = entryContents preI m c (Proc.devRef .tc main_v38_1)
  | 0 => rfl
  | k + 1 => by rw [Function.iterate_succ_apply', STEP_main_v38_1, iter_1 k]

theorem entry_3 : entryContents preI m c (Proc.devRef .tc main_v38_3) = fun _ => (0#32 : BitVec 32) := by
  simp only [entryContents, afterL_cons, afterL_nil]
  after_reads_simp
  rfl

theorem iter_3 : ∀ k, (STEP^[k] (entryContents preI m c)) (Proc.devRef .tc main_v38_3) = fun _ => BitVec.ofNat 32 k
  | 0 => entry_3 m c
  | k + 1 => by
    rw [Function.iterate_succ_apply', STEP_main_v38_3]
    unfold step_main_v38_3
    rw [iter_3 k]
    funext i
    show BitVec.ofNat 32 k + 1#32 = BitVec.ofNat 32 (k + 1)
    exact (BitVec.ofNat_add k 1).symm

theorem entry_4 (i : S16x1280.Idx) : (entryContents preI m c (Proc.devRef .tc main_v38_4) : FVec Ideal S16x1280 .f32) i = (0 : EReal) := by
  simp only [entryContents, afterL_cons, afterL_nil]
  after_reads_simp
  show Ideal.ofBits .f32 0#32 = (0 : EReal)
  simp [Ideal.ofBits, Ideal.ieee]

end Cert.LruBwdReferenceIdeal.Out
end
-- ==== Proof.LruBwdGates.lean ====
/- The backward recurrence's reference: its gates, decay and input. -/
module

public import proofs.«01_k».proof.Proof.Gen.LruBwdReferenceIdeal.Run
public import proofs.«01_k».proof.Proof.LruBwdSpec
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
namespace Cert.LruBwdReferenceIdeal.Out

open Cert.LruBwdReferenceIdeal Cert.LruBwdReferenceIdeal.Gen Cert.LruBwdReferenceIdeal.Value
open Idealize.ShloMosaic.StableHlo

set_option maxHeartbeats 1600000

/-- The gates before the sigmoid. -/
def pre (xc : FVec Ideal S36864x1280 .f32) (gw : FVec Ideal S16x80x160 .f32) (gb : FVec Ideal S16x160 .f32) : FVec Ideal S2304x16x16x160 .f32 :=
  addf (transpose S2304x16x16x160 [2, 3, 0, 1] (Host.dotGeneral dot_S16x80x160_S2304x16x16x80_S16x160x2304x16_1_3_2_01_0_2 none gw
      (shapeCast S2304x16x16x80 xc shapeCasts_S36864x1280_S2304x16x16x80)) transposes_S16x160x2304x16_S2304x16x16x160_2_3_0_1)
    (broadcastInDim S2304x16x16x160 ![0, 1, 2, 3] bcast_S1x1x16x160_S2304x16x16x160_0_1_2_3
      (broadcastInDim S1x1x16x160 ![2, 3] bcast_S16x160_S1x1x16x160_2_3 gb))

/-- The sigmoid. -/
def sigm (z : FVec Ideal S2304x16x16x80 .f32) : FVec Ideal S2304x16x16x80 .f32 :=
  Host.divf (broadcastInDim S2304x16x16x80 ![] bcast_S_S2304x16x16x80 (constant S_ .f32 1065353216#32))
    (addf (broadcastInDim S2304x16x16x80 ![] bcast_S_S2304x16x16x80 (constant S_ .f32 1065353216#32)) (Host.exp (Host.negf z)))

/-- The logarithm of the decay, of the gates. -/
def logs (p : FVec Ideal S2304x16x16x160 .f32) (sp : FVec Ideal S1280 .f32) : FVec Ideal S2304x16x1280 .f32 :=
  mulf (mulf (broadcastInDim S2304x16x1280 ![] bcast_S_S2304x16x1280 (constant S_ .f32 3238002688#32))
      (shapeCast S2304x16x1280 (sigm (extractStridedSlice S2304x16x16x80 ![0, 0, 0, 0] p slices_S2304x16x16x160_S2304x16x16x80_0_0_0_0))
        shapeCasts_S2304x16x16x80_S2304x16x1280))
    (broadcastInDim S2304x16x1280 ![0, 1, 2] bcast_S1x1x1280_S2304x16x1280_0_1_2 (broadcastInDim S1x1x1280 ![2] bcast_S1280_S1x1x1280_2 sp))

/-- The input gate. -/
def gates (p : FVec Ideal S2304x16x16x160 .f32) : FVec Ideal S2304x16x1280 .f32 :=
  shapeCast S2304x16x1280 (sigm (extractStridedSlice S2304x16x16x80 ![0, 0, 0, 80] p slices_S2304x16x16x160_S2304x16x16x80_0_0_0_80))
    shapeCasts_S2304x16x16x80_S2304x16x1280

/-- The input. -/
def inputs (xc : FVec Ideal S36864x1280 .f32) (l i : FVec Ideal S2304x16x1280 .f32) : FVec Ideal S2304x16x1280 .f32 :=
  mulf (mulf (Host.sqrt (Host.negf (Host.expm1 (mulf (broadcastInDim S2304x16x1280 ![] bcast_S_S2304x16x1280 (constant S_ .f32 1073741824#32)) l)))) i)
    (shapeCast S2304x16x1280 xc shapeCasts_S36864x1280_S2304x16x1280)

theorem pre_at (xc : FVec Ideal S36864x1280 .f32) (gw : FVec Ideal S16x80x160 .f32) (gb : FVec Ideal S16x160 .f32) (T : Fin 2304) (b n : Fin 16) (e : Fin 160) :
    pre xc gw gb (ix4 T b n e) = (∑ d : Fin 80, xc (ix2 (LruBwdSpec.row T b) (LruBwdSpec.chan n d)) * gw (ix3 n d e)) + gb (ix2 n e) := by
  have h : pre xc gw gb (ix4 T b n e) = (∑ d : Fin 80, gw (ix3 n d e) * xc (ix2 (LruBwdSpec.row T b) (LruBwdSpec.chan n d))) + gb (ix2 n e) := by
    unfold LruBwdSpec.row LruBwdSpec.chan
    pointwise [pre]
  rw [h]
  exact congrArg (fun z : EReal => z + _) (Finset.sum_congr rfl fun d _ => mul_comm _ _)

theorem sigm_at (z : FVec Ideal S2304x16x16x80 .f32) (T : Fin 2304) (b n : Fin 16) (e : Fin 80) :
    sigm z (ix4 T b n e) = Ideal.logistic (z (ix4 T b n e)) := by
  pointwise [sigm]
  rfl

theorem logs_at (p : FVec Ideal S2304x16x16x160 .f32) (sp : FVec Ideal S1280 .f32) (T : Fin 2304) (b : Fin 16) (ch : Fin 1280) :
    logs p sp (ix3 T b ch) = Ideal.ofBits .f32 0xC1000000#32
      * Ideal.logistic (p (ix4 T b (LruBwdSpec.blk ch) ⟨(LruBwdSpec.sub ch).val, by have := (LruBwdSpec.sub ch).isLt; omega⟩)) * sp (ix1 ch) := by
  unfold LruBwdSpec.blk LruBwdSpec.sub
  pointwise [logs, sigm_at]

theorem gates_at (p : FVec Ideal S2304x16x16x160 .f32) (T : Fin 2304) (b : Fin 16) (ch : Fin 1280) :
    gates p (ix3 T b ch)
      = Ideal.logistic (p (ix4 T b (LruBwdSpec.blk ch) ⟨80 + (LruBwdSpec.sub ch).val, by have := (LruBwdSpec.sub ch).isLt; omega⟩)) := by
  unfold LruBwdSpec.blk LruBwdSpec.sub
  pointwise [gates, sigm_at]

theorem inputs_at (xc : FVec Ideal S36864x1280 .f32) (l i : FVec Ideal S2304x16x1280 .f32) (T : Fin 2304) (b : Fin 16) (ch : Fin 1280) :
    inputs xc l i (ix3 T b ch)
      = Ideal.sqrt (-Ideal.expm1 (Ideal.ofBits .f32 0x40000000#32 * l (ix3 T b ch))) * i (ix3 T b ch) * xc (ix2 (LruBwdSpec.row T b) ch) := by
  unfold LruBwdSpec.row
  pointwise [inputs]
  rfl

variable (m : (ℓ : Loc nD τ sig) → Buf (Elt Ideal) ℓ) (c : Dev nD)

/-- The gates' input of the arguments. -/
def gate0 : FVec Ideal S2304x16x16x160 .f32 :=
  pre (m ((c : Thread nD τ).loc main_arg0)) (m ((c : Thread nD τ).loc main_arg5)) (m ((c : Thread nD τ).loc main_arg6))

theorem logA_eq (T : Fin 2304) (b : Fin 16) (ch : Fin 1280) : logs (gate0 m c) (m ((c : Thread nD τ).loc main_arg7)) (ix3 T b ch)
    = LruBwdSpec.logA (m ((c : Thread nD τ).loc main_arg0)) (m ((c : Thread nD τ).loc main_arg5)) (m ((c : Thread nD τ).loc main_arg6))
        (m ((c : Thread nD τ).loc main_arg7)) (LruBwdSpec.row T b) ch := by
  refine (logs_at _ _ T b ch).trans ?_
  unfold gate0
  rw [pre_at]
  rfl

theorem igate_eq (T : Fin 2304) (b : Fin 16) (ch : Fin 1280) : gates (gate0 m c) (ix3 T b ch)
    = LruBwdSpec.igate (m ((c : Thread nD τ).loc main_arg0)) (m ((c : Thread nD τ).loc main_arg5)) (m ((c : Thread nD τ).loc main_arg6))
        (LruBwdSpec.row T b) ch := by
  refine (gates_at _ T b ch).trans ?_
  unfold gate0
  rw [pre_at]
  rfl

theorem entry_0 : (entryContents preI m c (Proc.devRef .tc main_v38_0) : FVec Ideal S2304x16x1280 .f32)
    = Host.exp (logs (gate0 m c) (m ((c : Thread nD τ).loc main_arg7))) := by
  simp only [entryContents, afterL_cons, afterL_nil]
  after_reads_simp
  rfl

theorem entry_1 : (entryContents preI m c (Proc.devRef .tc main_v38_1) : FVec Ideal S2304x16x1280 .f32)
    = inputs (m ((c : Thread nD τ).loc main_arg0)) (logs (gate0 m c) (m ((c : Thread nD τ).loc main_arg7))) (gates (gate0 m c)) := by
  simp only [entryContents, afterL_cons, afterL_nil]
  after_reads_simp
  rfl

/-- The loop's coefficients are the specification's. -/
theorem decay_at (T : Fin 2304) (b : Fin 16) (ch : Fin 1280) :
    (entryContents preI m c (Proc.devRef .tc main_v38_0) : FVec Ideal S2304x16x1280 .f32) (ix3 T b ch)
      = LruBwdSpec.decay (m ((c : Thread nD τ).loc main_arg0)) (m ((c : Thread nD τ).loc main_arg5)) (m ((c : Thread nD τ).loc main_arg6))
        (m ((c : Thread nD τ).loc main_arg7)) (LruBwdSpec.row T b) ch :=
  (congrFun (entry_0 m c) (ix3 T b ch)).trans (congrArg Ideal.exp (logA_eq m c T b ch))

theorem input_at (T : Fin 2304) (b : Fin 16) (ch : Fin 1280) :
    (entryContents preI m c (Proc.devRef .tc main_v38_1) : FVec Ideal S2304x16x1280 .f32) (ix3 T b ch)
      = LruBwdSpec.input (m ((c : Thread nD τ).loc main_arg0)) (m ((c : Thread nD τ).loc main_arg5)) (m ((c : Thread nD τ).loc main_arg6))
        (m ((c : Thread nD τ).loc main_arg7)) (LruBwdSpec.row T b) ch := by
  refine (congrFun (entry_1 m c) (ix3 T b ch)).trans ((inputs_at _ _ _ T b ch).trans ?_)
  rw [logA_eq, igate_eq]
  rfl

end Cert.LruBwdReferenceIdeal.Out
end
-- ==== Proof.LruBwdRef.lean ====
/- The backward recurrence's reference: its result is the specification's. -/
module

public import proofs.«01_k».proof.Proof.Gen.LruBwdReferenceIdeal.Run
public import proofs.«01_k».proof.Proof.LruBwdLoop
public import proofs.«01_k».proof.Proof.LruBwdEntry
public import proofs.«01_k».proof.Proof.LruBwdGates
public import proofs.«01_k».proof.Proof.AttnOutRef
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
namespace Cert.LruBwdReferenceIdeal.Out

open Cert.LruBwdReferenceIdeal Cert.LruBwdReferenceIdeal.Gen Cert.LruBwdReferenceIdeal.Value
open Idealize.ShloMosaic.StableHlo

set_option maxHeartbeats 1600000

/-- The projection of the two directions' sum, gated. -/
def proj (hf : FVec Ideal S36864x1280 .f32) (ys : FVec Ideal S2304x16x1280 .f32) (gt : FVec Ideal S36864x1280 .f32) (w : FVec Ideal S1280x1024 .f32) :
    FVec Ideal S2304x16x1024 .f32 :=
  shapeCast S2304x16x1024 (Host.dotGeneral dot_S36864x1280_S1280x1024_S36864x1024_1_0_0_1_n_n none
    (mulf (addf hf (shapeCast S36864x1280 ys shapeCasts_S2304x16x1280_S36864x1280)) gt) w) shapeCasts_S36864x1024_S2304x16x1024

theorem proj_at (hf : FVec Ideal S36864x1280 .f32) (ys : FVec Ideal S2304x16x1280 .f32) (gt : FVec Ideal S36864x1280 .f32) (w : FVec Ideal S1280x1024 .f32)
    (R : Fin 36864) (j : Fin 1024) : proj hf ys gt w (ix3 (AttnOutSpec.tok R) (ModSpec.seq R) j)
      = ∑ ch : Fin 1280, (hf (ix2 R ch) + ys (ix3 (AttnOutSpec.tok R) (ModSpec.seq R) ch)) * gt (ix2 R ch) * w (ix2 ch j) := by
  have h : ∀ (T : Fin 2304) (b : Fin 16), proj hf ys gt w (ix3 T b j)
      = ∑ ch : Fin 1280, (hf (ix2 (LruBwdSpec.row T b) ch) + ys (ix3 T b ch)) * gt (ix2 (LruBwdSpec.row T b) ch) * w (ix2 ch j) := by
    intro T b
    unfold LruBwdSpec.row
    pointwise [proj]
  have hR : LruBwdSpec.row (AttnOutSpec.tok R) (ModSpec.seq R) = R := Fin.ext (by show R.val / 16 * 16 + R.val % 16 = R.val; omega)
  rw [h, hR]

/-- What the operations after the loop make. -/
theorem out_form (V0 : Valuation τ sig (Elt Ideal)) (hf gt : FVec Ideal S36864x1280 .f32) (ys : FVec Ideal S2304x16x1280 .f32) (x : FVec Ideal S36864x1024 .f32)
    (g1 : FVec Ideal S2x16x1024 .f32) (w : FVec Ideal S1280x1024 .f32) (lg lb : FVec Ideal S1024 .f32)
    (h1 : V0 (Proc.devRef .tc main_arg1) = hf) (h2 : V0 (Proc.devRef .tc main_arg2) = gt) (h3 : V0 (Proc.devRef .tc main_arg3) = x)
    (h4 : V0 (Proc.devRef .tc main_arg4) = g1) (h8 : V0 (Proc.devRef .tc main_arg8) = w) (h9 : V0 (Proc.devRef .tc main_arg9) = lg)
    (h10 : V0 (Proc.devRef .tc main_arg10) = lb) (hy : V0 (Proc.devRef .tc main_v38_5) = ys) :
    out_main_v84 V0 = AttnOutReferenceIdeal.Out.layerNorm (AttnOutReferenceIdeal.Out.resid x (AttnOutReferenceIdeal.Out.gated g1 (proj hf ys gt w))) lg lb := by
  unfold out_main_v84
  rw [h1, h2, h3, h4, h8, h9, h10, hy]
  rfl

variable (m : (ℓ : Loc nD τ sig) → Buf (Elt Ideal) ℓ) (c : Dev nD)

/-- The state after `k` trips. -/
theorem iter_4 (b : Fin 16) (ch : Fin 1280) : ∀ k ≤ 2304, ((STEP^[k] (entryContents preI m c)) (Proc.devRef .tc main_v38_4) : FVec Ideal S16x1280 .f32) (ix2 b ch)
    = LruBwdSpec.state (m ((c : Thread nD τ).loc main_arg0)) (m ((c : Thread nD τ).loc main_arg5)) (m ((c : Thread nD τ).loc main_arg6))
        (m ((c : Thread nD τ).loc main_arg7)) b ch k
  | 0, _ => entry_4 m c (ix2 b ch)
  | k + 1, hk => by
    have h := state_step (STEP^[k] (entryContents preI m c)) ⟨k, hk⟩ (iter_3 m c k) _ _ _ (iter_0 m c k) (iter_1 m c k) rfl b ch
    rw [iter_4 b ch k (by omega), decay_at, input_at] at h
    rw [Function.iterate_succ_apply', STEP_main_v38_4]
    exact h

/-- The rows written after `k` trips. -/
theorem iter_5 (T : Fin 2304) (b : Fin 16) (ch : Fin 1280) : ∀ k ≤ 2304, 2304 ≤ T.val + k →
    ((STEP^[k] (entryContents preI m c)) (Proc.devRef .tc main_v38_5) : FVec Ideal S2304x16x1280 .f32) (ix3 T b ch)
    = LruBwdSpec.state (m ((c : Thread nD τ).loc main_arg0)) (m ((c : Thread nD τ).loc main_arg5)) (m ((c : Thread nD τ).loc main_arg6))
        (m ((c : Thread nD τ).loc main_arg7)) b ch (2304 - T.val)
  | 0, _, hT => absurd hT (by omega)
  | k + 1, hk, hT => by
    have h := store_step (STEP^[k] (entryContents preI m c)) ⟨k, hk⟩ (iter_3 m c k) _ rfl T b ch
    have h4 := iter_4 m c b ch (k + 1) hk
    rw [Function.iterate_succ_apply', STEP_main_v38_4] at h4
    rw [Function.iterate_succ_apply', STEP_main_v38_5]
    refine h.trans ?_
    by_cases e : T.val = 2303 - k
    · have e' : 2304 - T.val = k + 1 := by omega
      rw [e', if_pos e]
      exact h4
    · rw [if_neg e]
      exact iter_5 T b ch k (by omega) (by omega)

/-- The reference's result is the specification's. -/
theorem out_eq : out_main_v84 (STEP^[2304] (entryContents preI m c))
    = LruBwdSpec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  have h5 := fun T b ch => iter_5 m c T b ch 2304 le_rfl (by omega)
  rw [out_form _ _ _ _ _ _ _ _ _ (iter_main_arg1 m c 2304) (iter_main_arg2 m c 2304) (iter_main_arg3 m c 2304) (iter_main_arg4 m c 2304)
    (iter_main_arg8 m c 2304) (iter_main_arg9 m c 2304) (iter_main_arg10 m c 2304) rfl]
  generalize (STEP^[2304] (entryContents preI m c)) (Proc.devRef .tc main_v38_5) = ys at h5 ⊢
  funext i
  rw [eq_ix2 i]
  refine (AttnOutReferenceIdeal.Out.layerNorm_at _ _ _ _ _).trans (congrArg (fun v => AttnOutSpec.layerNorm v _ _ (i 1)) (funext fun e => ?_))
  refine (AttnOutReferenceIdeal.Out.resid_at _ _ _ _).trans (congrArg (fun z : EReal => _ + z)
    ((AttnOutReferenceIdeal.Out.gated_at _ _ _ _).trans (congrArg (fun z : EReal => _ * z) ((proj_at _ _ _ _ _ _).trans ?_))))
  exact Finset.sum_congr rfl fun ch _ => congrArg (fun z : EReal => (_ + z) * _ * _) (h5 _ _ ch)

/-- The reference's run: its result is the specification's array, its arguments are left alone. -/
theorem run (ρ : Dev nD → PrngReg) :
    θ_run defs (onTc (τ := τ) (main (F := Ideal))) ⟨m, fun _ => 0, ρ⟩ fun r => ∀ c : Dev nD,
      r.2.mem ((c.tc : Thread nD τ).loc main_v84)
        = LruBwdSpec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (out_eq m c), (h c).2⟩) (Value.run m ρ)

end Cert.LruBwdReferenceIdeal.Out
end
-- ==== Proof.lean ====
/- The certificate's claims about the layer's calls: every program runs and leaves its arguments as they were, and each
   kernel's results are its reference's (the attentions' for finite queries and keys). -/
module

public import proofs.«01_k».proof.Proof.Gen.KernelIdeal.Value
public import proofs.«01_k».proof.Proof.Gen.ReferenceIdeal.Run
public import proofs.«01_k».proof.Defs
public import proofs.«01_k».proof.Proof.Gen.Pre_finite_qk
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastReferenceIdeal
public import proofs.«01_k».proof.Proof.Gen.LastReferenceIdeal.Run
public import proofs.«01_k».proof.Proof.Gen.LruIn
public import proofs.«01_k».proof.Proof.Gen.LruIn.Frame
public import proofs.«01_k».proof.Proof.Gen.LruInIdeal
public import proofs.«01_k».proof.Proof.Gen.LruInIdeal.Frame
public import proofs.«01_k».proof.Proof.Gen.LruInIdeal.Value
public import proofs.«01_k».proof.Proof.Gen.LruInReferenceIdeal
public import proofs.«01_k».proof.Proof.Gen.LruInReferenceIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvReferenceIdeal
public import proofs.«01_k».proof.Proof.Gen.QkvReferenceIdeal.Run
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Gen.OutLast
public import proofs.«01_k».proof.Proof.Gen.OutLast.Frame
public import proofs.«01_k».proof.Proof.Gen.OutLastIdeal
public import proofs.«01_k».proof.Proof.Gen.OutLastIdeal.Frame
public import proofs.«01_k».proof.Proof.Gen.OutLastIdeal.Value
public import proofs.«01_k».proof.Proof.Gen.OutLastReferenceIdeal
public import proofs.«01_k».proof.Proof.Gen.OutLastReferenceIdeal.Run
public import proofs.«01_k».proof.Proof.Gen.LruBwd
public import proofs.«01_k».proof.Proof.Gen.LruBwd.Frame
public import proofs.«01_k».proof.Proof.Gen.LruBwdIdeal
public import proofs.«01_k».proof.Proof.Gen.LruBwdIdeal.Frame
public import proofs.«01_k».proof.Proof.Gen.LruBwdIdeal.Value
public import proofs.«01_k».proof.Proof.Gen.LruBwdReferenceIdeal
public import proofs.«01_k».proof.Proof.Gen.LruBwdReferenceIdeal.Run
public import proofs.«01_k».proof.Proof.AttnKernel
public import proofs.«01_k».proof.Proof.AttnRef
public import proofs.«01_k».proof.Proof.AttnPre
public import proofs.«01_k».proof.Proof.LastKernel
public import proofs.«01_k».proof.Proof.LastRef
public import proofs.«01_k».proof.Proof.LruInKernel
public import proofs.«01_k».proof.Proof.LruInRef
public import proofs.«01_k».proof.Proof.QkvFinal
public import proofs.«01_k».proof.Proof.QkvRef
public import proofs.«01_k».proof.Proof.AttnOutKernel
public import proofs.«01_k».proof.Proof.AttnOutRef
public import proofs.«01_k».proof.Proof.OutLastKernel
public import proofs.«01_k».proof.Proof.OutLastRef
public import proofs.«01_k».proof.Proof.LruBwdKernel
public import proofs.«01_k».proof.Proof.LruBwdRef

@[expose] public section

noncomputable section

namespace Cert.Proof

open Idealize.ShloMosaic Idealize.SL.Sem

/-- Attention of the layer between the two recurrent ones: the kernel's result is the reference's, for finite queries and keys. -/
theorem attn : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hag
  refine ⟨_, (θ_run _ _ _).mono (fun _ h c => ⟨(h c).1.trans (Cert.KernelIdeal.Attn.final m c), (h c).2⟩) (Cert.KernelIdeal.Value.run_blocks m g),
    (θ_run _ _ _).mono (fun _ h c => ⟨(h c).1.trans ?_, (h c).2⟩) (Cert.ReferenceIdeal.Value.run m' g')⟩
  obtain ⟨hQ, hK⟩ := AttnPre.real_of_pre _ _ _ (hpre c)
  obtain ⟨e0, e1, e2⟩ := hag c
  rw [Cert.ReferenceIdeal.Attn.res_eq, e0, e1, e2]
  exact Cert.ReferenceIdeal.Attn.REF_eq _ _ _ hQ hK

/-- Attention of the last layer, the latent tokens alone: the same. -/
theorem last : Cert.algebraic_LastIdeal_LastReferenceIdeal_pre_finite_qk (hLastIdeal := Cert.LastIdeal.Gen.facts)
    (hLastReferenceIdeal := Cert.LastReferenceIdeal.Gen.facts) (hPre_finite_qk := Cert.Pre_finite_qk.Gen.facts) := by
  intro m g m' g' hpre hag
  refine ⟨_, (θ_run _ _ _).mono (fun _ h c => ⟨(h c).1.trans (Cert.LastIdeal.Attn.final m c), (h c).2⟩) (Cert.LastIdeal.Value.run_blocks m g),
    (θ_run _ _ _).mono (fun _ h c => ⟨(h c).1.trans ?_, (h c).2⟩) (Cert.LastReferenceIdeal.Attn.run m' g')⟩
  obtain ⟨hQ, hK⟩ := AttnPre.real_of_pre _ _ _ (hpre c)
  obtain ⟨e0, e1, e2⟩ := hag c
  rw [e0, e1, e2]
  exact Cert.LastReferenceIdeal.Attn.latent_eq _ _ _ hQ hK

/-- The recurrent layers' input projections: both results. -/
theorem lruIn : Cert.algebraic_LruInIdeal_LruInReferenceIdeal (hLruInIdeal := Cert.LruInIdeal.Gen.facts)
    (hLruInReferenceIdeal := Cert.LruInReferenceIdeal.Gen.facts) := by
  intro m g m' g' _ hag
  refine ⟨_, _, (θ_run _ _ _).mono (fun _ h c => ⟨(h c).1.trans (Cert.LruInIdeal.Lru.final4 m c), (h c).2.1.trans (Cert.LruInIdeal.Lru.final5 m c),
      (h c).2.2⟩) (Cert.LruInIdeal.Value.run_blocks m g),
    (θ_run _ _ _).mono (fun _ h c => ⟨(h c).1.trans ?_, (h c).2.1.trans ?_, (h c).2.2⟩) (Cert.LruInReferenceIdeal.Lru.run m' g')⟩ <;>
  · obtain ⟨e0, e1, e2, e3⟩ := hag c
    rw [e0, e1, e2, e3]

/-- The attention layers' projections: the queries, the keys and the values. -/
theorem qkv : Cert.algebraic_QkvIdeal_QkvReferenceIdeal (hQkvIdeal := Cert.QkvIdeal.Gen.facts)
    (hQkvReferenceIdeal := Cert.QkvReferenceIdeal.Gen.facts) := by
  intro m g m' g' _ hag
  refine ⟨_, _, _, Cert.QkvIdeal.Qkv.run m g,
    (θ_run _ _ _).mono (fun _ h c => ⟨(h c).1.trans ?_, (h c).2.1.trans ?_, (h c).2.2.1.trans ?_, (h c).2.2.2⟩)
      (Cert.QkvReferenceIdeal.Qkv.run m' g')⟩ <;> obtain ⟨e0, e1, e2, e3, e4, e5, e6, e7⟩ := hag c
  · rw [e0, e1, e2, e3, e4, e5, e6]
  · rw [e0, e1, e2, e3, e4, e5, e7]
  · rw [e0, e1, e2, e3]

/-- The attention layer's output projection, residual sum and normalisation. -/
theorem attnOut : Cert.algebraic_AttnOutIdeal_AttnOutReferenceIdeal (hAttnOutIdeal := Cert.AttnOutIdeal.Gen.facts)
    (hAttnOutReferenceIdeal := Cert.AttnOutReferenceIdeal.Gen.facts) := by
  intro m g m' g' _ hag
  refine ⟨_, (θ_run _ _ _).mono (fun _ h c => ⟨(h c).1.trans (Cert.AttnOutIdeal.Out.final m c), (h c).2⟩) (Cert.AttnOutIdeal.Value.run_blocks m g),
    (θ_run _ _ _).mono (fun _ h c => ⟨(h c).1.trans ?_, (h c).2⟩) (Cert.AttnOutReferenceIdeal.Out.run m' g')⟩
  obtain ⟨e0, e1, e2, e3, e4, e5⟩ := hag c
  rw [e0, e1, e2, e3, e4, e5]

/-- The last layer's, of the latent rows alone. -/
theorem outLast : Cert.algebraic_OutLastIdeal_OutLastReferenceIdeal (hOutLastIdeal := Cert.OutLastIdeal.Gen.facts)
    (hOutLastReferenceIdeal := Cert.OutLastReferenceIdeal.Gen.facts) := by
  intro m g m' g' _ hag
  refine ⟨_, (θ_run _ _ _).mono (fun _ h c => ⟨(h c).1.trans (Cert.OutLastIdeal.Out.final m c), (h c).2⟩) (Cert.OutLastIdeal.Value.run_blocks m g),
    (θ_run _ _ _).mono (fun _ h c => ⟨(h c).1.trans ?_, (h c).2⟩) (Cert.OutLastReferenceIdeal.Out.run m' g')⟩
  obtain ⟨e0, e1, e2, e3, e4, e5⟩ := hag c
  rw [e0, e1, e2, e3, e4, e5]

/-- The recurrent layers' backward recurrence, gates, output projection, residual sum and normalisation. -/
theorem lruBwd : Cert.algebraic_LruBwdIdeal_LruBwdReferenceIdeal (hLruBwdIdeal := Cert.LruBwdIdeal.Gen.facts)
    (hLruBwdReferenceIdeal := Cert.LruBwdReferenceIdeal.Gen.facts) := by
  intro m g m' g' _ hag
  refine ⟨_, (θ_run _ _ _).mono (fun _ h c => ⟨(h c).1.trans (Cert.LruBwdIdeal.Out.final m c), (h c).2⟩) (Cert.LruBwdIdeal.Value.run_blocks m g),
    (θ_run _ _ _).mono (fun _ h c => ⟨(h c).1.trans ?_, (h c).2⟩) (Cert.LruBwdReferenceIdeal.Out.run m' g')⟩
  obtain ⟨e0, e1, e2, e3, e4, e5, e6, e7, e8, e9, e10⟩ := hag c
  rw [e0, e1, e2, e3, e4, e5, e6, e7, e8, e9, e10]

/-- The first reference runs and leaves its arguments as they were, with every semaphore counter at zero. -/
theorem frame_attn : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- So does the last layer's attention's, -/
theorem frame_last : Cert.quiescent_LastReferenceIdeal (hLastReferenceIdeal := Cert.LastReferenceIdeal.Gen.facts) := fun m g _ =>
  (θ_run _ _ _).mono (fun r h => ⟨fun c => (h c).2, sem_eq_zero_of_no_sems (by decide) r.2⟩) (Cert.LastReferenceIdeal.Value.run m g)

/-- the recurrent layers' projections', -/
theorem frame_lruIn : Cert.quiescent_LruInReferenceIdeal (hLruInReferenceIdeal := Cert.LruInReferenceIdeal.Gen.facts) := fun m g _ =>
  (θ_run _ _ _).mono (fun r h => ⟨fun c => (h c).2.2, sem_eq_zero_of_no_sems (by decide) r.2⟩) (Cert.LruInReferenceIdeal.Value.run m g)

/-- the attention layers' projections', -/
theorem frame_qkv : Cert.quiescent_QkvReferenceIdeal (hQkvReferenceIdeal := Cert.QkvReferenceIdeal.Gen.facts) := fun m g _ =>
  (θ_run _ _ _).mono (fun r h => ⟨fun c => (h c).2.2.2, sem_eq_zero_of_no_sems (by decide) r.2⟩) (Cert.QkvReferenceIdeal.Value.run m g)

/-- the output projection's, -/
theorem frame_attnOut : Cert.quiescent_AttnOutReferenceIdeal (hAttnOutReferenceIdeal := Cert.AttnOutReferenceIdeal.Gen.facts) := fun m g _ =>
  (θ_run _ _ _).mono (fun r h => ⟨fun c => (h c).2, sem_eq_zero_of_no_sems (by decide) r.2⟩) (Cert.AttnOutReferenceIdeal.Value.run m g)

/-- the last layer's, -/
theorem frame_outLast : Cert.quiescent_OutLastReferenceIdeal (hOutLastReferenceIdeal := Cert.OutLastReferenceIdeal.Gen.facts) := fun m g _ =>
  (θ_run _ _ _).mono (fun r h => ⟨fun c => (h c).2, sem_eq_zero_of_no_sems (by decide) r.2⟩) (Cert.OutLastReferenceIdeal.Value.run m g)

/-- and the backward recurrence's. -/
theorem frame_lruBwd : Cert.quiescent_LruBwdReferenceIdeal (hLruBwdReferenceIdeal := Cert.LruBwdReferenceIdeal.Gen.facts) := fun m g _ =>
  (θ_run _ _ _).mono (fun r h => ⟨fun c => (h c).2, sem_eq_zero_of_no_sems (by decide) r.2⟩) (Cert.LruBwdReferenceIdeal.Value.run m g)

theorem claim : Cert.Claim :=
  ⟨Cert.Kernel.Gen.facts, Cert.KernelIdeal.Gen.facts, Cert.ReferenceIdeal.Gen.facts,
    Cert.Last.Gen.facts, Cert.LastIdeal.Gen.facts, Cert.LastReferenceIdeal.Gen.facts,
    Cert.LruIn.Gen.facts, Cert.LruInIdeal.Gen.facts, Cert.LruInReferenceIdeal.Gen.facts,
    Cert.Qkv.Gen.facts, Cert.QkvIdeal.Gen.facts, Cert.QkvReferenceIdeal.Gen.facts,
    Cert.AttnOut.Gen.facts, Cert.AttnOutIdeal.Gen.facts, Cert.AttnOutReferenceIdeal.Gen.facts,
    Cert.OutLast.Gen.facts, Cert.OutLastIdeal.Gen.facts, Cert.OutLastReferenceIdeal.Gen.facts,
    Cert.LruBwd.Gen.facts, Cert.LruBwdIdeal.Gen.facts, Cert.LruBwdReferenceIdeal.Gen.facts, Cert.Pre_finite_qk.Gen.facts,
    fun m g _ => Cert.Kernel.Gen.frame m g, fun m g _ => Cert.KernelIdeal.Gen.frame m g, fun m g _ => Cert.KernelIdeal.Gen.frame m g,
    frame_attn, fun m g _ => frame_attn m g trivial,
    fun m g _ => Cert.Last.Gen.frame m g, fun m g _ => Cert.LastIdeal.Gen.frame m g, fun m g _ => Cert.LastIdeal.Gen.frame m g,
    frame_last, fun m g _ => frame_last m g trivial,
    fun m g _ => Cert.LruIn.Gen.frame m g, fun m g _ => Cert.LruInIdeal.Gen.frame m g, frame_lruIn,
    fun m g _ => Cert.Qkv.Gen.frame m g, fun m g _ => Cert.QkvIdeal.Gen.frame m g, frame_qkv,
    fun m g _ => Cert.AttnOut.Gen.frame m g, fun m g _ => Cert.AttnOutIdeal.Gen.frame m g, frame_attnOut,
    fun m g _ => Cert.OutLast.Gen.frame m g, fun m g _ => Cert.OutLastIdeal.Gen.frame m g, frame_outLast,
    fun m g _ => Cert.LruBwd.Gen.frame m g, fun m g _ => Cert.LruBwdIdeal.Gen.frame m g, frame_lruBwd,
    trivial, attn, trivial, last, trivial, lruIn, trivial, qkv, trivial, attnOut, trivial, outLast, trivial, lruBwd⟩

end Cert.Proof

end
